-- ==== Defs.lean ====
def Pre_First [hPre_ids_in_table : Cert.Pre_ids_in_table.Facts] (m : (ℓ : Loc Cert.First.nD Cert.First.τ Cert.First.sig) → Buf (Elt Bits) ℓ) : Prop :=
  ∀ c : Dev Cert.First.nD,
    (Cert.Pre_ids_in_table.fn (F := Bits) (m ((c.tc : Thread Cert.First.nD Cert.First.τ).loc Cert.First.main_arg0)) (m ((c.tc : Thread Cert.First.nD Cert.First.τ).loc Cert.First.main_arg1)) (m ((c.tc : Thread Cert.First.nD Cert.First.τ).loc Cert.First.main_arg2)) (m ((c.tc : Thread Cert.First.nD Cert.First.τ).loc Cert.First.main_arg3)) (m ((c.tc : Thread Cert.First.nD Cert.First.τ).loc Cert.First.main_arg4)) (m ((c.tc : Thread Cert.First.nD Cert.First.τ).loc Cert.First.main_arg5)) (m ((c.tc : Thread Cert.First.nD Cert.First.τ).loc Cert.First.main_arg6)) (m ((c.tc : Thread Cert.First.nD Cert.First.τ).loc Cert.First.main_arg7)) (m ((c.tc : Thread Cert.First.nD Cert.First.τ).loc Cert.First.main_arg8)) (m ((c.tc : Thread Cert.First.nD Cert.First.τ).loc Cert.First.main_arg9)) (m ((c.tc : Thread Cert.First.nD Cert.First.τ).loc Cert.First.main_arg10))) = (fun _ => 1#1)

def Pre_FirstIdeal [hPre_ids_in_table : Cert.Pre_ids_in_table.Facts] (m : (ℓ : Loc Cert.FirstIdeal.nD Cert.FirstIdeal.τ Cert.FirstIdeal.sig) → Buf (Elt Ideal) ℓ) : Prop :=
  ∀ c : Dev Cert.FirstIdeal.nD,
    (Cert.Pre_ids_in_table.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7)) (m ((c.tc : Thread Cert.FirstIdeal.nD Cert.FirstIdeal.τ).loc Cert.FirstIdeal.main_arg8)) (m ((c.tc : Thread Cert.FirstIdeal.nD Cert.FirstIdeal.τ).loc Cert.FirstIdeal.main_arg9)) (m ((c.tc : Thread Cert.FirstIdeal.nD Cert.FirstIdeal.τ).loc Cert.FirstIdeal.main_arg10))) = (fun _ => 1#1)

def Pre_FirstReferenceIdeal (m : (ℓ : Loc Cert.FirstReferenceIdeal.nD Cert.FirstReferenceIdeal.τ Cert.FirstReferenceIdeal.sig) → Buf (Elt Ideal) ℓ) : Prop :=
  True

def Pre_FirstReferenceIdeal_ids_in_table [hPre_ids_in_table : Cert.Pre_ids_in_table.Facts] (m : (ℓ : Loc Cert.FirstReferenceIdeal.nD Cert.FirstReferenceIdeal.τ Cert.FirstReferenceIdeal.sig) → Buf (Elt Ideal) ℓ) : Prop :=
  ∀ c : Dev Cert.FirstReferenceIdeal.nD,
    (Cert.Pre_ids_in_table.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6)) (m ((c.tc : Thread Cert.FirstReferenceIdeal.nD Cert.FirstReferenceIdeal.τ).loc Cert.FirstReferenceIdeal.main_arg7)) (m ((c.tc : Thread Cert.FirstReferenceIdeal.nD Cert.FirstReferenceIdeal.τ).loc Cert.FirstReferenceIdeal.main_arg8)) (m ((c.tc : Thread Cert.FirstReferenceIdeal.nD Cert.FirstReferenceIdeal.τ).loc Cert.FirstReferenceIdeal.main_arg9)) (m ((c.tc : Thread Cert.FirstReferenceIdeal.nD Cert.FirstReferenceIdeal.τ).loc Cert.FirstReferenceIdeal.main_arg10))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionReferenceIdeal (m : (ℓ : Loc Cert.AttentionReferenceIdeal.nD Cert.AttentionReferenceIdeal.τ Cert.AttentionReferenceIdeal.sig) → Buf (Elt Ideal) ℓ) : Prop :=
  True

def quiescent_First [hFirst : Cert.First.Facts] [hPre_ids_in_table : Cert.Pre_ids_in_table.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8)
      ∧ r.2.mem ((c.tc : Thread Cert.First.nD Cert.First.τ).loc Cert.First.main_arg9) = m ((c.tc : Thread Cert.First.nD Cert.First.τ).loc Cert.First.main_arg9)
      ∧ r.2.mem ((c.tc : Thread Cert.First.nD Cert.First.τ).loc Cert.First.main_arg10) = m ((c.tc : Thread Cert.First.nD Cert.First.τ).loc Cert.First.main_arg10))
      ∧ r.2.sem = fun _ => 0)

def quiescent_FirstIdeal [hFirstIdeal : Cert.FirstIdeal.Facts] [hPre_ids_in_table : Cert.Pre_ids_in_table.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
      ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
      ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8)
      ∧ r.2.mem ((c.tc : Thread Cert.FirstReferenceIdeal.nD Cert.FirstReferenceIdeal.τ).loc Cert.FirstReferenceIdeal.main_arg9) = m ((c.tc : Thread Cert.FirstReferenceIdeal.nD Cert.FirstReferenceIdeal.τ).loc Cert.FirstReferenceIdeal.main_arg9)
      ∧ r.2.mem ((c.tc : Thread Cert.FirstReferenceIdeal.nD Cert.FirstReferenceIdeal.τ).loc Cert.FirstReferenceIdeal.main_arg10) = m ((c.tc : Thread Cert.FirstReferenceIdeal.nD Cert.FirstReferenceIdeal.τ).loc Cert.FirstReferenceIdeal.main_arg10))
      ∧ r.2.sem = fun _ => 0)

def quiescent_FirstReferenceIdeal_pre_ids_in_table [hFirstReferenceIdeal : Cert.FirstReferenceIdeal.Facts] [hPre_ids_in_table : Cert.Pre_ids_in_table.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal_ids_in_table m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8)
      ∧ r.2.mem ((c.tc : Thread Cert.FirstReferenceIdeal.nD Cert.FirstReferenceIdeal.τ).loc Cert.FirstReferenceIdeal.main_arg9) = m ((c.tc : Thread Cert.FirstReferenceIdeal.nD Cert.FirstReferenceIdeal.τ).loc Cert.FirstReferenceIdeal.main_arg9)
      ∧ r.2.mem ((c.tc : Thread Cert.FirstReferenceIdeal.nD Cert.FirstReferenceIdeal.τ).loc Cert.FirstReferenceIdeal.main_arg10) = m ((c.tc : Thread Cert.FirstReferenceIdeal.nD Cert.FirstReferenceIdeal.τ).loc Cert.FirstReferenceIdeal.main_arg10))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1))
      ∧ r.2.sem = fun _ => 0)

def preserves_First_FirstIdeal : Prop :=
  True

def algebraic_FirstIdeal_FirstReferenceIdeal [hFirstIdeal : Cert.FirstIdeal.Facts] [hFirstReferenceIdeal : Cert.FirstReferenceIdeal.Facts] [hPre_ids_in_table : Cert.Pre_ids_in_table.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)
      ∧ m' ((c.tc : Thread Cert.FirstReferenceIdeal.nD Cert.FirstReferenceIdeal.τ).loc Cert.FirstReferenceIdeal.main_arg7) = m ((c.tc : Thread Cert.FirstIdeal.nD Cert.FirstIdeal.τ).loc Cert.FirstIdeal.main_arg7)
      ∧ m' ((c.tc : Thread Cert.FirstReferenceIdeal.nD Cert.FirstReferenceIdeal.τ).loc Cert.FirstReferenceIdeal.main_arg8) = m ((c.tc : Thread Cert.FirstIdeal.nD Cert.FirstIdeal.τ).loc Cert.FirstIdeal.main_arg8)
      ∧ m' ((c.tc : Thread Cert.FirstReferenceIdeal.nD Cert.FirstReferenceIdeal.τ).loc Cert.FirstReferenceIdeal.main_arg9) = m ((c.tc : Thread Cert.FirstIdeal.nD Cert.FirstIdeal.τ).loc Cert.FirstIdeal.main_arg9)
      ∧ m' ((c.tc : Thread Cert.FirstReferenceIdeal.nD Cert.FirstReferenceIdeal.τ).loc Cert.FirstReferenceIdeal.main_arg10) = m ((c.tc : Thread Cert.FirstIdeal.nD Cert.FirstIdeal.τ).loc Cert.FirstIdeal.main_arg10)) →
    ∃ (v0 : (c : Dev Cert.FirstIdeal.nD) → Buf (Elt Ideal) ((c.tc : Thread Cert.FirstIdeal.nD Cert.FirstIdeal.τ).loc Cert.FirstIdeal.main_v43)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v43) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
          ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
          ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v33_7) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6)
          ∧ r.2.mem ((c.tc : Thread Cert.FirstReferenceIdeal.nD Cert.FirstReferenceIdeal.τ).loc Cert.FirstReferenceIdeal.main_arg7) = m' ((c.tc : Thread Cert.FirstReferenceIdeal.nD Cert.FirstReferenceIdeal.τ).loc Cert.FirstReferenceIdeal.main_arg7)
          ∧ r.2.mem ((c.tc : Thread Cert.FirstReferenceIdeal.nD Cert.FirstReferenceIdeal.τ).loc Cert.FirstReferenceIdeal.main_arg8) = m' ((c.tc : Thread Cert.FirstReferenceIdeal.nD Cert.FirstReferenceIdeal.τ).loc Cert.FirstReferenceIdeal.main_arg8)
          ∧ r.2.mem ((c.tc : Thread Cert.FirstReferenceIdeal.nD Cert.FirstReferenceIdeal.τ).loc Cert.FirstReferenceIdeal.main_arg9) = m' ((c.tc : Thread Cert.FirstReferenceIdeal.nD Cert.FirstReferenceIdeal.τ).loc Cert.FirstReferenceIdeal.main_arg9)
          ∧ r.2.mem ((c.tc : Thread Cert.FirstReferenceIdeal.nD Cert.FirstReferenceIdeal.τ).loc Cert.FirstReferenceIdeal.main_arg10) = m' ((c.tc : Thread Cert.FirstReferenceIdeal.nD Cert.FirstReferenceIdeal.τ).loc Cert.FirstReferenceIdeal.main_arg10))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Attention_AttentionIdeal : Prop :=
  True

def algebraic_AttentionIdeal_AttentionReferenceIdeal [hAttentionIdeal : Cert.AttentionIdeal.Facts] [hAttentionReferenceIdeal : Cert.AttentionReferenceIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)) →
    ∃ (v0 : (c : Dev Cert.AttentionIdeal.nD) → Buf (Elt Ideal) ((c.tc : Thread Cert.AttentionIdeal.nD Cert.AttentionIdeal.τ).loc Cert.AttentionIdeal.main_v12)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v12) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v21) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1))

def Claim : Prop :=
  ∃ (hFirst : Cert.First.Facts) (hFirstIdeal : Cert.FirstIdeal.Facts) (hFirstReferenceIdeal : Cert.FirstReferenceIdeal.Facts) (hKernel : Cert.Kernel.Facts) (hKernelIdeal : Cert.KernelIdeal.Facts) (hReferenceIdeal : Cert.ReferenceIdeal.Facts) (hAttention : Cert.Attention.Facts) (hAttentionIdeal : Cert.AttentionIdeal.Facts) (hAttentionReferenceIdeal : Cert.AttentionReferenceIdeal.Facts) (hPre_ids_in_table : Cert.Pre_ids_in_table.Facts),
    quiescent_First (hFirst := hFirst) (hPre_ids_in_table := hPre_ids_in_table)
    ∧ quiescent_FirstIdeal (hFirstIdeal := hFirstIdeal) (hPre_ids_in_table := hPre_ids_in_table)
    ∧ quiescent_FirstReferenceIdeal (hFirstReferenceIdeal := hFirstReferenceIdeal)
    ∧ quiescent_FirstReferenceIdeal_pre_ids_in_table (hFirstReferenceIdeal := hFirstReferenceIdeal) (hPre_ids_in_table := hPre_ids_in_table)
    ∧ quiescent_Kernel (hKernel := hKernel)
    ∧ quiescent_KernelIdeal (hKernelIdeal := hKernelIdeal)
    ∧ quiescent_ReferenceIdeal (hReferenceIdeal := hReferenceIdeal)
    ∧ quiescent_Attention (hAttention := hAttention)
    ∧ quiescent_AttentionIdeal (hAttentionIdeal := hAttentionIdeal)
    ∧ quiescent_AttentionReferenceIdeal (hAttentionReferenceIdeal := hAttentionReferenceIdeal)
    ∧ preserves_First_FirstIdeal
    ∧ algebraic_FirstIdeal_FirstReferenceIdeal (hFirstIdeal := hFirstIdeal) (hFirstReferenceIdeal := hFirstReferenceIdeal) (hPre_ids_in_table := hPre_ids_in_table)
    ∧ preserves_Kernel_KernelIdeal
    ∧ algebraic_KernelIdeal_ReferenceIdeal (hKernelIdeal := hKernelIdeal) (hReferenceIdeal := hReferenceIdeal)
    ∧ preserves_Attention_AttentionIdeal
    ∧ algebraic_AttentionIdeal_AttentionReferenceIdeal (hAttentionIdeal := hAttentionIdeal) (hAttentionReferenceIdeal := hAttentionReferenceIdeal)
-- ==== Pre_ids_in_table.lean ====
abbrev S1300000x224 : Shape := ⟨2, ![1300000, 224]⟩
abbrev S1300000 : Shape := ⟨1, ![1300000]⟩
abbrev S240x512 : Shape := ⟨2, ![240, 512]⟩
abbrev S240 : Shape := ⟨1, ![240]⟩
abbrev S240x128 : Shape := ⟨2, ![240, 128]⟩
abbrev S224x3x96 : Shape := ⟨3, ![224, 3, 96]⟩
abbrev S3x96 : Shape := ⟨2, ![3, 96]⟩
abbrev S96x3x96 : Shape := ⟨3, ![96, 3, 96]⟩
abbrev S_ : Shape := ⟨0, ![]⟩

class Facts : Prop where
  bcast_S_S240x512 : S_.BroadcastsInDim S240x512 (![] : Fin 0 → Fin S240x512.rank)

variable [Facts]

def fn {F : FTy → Type} [FloatOps F] (main_arg0 : IVec S1300000x224 8) (main_arg1 : FVec F S1300000 .f32) (main_arg2 : IVec S240x512 32) (main_arg3 : IVec S240 32) (main_arg4 : FVec F S240x128 .f32) (main_arg5 : FVec F S224x3x96 .bf16) (main_arg6 : FVec F S3x96 .f32) (main_arg7 : FVec F S96x3x96 .bf16) (main_arg8 : FVec F S3x96 .f32) (main_arg9 : FVec F S3x96 .f32) (main_arg10 : FVec F S3x96 .f32) : IVec S240x512 1 :=
  let main_c : IVec S_ 32 := constantI S_ 32 0#32
  let main_v0 : IVec S240x512 32 := broadcastInDim S240x512 ![] bcast_S_S240x512 main_c
  let main_v1 : IVec S240x512 1 := cmpi .sge main_arg2 main_v0
  let main_c_0 : IVec S_ 32 := constantI S_ 32 1300000#32
  let main_v2 : IVec S240x512 32 := broadcastInDim S240x512 ![] bcast_S_S240x512 main_c_0
  let main_v3 : IVec S240x512 1 := cmpi .slt main_arg2 main_v2
  let main_v4 : IVec S240x512 1 := andi main_v1 main_v3
  main_v4
-- ==== First.lean ====
abbrev S1300000x224 : Shape := ⟨2, ![1300000, 224]⟩
abbrev S1300000 : Shape := ⟨1, ![1300000]⟩
abbrev S240x512 : Shape := ⟨2, ![240, 512]⟩
abbrev S240 : Shape := ⟨1, ![240]⟩
abbrev S240x128 : Shape := ⟨2, ![240, 128]⟩
abbrev S224x3x96 : Shape := ⟨3, ![224, 3, 96]⟩
abbrev S3x96 : Shape := ⟨2, ![3, 96]⟩
abbrev S96x3x96 : Shape := ⟨3, ![96, 3, 96]⟩
abbrev S512x240 : Shape := ⟨2, ![512, 240]⟩
abbrev S_ : Shape := ⟨0, ![]⟩
abbrev S512x240x1 : Shape := ⟨3, ![512, 240, 1]⟩
abbrev S512 : Shape := ⟨1, ![512]⟩
abbrev S512x1 : Shape := ⟨2, ![512, 1]⟩
abbrev S1x240 : Shape := ⟨2, ![1, 240]⟩
abbrev S224x3x128 : Shape := ⟨3, ![224, 3, 128]⟩
abbrev S224x384 : Shape := ⟨2, ![224, 384]⟩
abbrev S325000x4x224 : Shape := ⟨3, ![325000, 4, 224]⟩
abbrev S325000x224x4 : Shape := ⟨3, ![325000, 224, 4]⟩
abbrev S325000x224 : Shape := ⟨2, ![325000, 224]⟩
abbrev S512x1x240 : Shape := ⟨3, ![512, 1, 240]⟩
abbrev S3x128 : Shape := ⟨2, ![3, 128]⟩
abbrev S1x384 : Shape := ⟨2, ![1, 384]⟩
abbrev S96x3x128 : Shape := ⟨3, ![96, 3, 128]⟩
abbrev S96x384 : Shape := ⟨2, ![96, 384]⟩
abbrev S128x384 : Shape := ⟨2, ![128, 384]⟩
abbrev S512x240x128 : Shape := ⟨3, ![512, 240, 128]⟩
abbrev S1x1x240 : Shape := ⟨3, ![1, 1, 240]⟩
abbrev S1x240x1 : Shape := ⟨3, ![1, 240, 1]⟩
abbrev S1x240x128 : Shape := ⟨3, ![1, 240, 128]⟩
abbrev S240x224 : Shape := ⟨2, ![240, 224]⟩
abbrev S1x1x1 : Shape := ⟨3, ![1, 1, 1]⟩
abbrev S1x224 : Shape := ⟨2, ![1, 224]⟩
abbrev S240x1 : Shape := ⟨2, ![240, 1]⟩
abbrev S240x384 : Shape := ⟨2, ![240, 384]⟩
abbrev S240x96 : Shape := ⟨2, ![240, 96]⟩

abbrev nBuf : Space → Nat
  | .hbm => 97
  | .vmem => 20
  | .smem => 2
  | _ => 0

abbrev bufTy : (tb : Table) → Fin (tcTables nBuf tb) → BufTy
  | .hbm, ⟨0, _⟩ => ⟨S1300000x224, .i8⟩
  | .hbm, ⟨1, _⟩ => ⟨S1300000, .f32⟩
  | .hbm, ⟨2, _⟩ => ⟨S240x512, .i32⟩
  | .hbm, ⟨3, _⟩ => ⟨S240, .i32⟩
  | .hbm, ⟨4, _⟩ => ⟨S240x128, .f32⟩
  | .hbm, ⟨5, _⟩ => ⟨S224x3x96, .bf16⟩
  | .hbm, ⟨6, _⟩ => ⟨S3x96, .f32⟩
  | .hbm, ⟨7, _⟩ => ⟨S96x3x96, .bf16⟩
  | .hbm, ⟨8, _⟩ => ⟨S3x96, .f32⟩
  | .hbm, ⟨9, _⟩ => ⟨S3x96, .f32⟩
  | .hbm, ⟨10, _⟩ => ⟨S3x96, .f32⟩
  | .hbm, ⟨11, _⟩ => ⟨S512x240, .i32⟩
  | .hbm, ⟨12, _⟩ => ⟨S_, .i32⟩
  | .hbm, ⟨13, _⟩ => ⟨S512x240, .i32⟩
  | .hbm, ⟨14, _⟩ => ⟨S512x240, .i1⟩
  | .hbm, ⟨15, _⟩ => ⟨S_, .i32⟩
  | .hbm, ⟨16, _⟩ => ⟨S512x240, .i32⟩
  | .hbm, ⟨17, _⟩ => ⟨S512x240, .i32⟩
  | .hbm, ⟨18, _⟩ => ⟨S512x240, .i32⟩
  | .hbm, ⟨19, _⟩ => ⟨S512x240x1, .i32⟩
  | .hbm, ⟨20, _⟩ => ⟨S512x240, .f32⟩
  | .hbm, ⟨21, _⟩ => ⟨S512x240x1, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S512x240, .i32⟩
  | .hbm, ⟨29, _⟩ => ⟨S512x240, .i32⟩
  | .hbm, ⟨30, _⟩ => ⟨S_, .i32⟩
  | .hbm, ⟨31, _⟩ => ⟨S512x240, .i32⟩
  | .hbm, ⟨32, _⟩ => ⟨S512x240, .i1⟩
  | .hbm, ⟨33, _⟩ => ⟨S_, .i32⟩
  | .hbm, ⟨34, _⟩ => ⟨S512x240, .i32⟩
  | .hbm, ⟨35, _⟩ => ⟨S512x240, .i1⟩
  | .hbm, ⟨36, _⟩ => ⟨S_, .i32⟩
  | .hbm, ⟨37, _⟩ => ⟨S_, .i1⟩
  | .hbm, ⟨38, _⟩ => ⟨S512x240, .i1⟩
  | .hbm, ⟨39, _⟩ => ⟨S512x240, .i1⟩
  | .hbm, ⟨40, _⟩ => ⟨S512x240, .i1⟩
  | .hbm, ⟨41, _⟩ => ⟨S512x240, .i32⟩
  | .hbm, ⟨42, _⟩ => ⟨S512x240, .i32⟩
  | .hbm, ⟨43, _⟩ => ⟨S512x240, .i32⟩
  | .hbm, ⟨44, _⟩ => ⟨S_, .i32⟩
  | .hbm, ⟨45, _⟩ => ⟨S512x240, .i32⟩
  | .hbm, ⟨46, _⟩ => ⟨S512x240, .i32⟩
  | .hbm, ⟨47, _⟩ => ⟨S_, .i32⟩
  | .hbm, ⟨48, _⟩ => ⟨S512x240, .i32⟩
  | .hbm, ⟨49, _⟩ => ⟨S512x240, .i32⟩
  | .hbm, ⟨50, _⟩ => ⟨S512x240x1, .i32⟩
  | .hbm, ⟨51, _⟩ => ⟨S_, .i32⟩
  | .hbm, ⟨52, _⟩ => ⟨S240, .i32⟩
  | .hbm, ⟨53, _⟩ => ⟨S240, .i32⟩
  | .hbm, ⟨54, _⟩ => ⟨S512, .i32⟩
  | .hbm, ⟨55, _⟩ => ⟨S512x1, .i32⟩
  | .hbm, ⟨56, _⟩ => ⟨S1x240, .i32⟩
  | .hbm, ⟨57, _⟩ => ⟨S512x240, .i32⟩
  | .hbm, ⟨58, _⟩ => ⟨S512x240, .i32⟩
  | .hbm, ⟨59, _⟩ => ⟨S512x240, .i1⟩
  | .hbm, ⟨60, _⟩ => ⟨S512x240, .f32⟩
  | .hbm, ⟨61, _⟩ => ⟨S_, .i32⟩
  | .hbm, ⟨62, _⟩ => ⟨S_, .bf16⟩
  | .hbm, ⟨63, _⟩ => ⟨S224x3x128, .bf16⟩
  | .hbm, ⟨64, _⟩ => ⟨S224x384, .bf16⟩
  | .hbm, ⟨65, _⟩ => ⟨S325000x4x224, .i8⟩
  | .hbm, ⟨66, _⟩ => ⟨S325000x224x4, .i8⟩
  | .hbm, ⟨67, _⟩ => ⟨S325000x224, .i32⟩
  | .hbm, ⟨68, _⟩ => ⟨S512x1x240, .i32⟩
  | .hbm, ⟨69, _⟩ => ⟨S512x240x1, .f32⟩
  | .hbm, ⟨70, _⟩ => ⟨S_, .i32⟩
  | .hbm, ⟨71, _⟩ => ⟨S_, .f32⟩
  | .hbm, ⟨72, _⟩ => ⟨S3x128, .f32⟩
  | .hbm, ⟨73, _⟩ => ⟨S1x384, .f32⟩
  | .hbm, ⟨74, _⟩ => ⟨S_, .i32⟩
  | .hbm, ⟨75, _⟩ => ⟨S_, .f32⟩
  | .hbm, ⟨76, _⟩ => ⟨S3x128, .f32⟩
  | .hbm, ⟨77, _⟩ => ⟨S1x384, .f32⟩
  | .hbm, ⟨78, _⟩ => ⟨S_, .i32⟩
  | .hbm, ⟨79, _⟩ => ⟨S_, .bf16⟩
  | .hbm, ⟨80, _⟩ => ⟨S96x3x128, .bf16⟩
  | .hbm, ⟨81, _⟩ => ⟨S96x384, .bf16⟩
  | .hbm, ⟨82, _⟩ => ⟨S_, .i32⟩
  | .hbm, ⟨83, _⟩ => ⟨S_, .bf16⟩
  | .hbm, ⟨84, _⟩ => ⟨S128x384, .bf16⟩
  | .hbm, ⟨85, _⟩ => ⟨S_, .i32⟩
  | .hbm, ⟨86, _⟩ => ⟨S_, .f32⟩
  | .hbm, ⟨87, _⟩ => ⟨S3x128, .f32⟩
  | .hbm, ⟨88, _⟩ => ⟨S1x384, .f32⟩
  | .hbm, ⟨89, _⟩ => ⟨S_, .i32⟩
  | .hbm, ⟨90, _⟩ => ⟨S_, .f32⟩
  | .hbm, ⟨91, _⟩ => ⟨S3x128, .f32⟩
  | .hbm, ⟨92, _⟩ => ⟨S1x384, .f32⟩
  | .hbm, ⟨93, _⟩ => ⟨S512x240x128, .bf16⟩
  | .hbm, ⟨94, _⟩ => ⟨S512x240x1, .f32⟩
  | .hbm, ⟨95, _⟩ => ⟨S240x128, .f32⟩
  | .hbm, ⟨96, _⟩ => ⟨S240x96, .f32⟩
  | .local _ .vmem, ⟨0, _⟩ => ⟨S1x240x1, .i32⟩
  | .local _ .vmem, ⟨1, _⟩ => ⟨S1x240x1, .i32⟩
  | .local _ .vmem, ⟨2, _⟩ => ⟨S1x240x1, .f32⟩
  | .local _ .vmem, ⟨3, _⟩ => ⟨S1x240x1, .f32⟩
  | .local _ .vmem, ⟨4, _⟩ => ⟨S1x240x1, .f32⟩
  | .local _ .vmem, ⟨5, _⟩ => ⟨S1x240x1, .f32⟩
  | .local _ .vmem, ⟨6, _⟩ => ⟨S240x128, .f32⟩
  | .local _ .vmem, ⟨7, _⟩ => ⟨S224x384, .bf16⟩
  | .local _ .vmem, ⟨8, _⟩ => ⟨S1x384, .f32⟩
  | .local _ .vmem, ⟨9, _⟩ => ⟨S1x384, .f32⟩
  | .local _ .vmem, ⟨10, _⟩ => ⟨S128x384, .bf16⟩
  | .local _ .vmem, ⟨11, _⟩ => ⟨S1x384, .f32⟩
  | .local _ .vmem, ⟨12, _⟩ => ⟨S1x384, .f32⟩
  | .local _ .vmem, ⟨13, _⟩ => ⟨S1x240x128, .bf16⟩
  | .local _ .vmem, ⟨14, _⟩ => ⟨S1x240x128, .bf16⟩
  | .local _ .vmem, ⟨15, _⟩ => ⟨S1x240x1, .f32⟩
  | .local _ .vmem, ⟨16, _⟩ => ⟨S1x240x1, .f32⟩
  | .local _ .vmem, ⟨17, _⟩ => ⟨S240x128, .f32⟩
  | .local _ .vmem, ⟨18, _⟩ => ⟨S240x224, .i32⟩
  | .local _ .vmem, ⟨19, _⟩ => ⟨S240x128, .f32⟩
  | .local _ .smem, ⟨0, _⟩ => ⟨S1x1x240, .i32⟩
  | .local _ .smem, ⟨1, _⟩ => ⟨S1x1x240, .i32⟩
  | _, _ => ⟨S1300000x224, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v9 : Ref sig .tc := ⟨.hbm, 43, rfl⟩
abbrev main_c_2 : Ref sig .tc := ⟨.hbm, 44, rfl⟩
abbrev main_v10 : Ref sig .tc := ⟨.hbm, 45, rfl⟩
abbrev main_v11 : Ref sig .tc := ⟨.hbm, 46, rfl⟩
abbrev main_c_3 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_c_4 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_5 : Ref sig .tc := ⟨.hbm, 61, rfl⟩
abbrev main_call1_v0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_c_6 : Ref sig .tc := ⟨.hbm, 70, rfl⟩
abbrev main_call2_v0 : Ref sig .tc := ⟨.hbm, 71, rfl⟩
abbrev main_v31 : Ref sig .tc := ⟨.hbm, 72, rfl⟩
abbrev main_v32 : Ref sig .tc := ⟨.hbm, 73, rfl⟩
abbrev main_c_7 : Ref sig .tc := ⟨.hbm, 74, rfl⟩
abbrev main_call3_v0 : Ref sig .tc := ⟨.hbm, 75, rfl⟩
abbrev main_v33 : Ref sig .tc := ⟨.hbm, 76, rfl⟩
abbrev main_v34 : Ref sig .tc := ⟨.hbm, 77, rfl⟩
abbrev main_c_8 : Ref sig .tc := ⟨.hbm, 78, rfl⟩
abbrev main_call4_v0 : Ref sig .tc := ⟨.hbm, 79, rfl⟩
abbrev main_v35 : Ref sig .tc := ⟨.hbm, 80, rfl⟩
abbrev main_v36 : Ref sig .tc := ⟨.hbm, 81, rfl⟩
abbrev main_c_9 : Ref sig .tc := ⟨.hbm, 82, rfl⟩
abbrev main_call5_v0 : Ref sig .tc := ⟨.hbm, 83, rfl⟩
abbrev main_v37 : Ref sig .tc := ⟨.hbm, 84, rfl⟩
abbrev main_c_10 : Ref sig .tc := ⟨.hbm, 85, rfl⟩
abbrev main_call6_v0 : Ref sig .tc := ⟨.hbm, 86, rfl⟩
abbrev main_v38 : Ref sig .tc := ⟨.hbm, 87, rfl⟩
abbrev main_v39 : Ref sig .tc := ⟨.hbm, 88, rfl⟩
abbrev main_c_11 : Ref sig .tc := ⟨.hbm, 89, rfl⟩
abbrev main_call7_v0 : Ref sig .tc := ⟨.hbm, 90, rfl⟩
abbrev main_v40 : Ref sig .tc := ⟨.hbm, 91, rfl⟩
abbrev main_v41 : Ref sig .tc := ⟨.hbm, 92, rfl⟩
abbrev main_v42_0 : Ref sig .tc := ⟨.hbm, 93, rfl⟩
abbrev main_v42_1 : Ref sig .tc := ⟨.hbm, 94, rfl⟩
abbrev main_v42_2 : Ref sig .tc := ⟨.hbm, 95, rfl⟩
abbrev main_v43 : Ref sig .tc := ⟨.hbm, 96, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![512], ![false]⟩

@[reducible] def k0_t1_loop : Scf.Loop 32 :=
  let c0_i32_1 : BitVec 32 := 0#32
  let c240_i32 : BitVec 32 := 240#32
  let v3 : BitVec 32 := Scalar.addi c0_i32_1 c240_i32
  let c1_i32 : BitVec 32 := 1#32
  ⟨c0_i32_1, v3, c1_i32⟩
def k0_off1 (k0_t1 : Fin k0_t1_loop.trips) : Fin 3 → Nat :=
  let c0_45 : Index := 0#32
  let c0_46 : Index := 0#32
  let c0_i32_1 : BitVec 32 := 0#32
  let c1_i32 : BitVec 32 := 1#32
  let arg19 : BitVec 32 := Scf.iv c0_i32_1 c1_i32 k0_t1
  let v79 : Index := Scalar.indexCast arg19
  ![0, 0, v79.toNat]
def k0_off2 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let c0_i32_53 : BitVec 32 := 0#32
  ![arg19.toNat, 0]
def k0_off3 (v80 : BitVec 32) : Fin 2 → Nat :=
  let c0_i32_47 : BitVec 32 := 0#32
  let v82 : BitVec 1 := Scalar.cmpi .sgt v80 c0_i32_47
  let v83 : BitVec 32 := Scalar.extui v82
  let c0_i32_48 : BitVec 32 := 0#32
  let v84 : BitVec 1 := Scalar.cmpi .slt v80 c0_i32_48
  let v85 : BitVec 32 := Scalar.extui v84
  let v86 : BitVec 32 := Scalar.subi v83 v85
  let c4_i32 : BitVec 32 := 4#32
  let c0_i32_49 : BitVec 32 := 0#32
  let v87 : BitVec 1 := Scalar.cmpi .sgt c4_i32 c0_i32_49
  let v88 : BitVec 32 := Scalar.extui v87
  let c0_i32_50 : BitVec 32 := 0#32
  let v89 : BitVec 1 := Scalar.cmpi .slt c4_i32 c0_i32_50
  let v90 : BitVec 32 := Scalar.extui v89
  let v91 : BitVec 32 := Scalar.subi v88 v90
  let v92 : BitVec 1 := Scalar.cmpi .ne v86 v91
  let v93 : BitVec 32 := Scalar.remsi v80 c4_i32
  let c0_i32_51 : BitVec 32 := 0#32
  let v94 : BitVec 1 := Scalar.cmpi .ne v93 c0_i32_51
  let v95 : BitVec 1 := Scalar.andi v92 v94
  let v81 : BitVec 32 := Scalar.divsi v80 c4_i32
  let c1_i32_52 : BitVec 32 := 1#32
  let v96 : BitVec 32 := Scalar.subi v81 c1_i32_52
  let v97 : BitVec 32 := Scalar.select v95 v96 v81
  let c0_i32_54 : BitVec 32 := 0#32
  ![v97.toNat, 0]

def k0_chk1 (v80 : BitVec 32) : Prop :=
  (∀ a, (k0_off3 v80) a + S1x224.size a ≤ S325000x224.size a)
theorem k0_off3_inb : ∀ (v80 : BitVec 32) (k0_hw1 : k0_chk1 v80), ∀ a, (k0_off3 v80) a + S1x224.size a ≤ S325000x224.size a := fun v80 k0_hw1 => k0_hw1

@[reducible] def k0_t2_loop : Scf.Loop 32 :=
  let c0_i32_3 : BitVec 32 := 0#32
  let c240_i32_4 : BitVec 32 := 240#32
  let v4 : BitVec 32 := Scalar.addi c0_i32_3 c240_i32_4
  let c1_i32_5 : BitVec 32 := 1#32
  ⟨c0_i32_3, v4, c1_i32_5⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x1x240 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x240x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x240x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x240x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S240x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S224x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x240x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x240x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S240x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FirstReferenceIdeal.lean ====
abbrev S1300000x224 : Shape := ⟨2, ![1300000, 224]⟩
abbrev S1300000 : Shape := ⟨1, ![1300000]⟩
abbrev S240x512 : Shape := ⟨2, ![240, 512]⟩
abbrev S240 : Shape := ⟨1, ![240]⟩
abbrev S240x128 : Shape := ⟨2, ![240, 128]⟩
abbrev S224x3x96 : Shape := ⟨3, ![224, 3, 96]⟩
abbrev S3x96 : Shape := ⟨2, ![3, 96]⟩
abbrev S96x3x96 : Shape := ⟨3, ![96, 3, 96]⟩
abbrev S_ : Shape := ⟨0, ![]⟩
abbrev S240x512x1 : Shape := ⟨3, ![240, 512, 1]⟩
abbrev S240x512x224 : Shape := ⟨3, ![240, 512, 224]⟩
abbrev S3x96x240x512 : Shape := ⟨4, ![3, 96, 240, 512]⟩
abbrev S512x3x240x96 : Shape := ⟨4, ![512, 3, 240, 96]⟩
abbrev S512x240 : Shape := ⟨2, ![512, 240]⟩
abbrev S512x1x240x1 : Shape := ⟨4, ![512, 1, 240, 1]⟩
abbrev S1x3x1x96 : Shape := ⟨4, ![1, 3, 1, 96]⟩
abbrev S240x96 : Shape := ⟨2, ![240, 96]⟩
abbrev S512 : Shape := ⟨1, ![512]⟩
abbrev S1x3x240x96 : Shape := ⟨4, ![1, 3, 240, 96]⟩
abbrev S3x240x96 : Shape := ⟨3, ![3, 240, 96]⟩
abbrev S1 : Shape := ⟨1, ![1]⟩
abbrev S3x96x240 : Shape := ⟨3, ![3, 96, 240]⟩
abbrev S3x1x96 : Shape := ⟨3, ![3, 1, 96]⟩
abbrev S1x240x96 : Shape := ⟨3, ![1, 240, 96]⟩
abbrev S240x1 : Shape := ⟨2, ![240, 1]⟩

abbrev nBuf : Space → Nat
  | .hbm => 123
  | .vmem => 0
  | .smem => 0
  | _ => 0

abbrev bufTy : (tb : Table) → Fin (tcTables nBuf tb) → BufTy
  | .hbm, ⟨0, _⟩ => ⟨S1300000x224, .i8⟩
  | .hbm, ⟨1, _⟩ => ⟨S1300000, .f32⟩
  | .hbm, ⟨2, _⟩ => ⟨S240x512, .i32⟩
  | .hbm, ⟨3, _⟩ => ⟨S240, .i32⟩
  | .hbm, ⟨4, _⟩ => ⟨S240x128, .f32⟩
  | .hbm, ⟨5, _⟩ => ⟨S224x3x96, .bf16⟩
  | .hbm, ⟨6, _⟩ => ⟨S3x96, .f32⟩
  | .hbm, ⟨7, _⟩ => ⟨S96x3x96, .bf16⟩
  | .hbm, ⟨8, _⟩ => ⟨S3x96, .f32⟩
  | .hbm, ⟨9, _⟩ => ⟨S3x96, .f32⟩
  | .hbm, ⟨10, _⟩ => ⟨S3x96, .f32⟩
  | .hbm, ⟨11, _⟩ => ⟨S_, .i32⟩
  | .hbm, ⟨12, _⟩ => ⟨S240x512, .i32⟩
  | .hbm, ⟨13, _⟩ => ⟨S240x512, .i1⟩
  | .hbm, ⟨14, _⟩ => ⟨S_, .i32⟩
  | .hbm, ⟨15, _⟩ => ⟨S240x512, .i32⟩
  | .hbm, ⟨16, _⟩ => ⟨S240x512, .i32⟩
  | .hbm, ⟨17, _⟩ => ⟨S240x512, .i32⟩
  | .hbm, ⟨18, _⟩ => ⟨S240x512x1, .i32⟩
  | .hbm, ⟨19, _⟩ => ⟨S240x512x224, .i8⟩
  | .hbm, ⟨20, _⟩ => ⟨S_, .i32⟩
  | .hbm, ⟨21, _⟩ => ⟨S240x512, .i32⟩
  | .hbm, ⟨22, _⟩ => ⟨S240x512, .i1⟩
  | .hbm, ⟨23, _⟩ => ⟨S_, .i32⟩
  | .hbm, ⟨24, _⟩ => ⟨S240x512, .i32⟩
  | .hbm, ⟨25, _⟩ => ⟨S240x512, .i32⟩
  | .hbm, ⟨26, _⟩ => ⟨S240x512, .i32⟩
  | .hbm, ⟨27, _⟩ => ⟨S240x512x1, .i32⟩
  | .hbm, ⟨28, _⟩ => ⟨S240x512, .f32⟩
  | .hbm, ⟨29, _⟩ => ⟨S240x512x224, .i32⟩
  | .hbm, ⟨30, _⟩ => ⟨S240x512x224, .f32⟩
  | .hbm, ⟨31, _⟩ => ⟨S240x512x224, .bf16⟩
  | .hbm, ⟨32, _⟩ => ⟨S3x96x240x512, .f32⟩
  | .hbm, ⟨33, _⟩ => ⟨S512x3x240x96, .f32⟩
  | .hbm, ⟨34, _⟩ => ⟨S512x240, .f32⟩
  | .hbm, ⟨35, _⟩ => ⟨S512x1x240x1, .f32⟩
  | .hbm, ⟨36, _⟩ => ⟨S512x3x240x96, .f32⟩
  | .hbm, ⟨37, _⟩ => ⟨S512x3x240x96, .f32⟩
  | .hbm, ⟨38, _⟩ => ⟨S1x3x1x96, .f32⟩
  | .hbm, ⟨39, _⟩ => ⟨S512x3x240x96, .f32⟩
  | .hbm, ⟨40, _⟩ => ⟨S512x3x240x96, .f32⟩
  | .hbm, ⟨41, _⟩ => ⟨S1x3x1x96, .f32⟩
  | .hbm, ⟨42, _⟩ => ⟨S512x3x240x96, .f32⟩
  | .hbm, ⟨43, _⟩ => ⟨S512x3x240x96, .f32⟩
  | .hbm, ⟨44, _⟩ => ⟨S_, .i32⟩
  | .hbm, ⟨45, _⟩ => ⟨S240, .i32⟩
  | .hbm, ⟨46, _⟩ => ⟨S240, .i32⟩
  | .hbm, ⟨47, _⟩ => ⟨S_, .f32⟩
  | .hbm, ⟨48, _⟩ => ⟨S240x96, .f32⟩
  | .hbm, ⟨49, _⟩ => ⟨S512, .i32⟩
  | .hbm, ⟨50, _⟩ => ⟨S_, .i32⟩
  | .hbm, ⟨51, _⟩ => ⟨S512x3x240x96, .f32⟩
  | .hbm, ⟨52, _⟩ => ⟨S512, .i32⟩
  | .hbm, ⟨53, _⟩ => ⟨S96x3x96, .bf16⟩
  | .hbm, ⟨54, _⟩ => ⟨S3x96, .f32⟩
  | .hbm, ⟨55, _⟩ => ⟨S3x96, .f32⟩
  | .hbm, ⟨56, _⟩ => ⟨S240, .i32⟩
  | .hbm, ⟨57, _⟩ => ⟨S_, .i32⟩
  | .hbm, ⟨58, _⟩ => ⟨S240x96, .f32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x3x240x96, .f32⟩
  | .hbm, ⟨65, _⟩ => ⟨S3x240x96, .f32⟩
  | .hbm, ⟨66, _⟩ => ⟨S1, .i32⟩
  | .hbm, ⟨67, _⟩ => ⟨S_, .i32⟩
  | .hbm, ⟨68, _⟩ => ⟨S240x96, .bf16⟩
  | .hbm, ⟨69, _⟩ => ⟨S3x96x240, .f32⟩
  | .hbm, ⟨70, _⟩ => ⟨S3x240x96, .f32⟩
  | .hbm, ⟨71, _⟩ => ⟨S3x1x96, .f32⟩
  | .hbm, ⟨72, _⟩ => ⟨S3x240x96, .f32⟩
  | .hbm, ⟨73, _⟩ => ⟨S3x240x96, .f32⟩
  | .hbm, ⟨74, _⟩ => ⟨S3x1x96, .f32⟩
  | .hbm, ⟨75, _⟩ => ⟨S3x240x96, .f32⟩
  | .hbm, ⟨76, _⟩ => ⟨S3x240x96, .f32⟩
  | .hbm, ⟨77, _⟩ => ⟨S1x240x96, .f32⟩
  | .hbm, ⟨78, _⟩ => ⟨S240x96, .f32⟩
  | .hbm, ⟨79, _⟩ => ⟨S1x240x96, .f32⟩
  | .hbm, ⟨80, _⟩ => ⟨S240x96, .f32⟩
  | .hbm, ⟨81, _⟩ => ⟨S240x96, .f32⟩
  | .hbm, ⟨82, _⟩ => ⟨S240x96, .f32⟩
  | .hbm, ⟨83, _⟩ => ⟨S240x96, .f32⟩
  | .hbm, ⟨84, _⟩ => ⟨S_, .f32⟩
  | .hbm, ⟨85, _⟩ => ⟨S240x96, .f32⟩
  | .hbm, ⟨86, _⟩ => ⟨S240x96, .f32⟩
  | .hbm, ⟨87, _⟩ => ⟨S_, .f32⟩
  | .hbm, ⟨88, _⟩ => ⟨S240x96, .f32⟩
  | .hbm, ⟨89, _⟩ => ⟨S240x96, .f32⟩
  | .hbm, ⟨90, _⟩ => ⟨S1x240x96, .f32⟩
  | .hbm, ⟨91, _⟩ => ⟨S240x96, .f32⟩
  | .hbm, ⟨92, _⟩ => ⟨S1x240x96, .f32⟩
  | .hbm, ⟨93, _⟩ => ⟨S240x96, .f32⟩
  | .hbm, ⟨94, _⟩ => ⟨S240x96, .f32⟩
  | .hbm, ⟨95, _⟩ => ⟨S240x96, .f32⟩
  | .hbm, ⟨96, _⟩ => ⟨S240x96, .f32⟩
  | .hbm, ⟨97, _⟩ => ⟨S_, .f32⟩
  | .hbm, ⟨98, _⟩ => ⟨S240x96, .f32⟩
  | .hbm, ⟨99, _⟩ => ⟨S240x96, .f32⟩
  | .hbm, ⟨100, _⟩ => ⟨S_, .f32⟩
  | .hbm, ⟨101, _⟩ => ⟨S240x96, .f32⟩
  | .hbm, ⟨102, _⟩ => ⟨S240x96, .f32⟩
  | .hbm, ⟨103, _⟩ => ⟨S1x240x96, .f32⟩
  | .hbm, ⟨104, _⟩ => ⟨S240x96, .f32⟩
  | .hbm, ⟨105, _⟩ => ⟨S1x240x96, .f32⟩
  | .hbm, ⟨106, _⟩ => ⟨S240x96, .f32⟩
  | .hbm, ⟨107, _⟩ => ⟨S240x96, .f32⟩
  | .hbm, ⟨108, _⟩ => ⟨S240x96, .f32⟩
  | .hbm, ⟨109, _⟩ => ⟨S240x96, .f32⟩
  | .hbm, ⟨110, _⟩ => ⟨S_, .f32⟩
  | .hbm, ⟨111, _⟩ => ⟨S240x96, .f32⟩
  | .hbm, ⟨112, _⟩ => ⟨S240x96, .f32⟩
  | .hbm, ⟨113, _⟩ => ⟨S240x96, .f32⟩
  | .hbm, ⟨114, _⟩ => ⟨S240x96, .f32⟩
  | .hbm, ⟨115, _⟩ => ⟨S240x96, .f32⟩
  | .hbm, ⟨116, _⟩ => ⟨S240, .i32⟩
  | .hbm, ⟨117, _⟩ => ⟨S240, .i1⟩
  | .hbm, ⟨118, _⟩ => ⟨S240x1, .i1⟩
  | .hbm, ⟨119, _⟩ => ⟨S240x96, .i1⟩
  | .hbm, ⟨120, _⟩ => ⟨S240x96, .f32⟩
  | .hbm, ⟨121, _⟩ => ⟨S_, .i32⟩
  | .hbm, ⟨122, _⟩ => ⟨S_, .i32⟩
  | _, _ => ⟨S1300000x224, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33_0 : Ref sig .tc := ⟨.hbm, 51, rfl⟩
abbrev main_v33_1 : Ref sig .tc := ⟨.hbm, 52, rfl⟩
abbrev main_v33_2 : Ref sig .tc := ⟨.hbm, 53, rfl⟩
abbrev main_v33_3 : Ref sig .tc := ⟨.hbm, 54, rfl⟩
abbrev main_v33_4 : Ref sig .tc := ⟨.hbm, 55, rfl⟩
abbrev main_v33_5 : Ref sig .tc := ⟨.hbm, 56, rfl⟩
abbrev main_v33_6 : Ref sig .tc := ⟨.hbm, 57, rfl⟩
abbrev main_v33_7 : Ref sig .tc := ⟨.hbm, 58, rfl⟩
abbrev main_while0c_c_12 : Ref sig .tc := ⟨.hbm, 59, rfl⟩
abbrev main_while0c_v34 : Ref sig .tc := ⟨.hbm, 60, rfl⟩
abbrev main_while0b_call0_c : Ref sig .tc := ⟨.hbm, 61, rfl⟩
abbrev main_while0b_call0_c_0 : Ref sig .tc := ⟨.hbm, 62, rfl⟩
abbrev main_while0b_call0_c_1 : Ref sig .tc := ⟨.hbm, 63, rfl⟩
abbrev main_while0b_call0_v0 : Ref sig .tc := ⟨.hbm, 64, rfl⟩
abbrev main_while0b_v34 : Ref sig .tc := ⟨.hbm, 65, rfl⟩
abbrev main_while0b_call1_v0 : Ref sig .tc := ⟨.hbm, 66, rfl⟩
abbrev main_while0b_v35 : Ref sig .tc := ⟨.hbm, 67, rfl⟩
abbrev main_while0b_v36 : Ref sig .tc := ⟨.hbm, 68, rfl⟩
abbrev main_while0b_v37 : Ref sig .tc := ⟨.hbm, 69, rfl⟩
abbrev main_while0b_v38 : Ref sig .tc := ⟨.hbm, 70, rfl⟩
abbrev main_while0b_v39 : Ref sig .tc := ⟨.hbm, 71, rfl⟩
abbrev main_while0b_v40 : Ref sig .tc := ⟨.hbm, 72, rfl⟩
abbrev main_while0b_v41 : Ref sig .tc := ⟨.hbm, 73, rfl⟩
abbrev main_while0b_v42 : Ref sig .tc := ⟨.hbm, 74, rfl⟩
abbrev main_while0b_v43 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_cst_12 : Ref sig .tc := ⟨.hbm, 84, rfl⟩
abbrev main_while0b_v52 : Ref sig .tc := ⟨.hbm, 85, rfl⟩
abbrev main_while0b_v53 : Ref sig .tc := ⟨.hbm, 86, rfl⟩
abbrev main_while0b_cst_13 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_cst_14 : Ref sig .tc := ⟨.hbm, 97, rfl⟩
abbrev main_while0b_v63 : Ref sig .tc := ⟨.hbm, 98, rfl⟩
abbrev main_while0b_v64 : Ref sig .tc := ⟨.hbm, 99, rfl⟩
abbrev main_while0b_cst_15 : Ref sig .tc := ⟨.hbm, 100, rfl⟩
abbrev main_while0b_v65 : Ref sig .tc := ⟨.hbm, 101, rfl⟩
abbrev main_while0b_v66 : Ref sig .tc := ⟨.hbm, 102, rfl⟩
abbrev main_while0b_v67 : Ref sig .tc := ⟨.hbm, 103, rfl⟩
abbrev main_while0b_v68 : Ref sig .tc := ⟨.hbm, 104, rfl⟩
abbrev main_while0b_v69 : Ref sig .tc := ⟨.hbm, 105, rfl⟩
abbrev main_while0b_v70 : Ref sig .tc := ⟨.hbm, 106, rfl⟩
abbrev main_while0b_v71 : Ref sig .tc := ⟨.hbm, 107, rfl⟩
abbrev main_while0b_v72 : Ref sig .tc := ⟨.hbm, 108, rfl⟩
abbrev main_while0b_v73 : Ref sig .tc := ⟨.hbm, 109, rfl⟩
abbrev main_while0b_cst_16 : Ref sig .tc := ⟨.hbm, 110, rfl⟩
abbrev main_while0b_v74 : Ref sig .tc := ⟨.hbm, 111, rfl⟩
abbrev main_while0b_v75 : Ref sig .tc := ⟨.hbm, 112, rfl⟩
abbrev main_while0b_v76 : Ref sig .tc := ⟨.hbm, 113, rfl⟩
abbrev main_while0b_v77 : Ref sig .tc := ⟨.hbm, 114, rfl⟩
abbrev main_while0b_v78 : Ref sig .tc := ⟨.hbm, 115, rfl⟩
abbrev main_while0b_v79 : Ref sig .tc := ⟨.hbm, 116, rfl⟩
abbrev main_while0b_v80 : Ref sig .tc := ⟨.hbm, 117, rfl⟩
abbrev main_while0b_v81 : Ref sig .tc := ⟨.hbm, 118, rfl⟩
abbrev main_while0b_call2_v0 : Ref sig .tc := ⟨.hbm, 119, rfl⟩
abbrev main_while0b_v82 : Ref sig .tc := ⟨.hbm, 120, rfl⟩
abbrev main_while0b_c_17 : Ref sig .tc := ⟨.hbm, 121, rfl⟩
abbrev main_while0b_v83 : Ref sig .tc := ⟨.hbm, 122, rfl⟩

abbrev nD : Nat := 1
abbrev τ : Topo := Topo.v7x

variable {F : FTy → Type} [FloatOps F]

abbrev main_while0_count : Scf.Loop 32 := ⟨0#32, 512#32, 1#32⟩
-- ==== Kernel.lean ====
abbrev S512x240x128 : Shape := ⟨3, ![512, 240, 128]⟩
abbrev S240x512 : Shape := ⟨2, ![240, 512]⟩
abbrev S96x3x96 : Shape := ⟨3, ![96, 3, 96]⟩
abbrev S3x96 : Shape := ⟨2, ![3, 96]⟩
abbrev S512x240 : Shape := ⟨2, ![512, 240]⟩
abbrev S512x240x1 : Shape := ⟨3, ![512, 240, 1]⟩
abbrev S_ : Shape := ⟨0, ![]⟩
abbrev S96x3x128 : Shape := ⟨3, ![96, 3, 128]⟩
abbrev S96x384 : Shape := ⟨2, ![96, 384]⟩
abbrev S128x384 : Shape := ⟨2, ![128, 384]⟩
abbrev S3x128 : Shape := ⟨2, ![3, 128]⟩
abbrev S1x384 : Shape := ⟨2, ![1, 384]⟩
abbrev S240x128 : Shape := ⟨2, ![240, 128]⟩
abbrev S1x240x128 : Shape := ⟨3, ![1, 240, 128]⟩
abbrev S1x240x1 : Shape := ⟨3, ![1, 240, 1]⟩
abbrev S240x384 : Shape := ⟨2, ![240, 384]⟩
abbrev S240x1 : Shape := ⟨2, ![240, 1]⟩
abbrev S240x96 : Shape := ⟨2, ![240, 96]⟩

abbrev nBuf : Space → Nat
  | .hbm => 42
  | .vmem => 12
  | .smem => 0
  | _ => 0

abbrev bufTy : (tb : Table) → Fin (tcTables nBuf tb) → BufTy
  | .hbm, ⟨0, _⟩ => ⟨S512x240x128, .bf16⟩
  | .hbm, ⟨1, _⟩ => ⟨S240x512, .f32⟩
  | .hbm, ⟨2, _⟩ => ⟨S96x3x96, .bf16⟩
  | .hbm, ⟨3, _⟩ => ⟨S3x96, .f32⟩
  | .hbm, ⟨4, _⟩ => ⟨S96x3x96, .bf16⟩
  | .hbm, ⟨5, _⟩ => ⟨S3x96, .f32⟩
  | .hbm, ⟨6, _⟩ => ⟨S3x96, .f32⟩
  | .hbm, ⟨7, _⟩ => ⟨S3x96, .f32⟩
  | .hbm, ⟨8, _⟩ => ⟨S512x240, .f32⟩
  | .hbm, ⟨9, _⟩ => ⟨S512x240x1, .f32⟩
  | .hbm, ⟨10, _⟩ => ⟨S_, .i32⟩
  | .hbm, ⟨11, _⟩ => ⟨S_, .bf16⟩
  | .hbm, ⟨12, _⟩ => ⟨S96x3x128, .bf16⟩
  | .hbm, ⟨13, _⟩ => ⟨S96x384, .bf16⟩
  | .hbm, ⟨14, _⟩ => ⟨S_, .i32⟩
  | .hbm, ⟨15, _⟩ => ⟨S_, .bf16⟩
  | .hbm, ⟨16, _⟩ => ⟨S128x384, .bf16⟩
  | .hbm, ⟨17, _⟩ => ⟨S_, .i32⟩
  | .hbm, ⟨18, _⟩ => ⟨S_, .f32⟩
  | .hbm, ⟨19, _⟩ => ⟨S3x128, .f32⟩
  | .hbm, ⟨20, _⟩ => ⟨S1x384, .f32⟩
  | .hbm, ⟨21, _⟩ => ⟨S_, .i32⟩
  | .hbm, ⟨22, _⟩ => ⟨S_, .f32⟩
  | .hbm, ⟨23, _⟩ => ⟨S3x128, .f32⟩
  | .hbm, ⟨24, _⟩ => ⟨S1x384, .f32⟩
  | .hbm, ⟨25, _⟩ => ⟨S_, .i32⟩
  | .hbm, ⟨26, _⟩ => ⟨S_, .bf16⟩
  | .hbm, ⟨27, _⟩ => ⟨S96x3x128, .bf16⟩
  | .hbm, ⟨28, _⟩ => ⟨S96x384, .bf16⟩
  | .hbm, ⟨29, _⟩ => ⟨S_, .i32⟩
  | .hbm, ⟨30, _⟩ => ⟨S_, .bf16⟩
  | .hbm, ⟨31, _⟩ => ⟨S128x384, .bf16⟩
  | .hbm, ⟨32, _⟩ => ⟨S_, .i32⟩
  | .hbm, ⟨33, _⟩ => ⟨S_, .f32⟩
  | .hbm, ⟨34, _⟩ => ⟨S3x128, .f32⟩
  | .hbm, ⟨35, _⟩ => ⟨S1x384, .f32⟩
  | .hbm, ⟨36, _⟩ => ⟨S_, .i32⟩
  | .hbm, ⟨37, _⟩ => ⟨S_, .f32⟩
  | .hbm, ⟨38, _⟩ => ⟨S3x128, .f32⟩
  | .hbm, ⟨39, _⟩ => ⟨S1x384, .f32⟩
  | .hbm, ⟨40, _⟩ => ⟨S240x128, .bf16⟩
  | .hbm, ⟨41, _⟩ => ⟨S240x96, .bf16⟩
  | .local _ .vmem, ⟨0, _⟩ => ⟨S1x240x128, .bf16⟩
  | .local _ .vmem, ⟨1, _⟩ => ⟨S1x240x128, .bf16⟩
  | .local _ .vmem, ⟨2, _⟩ => ⟨S1x240x1, .f32⟩
  | .local _ .vmem, ⟨3, _⟩ => ⟨S1x240x1, .f32⟩
  | .local _ .vmem, ⟨4, _⟩ => ⟨S128x384, .bf16⟩
  | .local _ .vmem, ⟨5, _⟩ => ⟨S1x384, .f32⟩
  | .local _ .vmem, ⟨6, _⟩ => ⟨S1x384, .f32⟩
  | .local _ .vmem, ⟨7, _⟩ => ⟨S128x384, .bf16⟩
  | .local _ .vmem, ⟨8, _⟩ => ⟨S1x384, .f32⟩
  | .local _ .vmem, ⟨9, _⟩ => ⟨S1x384, .f32⟩
  | .local _ .vmem, ⟨10, _⟩ => ⟨S240x128, .bf16⟩
  | .local _ .vmem, ⟨11, _⟩ => ⟨S240x128, .f32⟩
  | _, _ => ⟨S512x240x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_c_1 : Ref sig .tc := ⟨.hbm, 17, rfl⟩
abbrev main_call2_v0 : Ref sig .tc := ⟨.hbm, 18, rfl⟩
abbrev main_v5 : Ref sig .tc := ⟨.hbm, 19, rfl⟩
abbrev main_v6 : Ref sig .tc := ⟨.hbm, 20, rfl⟩
abbrev main_c_2 : Ref sig .tc := ⟨.hbm, 21, rfl⟩
abbrev main_call3_v0 : Ref sig .tc := ⟨.hbm, 22, rfl⟩
abbrev main_v7 : Ref sig .tc := ⟨.hbm, 23, rfl⟩
abbrev main_v8 : Ref sig .tc := ⟨.hbm, 24, rfl⟩
abbrev main_c_3 : Ref sig .tc := ⟨.hbm, 25, rfl⟩
abbrev main_call4_v0 : Ref sig .tc := ⟨.hbm, 26, rfl⟩
abbrev main_v9 : Ref sig .tc := ⟨.hbm, 27, rfl⟩
abbrev main_v10 : Ref sig .tc := ⟨.hbm, 28, rfl⟩
abbrev main_c_4 : Ref sig .tc := ⟨.hbm, 29, rfl⟩
abbrev main_call5_v0 : Ref sig .tc := ⟨.hbm, 30, rfl⟩
abbrev main_v11 : Ref sig .tc := ⟨.hbm, 31, rfl⟩
abbrev main_c_5 : Ref sig .tc := ⟨.hbm, 32, rfl⟩
abbrev main_call6_v0 : Ref sig .tc := ⟨.hbm, 33, rfl⟩
abbrev main_v12 : Ref sig .tc := ⟨.hbm, 34, rfl⟩
abbrev main_v13 : Ref sig .tc := ⟨.hbm, 35, rfl⟩
abbrev main_c_6 : Ref sig .tc := ⟨.hbm, 36, rfl⟩
abbrev main_call7_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x240x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x240x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S240x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S512x240x128 : Shape := ⟨3, ![512, 240, 128]⟩
abbrev S240x512 : Shape := ⟨2, ![240, 512]⟩
abbrev S96x3x96 : Shape := ⟨3, ![96, 3, 96]⟩
abbrev S3x96 : Shape := ⟨2, ![3, 96]⟩
abbrev S512x240x96 : Shape := ⟨3, ![512, 240, 96]⟩
abbrev S3x96x512x240 : Shape := ⟨4, ![3, 96, 512, 240]⟩
abbrev S512x3x240x96 : Shape := ⟨4, ![512, 3, 240, 96]⟩
abbrev S1x3x1x96 : Shape := ⟨4, ![1, 3, 1, 96]⟩
abbrev S_ : Shape := ⟨0, ![]⟩
abbrev S240x96 : Shape := ⟨2, ![240, 96]⟩
abbrev S512x240 : Shape := ⟨2, ![512, 240]⟩
abbrev S1x3x240x96 : Shape := ⟨4, ![1, 3, 240, 96]⟩
abbrev S3x240x96 : Shape := ⟨3, ![3, 240, 96]⟩
abbrev S1x240 : Shape := ⟨2, ![1, 240]⟩
abbrev S240 : Shape := ⟨1, ![240]⟩
abbrev S3x96x240 : Shape := ⟨3, ![3, 96, 240]⟩
abbrev S3x1x96 : Shape := ⟨3, ![3, 1, 96]⟩
abbrev S1x240x96 : Shape := ⟨3, ![1, 240, 96]⟩
abbrev S240x1 : Shape := ⟨2, ![240, 1]⟩

abbrev nBuf : Space → Nat
  | .hbm => 92
  | .vmem => 0
  | .smem => 0
  | _ => 0

abbrev bufTy : (tb : Table) → Fin (tcTables nBuf tb) → BufTy
  | .hbm, ⟨0, _⟩ => ⟨S512x240x128, .bf16⟩
  | .hbm, ⟨1, _⟩ => ⟨S240x512, .f32⟩
  | .hbm, ⟨2, _⟩ => ⟨S96x3x96, .bf16⟩
  | .hbm, ⟨3, _⟩ => ⟨S3x96, .f32⟩
  | .hbm, ⟨4, _⟩ => ⟨S96x3x96, .bf16⟩
  | .hbm, ⟨5, _⟩ => ⟨S3x96, .f32⟩
  | .hbm, ⟨6, _⟩ => ⟨S3x96, .f32⟩
  | .hbm, ⟨7, _⟩ => ⟨S3x96, .f32⟩
  | .hbm, ⟨8, _⟩ => ⟨S512x240x96, .bf16⟩
  | .hbm, ⟨9, _⟩ => ⟨S3x96x512x240, .f32⟩
  | .hbm, ⟨10, _⟩ => ⟨S512x3x240x96, .f32⟩
  | .hbm, ⟨11, _⟩ => ⟨S1x3x1x96, .f32⟩
  | .hbm, ⟨12, _⟩ => ⟨S512x3x240x96, .f32⟩
  | .hbm, ⟨13, _⟩ => ⟨S512x3x240x96, .f32⟩
  | .hbm, ⟨14, _⟩ => ⟨S1x3x1x96, .f32⟩
  | .hbm, ⟨15, _⟩ => ⟨S512x3x240x96, .f32⟩
  | .hbm, ⟨16, _⟩ => ⟨S512x3x240x96, .f32⟩
  | .hbm, ⟨17, _⟩ => ⟨S_, .f32⟩
  | .hbm, ⟨18, _⟩ => ⟨S240x96, .f32⟩
  | .hbm, ⟨19, _⟩ => ⟨S512x240, .f32⟩
  | .hbm, ⟨20, _⟩ => ⟨S_, .i32⟩
  | .hbm, ⟨21, _⟩ => ⟨S512x3x240x96, .f32⟩
  | .hbm, ⟨22, _⟩ => ⟨S512x240, .f32⟩
  | .hbm, ⟨23, _⟩ => ⟨S96x3x96, .bf16⟩
  | .hbm, ⟨24, _⟩ => ⟨S3x96, .f32⟩
  | .hbm, ⟨25, _⟩ => ⟨S3x96, .f32⟩
  | .hbm, ⟨26, _⟩ => ⟨S_, .i32⟩
  | .hbm, ⟨27, _⟩ => ⟨S240x96, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x3x240x96, .f32⟩
  | .hbm, ⟨34, _⟩ => ⟨S3x240x96, .f32⟩
  | .hbm, ⟨35, _⟩ => ⟨S_, .i32⟩
  | .hbm, ⟨36, _⟩ => ⟨S1x240, .f32⟩
  | .hbm, ⟨37, _⟩ => ⟨S240, .f32⟩
  | .hbm, ⟨38, _⟩ => ⟨S240x96, .bf16⟩
  | .hbm, ⟨39, _⟩ => ⟨S3x96x240, .f32⟩
  | .hbm, ⟨40, _⟩ => ⟨S3x240x96, .f32⟩
  | .hbm, ⟨41, _⟩ => ⟨S3x1x96, .f32⟩
  | .hbm, ⟨42, _⟩ => ⟨S3x240x96, .f32⟩
  | .hbm, ⟨43, _⟩ => ⟨S3x240x96, .f32⟩
  | .hbm, ⟨44, _⟩ => ⟨S3x1x96, .f32⟩
  | .hbm, ⟨45, _⟩ => ⟨S3x240x96, .f32⟩
  | .hbm, ⟨46, _⟩ => ⟨S3x240x96, .f32⟩
  | .hbm, ⟨47, _⟩ => ⟨S1x240x96, .f32⟩
  | .hbm, ⟨48, _⟩ => ⟨S240x96, .f32⟩
  | .hbm, ⟨49, _⟩ => ⟨S1x240x96, .f32⟩
  | .hbm, ⟨50, _⟩ => ⟨S240x96, .f32⟩
  | .hbm, ⟨51, _⟩ => ⟨S240x96, .f32⟩
  | .hbm, ⟨52, _⟩ => ⟨S240x96, .f32⟩
  | .hbm, ⟨53, _⟩ => ⟨S240x96, .f32⟩
  | .hbm, ⟨54, _⟩ => ⟨S_, .f32⟩
  | .hbm, ⟨55, _⟩ => ⟨S240x96, .f32⟩
  | .hbm, ⟨56, _⟩ => ⟨S240x96, .f32⟩
  | .hbm, ⟨57, _⟩ => ⟨S_, .f32⟩
  | .hbm, ⟨58, _⟩ => ⟨S240x96, .f32⟩
  | .hbm, ⟨59, _⟩ => ⟨S240x96, .f32⟩
  | .hbm, ⟨60, _⟩ => ⟨S1x240x96, .f32⟩
  | .hbm, ⟨61, _⟩ => ⟨S240x96, .f32⟩
  | .hbm, ⟨62, _⟩ => ⟨S1x240x96, .f32⟩
  | .hbm, ⟨63, _⟩ => ⟨S240x96, .f32⟩
  | .hbm, ⟨64, _⟩ => ⟨S240x96, .f32⟩
  | .hbm, ⟨65, _⟩ => ⟨S240x96, .f32⟩
  | .hbm, ⟨66, _⟩ => ⟨S240x96, .f32⟩
  | .hbm, ⟨67, _⟩ => ⟨S_, .f32⟩
  | .hbm, ⟨68, _⟩ => ⟨S240x96, .f32⟩
  | .hbm, ⟨69, _⟩ => ⟨S240x96, .f32⟩
  | .hbm, ⟨70, _⟩ => ⟨S_, .f32⟩
  | .hbm, ⟨71, _⟩ => ⟨S240x96, .f32⟩
  | .hbm, ⟨72, _⟩ => ⟨S240x96, .f32⟩
  | .hbm, ⟨73, _⟩ => ⟨S1x240x96, .f32⟩
  | .hbm, ⟨74, _⟩ => ⟨S240x96, .f32⟩
  | .hbm, ⟨75, _⟩ => ⟨S1x240x96, .f32⟩
  | .hbm, ⟨76, _⟩ => ⟨S240x96, .f32⟩
  | .hbm, ⟨77, _⟩ => ⟨S240x96, .f32⟩
  | .hbm, ⟨78, _⟩ => ⟨S240x96, .f32⟩
  | .hbm, ⟨79, _⟩ => ⟨S240x96, .f32⟩
  | .hbm, ⟨80, _⟩ => ⟨S240x1, .f32⟩
  | .hbm, ⟨81, _⟩ => ⟨S240x96, .f32⟩
  | .hbm, ⟨82, _⟩ => ⟨S240x96, .f32⟩
  | .hbm, ⟨83, _⟩ => ⟨S_, .f32⟩
  | .hbm, ⟨84, _⟩ => ⟨S240x96, .f32⟩
  | .hbm, ⟨85, _⟩ => ⟨S240x96, .f32⟩
  | .hbm, ⟨86, _⟩ => ⟨S240x96, .f32⟩
  | .hbm, ⟨87, _⟩ => ⟨S240x96, .f32⟩
  | .hbm, ⟨88, _⟩ => ⟨S240x96, .f32⟩
  | .hbm, ⟨89, _⟩ => ⟨S_, .i32⟩
  | .hbm, ⟨90, _⟩ => ⟨S_, .i32⟩
  | .hbm, ⟨91, _⟩ => ⟨S240x96, .bf16⟩
  | _, _ => ⟨S512x240x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_while0c_c_6 : Ref sig .tc := ⟨.hbm, 28, rfl⟩
abbrev main_while0c_v13 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_c_1 : Ref sig .tc := ⟨.hbm, 32, rfl⟩
abbrev main_while0b_call0_v0 : Ref sig .tc := ⟨.hbm, 33, rfl⟩
abbrev main_while0b_v13 : Ref sig .tc := ⟨.hbm, 34, rfl⟩
abbrev main_while0b_call1_c : Ref sig .tc := ⟨.hbm, 35, rfl⟩
abbrev main_while0b_call1_v0 : Ref sig .tc := ⟨.hbm, 36, rfl⟩
abbrev main_while0b_v14 : Ref sig .tc := ⟨.hbm, 37, rfl⟩
abbrev main_while0b_v15 : Ref sig .tc := ⟨.hbm, 38, rfl⟩
abbrev main_while0b_v16 : Ref sig .tc := ⟨.hbm, 39, rfl⟩
abbrev main_while0b_v17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_v21 : Ref sig .tc := ⟨.hbm, 44, rfl⟩
abbrev main_while0b_v22 : Ref sig .tc := ⟨.hbm, 45, rfl⟩
abbrev main_while0b_v23 : Ref sig .tc := ⟨.hbm, 46, rfl⟩
abbrev main_while0b_v24 : Ref sig .tc := ⟨.hbm, 47, rfl⟩
abbrev main_while0b_v25 : Ref sig .tc := ⟨.hbm, 48, rfl⟩
abbrev main_while0b_v26 : Ref sig .tc := ⟨.hbm, 49, rfl⟩
abbrev main_while0b_v27 : Ref sig .tc := ⟨.hbm, 50, rfl⟩
abbrev main_while0b_v28 : Ref sig .tc := ⟨.hbm, 51, rfl⟩
abbrev main_while0b_v29 : Ref sig .tc := ⟨.hbm, 52, rfl⟩
abbrev main_while0b_v30 : Ref sig .tc := ⟨.hbm, 53, rfl⟩
abbrev main_while0b_cst_6 : Ref sig .tc := ⟨.hbm, 54, rfl⟩
abbrev main_while0b_v31 : Ref sig .tc := ⟨.hbm, 55, rfl⟩
abbrev main_while0b_v32 : Ref sig .tc := ⟨.hbm, 56, rfl⟩
abbrev main_while0b_cst_7 : Ref sig .tc := ⟨.hbm, 57, rfl⟩
abbrev main_while0b_v33 : Ref sig .tc := ⟨.hbm, 58, rfl⟩
abbrev main_while0b_v34 : Ref sig .tc := ⟨.hbm, 59, rfl⟩
abbrev main_while0b_v35 : Ref sig .tc := ⟨.hbm, 60, rfl⟩
abbrev main_while0b_v36 : Ref sig .tc := ⟨.hbm, 61, rfl⟩
abbrev main_while0b_v37 : Ref sig .tc := ⟨.hbm, 62, rfl⟩
abbrev main_while0b_v38 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_cst_8 : Ref sig .tc := ⟨.hbm, 67, rfl⟩
abbrev main_while0b_v42 : Ref sig .tc := ⟨.hbm, 68, rfl⟩
abbrev main_while0b_v43 : Ref sig .tc := ⟨.hbm, 69, rfl⟩
abbrev main_while0b_cst_9 : Ref sig .tc := ⟨.hbm, 70, rfl⟩
abbrev main_while0b_v44 : Ref sig .tc := ⟨.hbm, 71, rfl⟩
abbrev main_while0b_v45 : Ref sig .tc := ⟨.hbm, 72, rfl⟩
abbrev main_while0b_v46 : Ref sig .tc := ⟨.hbm, 73, rfl⟩
abbrev main_while0b_v47 : Ref sig .tc := ⟨.hbm, 74, rfl⟩
abbrev main_while0b_v48 : Ref sig .tc := ⟨.hbm, 75, rfl⟩
abbrev main_while0b_v49 : Ref sig .tc := ⟨.hbm, 76, rfl⟩
abbrev main_while0b_v50 : Ref sig .tc := ⟨.hbm, 77, rfl⟩
abbrev main_while0b_v51 : Ref sig .tc := ⟨.hbm, 78, rfl⟩
abbrev main_while0b_v52 : Ref sig .tc := ⟨.hbm, 79, rfl⟩
abbrev main_while0b_v53 : Ref sig .tc := ⟨.hbm, 80, rfl⟩
abbrev main_while0b_v54 : Ref sig .tc := ⟨.hbm, 81, rfl⟩
abbrev main_while0b_v55 : Ref sig .tc := ⟨.hbm, 82, rfl⟩
abbrev main_while0b_cst_10 : Ref sig .tc := ⟨.hbm, 83, rfl⟩
abbrev main_while0b_v56 : Ref sig .tc := ⟨.hbm, 84, rfl⟩
abbrev main_while0b_v57 : Ref sig .tc := ⟨.hbm, 85, rfl⟩
abbrev main_while0b_v58 : Ref sig .tc := ⟨.hbm, 86, rfl⟩
abbrev main_while0b_v59 : Ref sig .tc := ⟨.hbm, 87, rfl⟩
abbrev main_while0b_v60 : Ref sig .tc := ⟨.hbm, 88, rfl⟩
abbrev main_while0b_c_11 : Ref sig .tc := ⟨.hbm, 89, rfl⟩
abbrev main_while0b_v61 : Ref sig .tc := ⟨.hbm, 90, rfl⟩
abbrev main_v12 : Ref sig .tc := ⟨.hbm, 91, rfl⟩

abbrev nD : Nat := 1
abbrev τ : Topo := Topo.v7x

variable {F : FTy → Type} [FloatOps F]

abbrev main_while0_count : Scf.Loop 32 := ⟨0#32, 512#32, 1#32⟩
-- ==== Attention.lean ====
abbrev S512x240x1 : Shape := ⟨3, ![512, 240, 1]⟩
abbrev S240 : Shape := ⟨1, ![240]⟩
abbrev S_ : Shape := ⟨0, ![]⟩
abbrev S512 : Shape := ⟨1, ![512]⟩
abbrev S512x1 : Shape := ⟨2, ![512, 1]⟩
abbrev S1x240 : Shape := ⟨2, ![1, 240]⟩
abbrev S512x240 : Shape := ⟨2, ![512, 240]⟩
abbrev S240x512 : Shape := ⟨2, ![240, 512]⟩
abbrev S240x1 : Shape := ⟨2, ![240, 1]⟩

abbrev nBuf : Space → Nat
  | .hbm => 16
  | .vmem => 3
  | .smem => 0
  | _ => 0

abbrev bufTy : (tb : Table) → Fin (tcTables nBuf tb) → BufTy
  | .hbm, ⟨0, _⟩ => ⟨S512x240x1, .f32⟩
  | .hbm, ⟨1, _⟩ => ⟨S240, .i32⟩
  | .hbm, ⟨2, _⟩ => ⟨S_, .i32⟩
  | .hbm, ⟨3, _⟩ => ⟨S240, .i32⟩
  | .hbm, ⟨4, _⟩ => ⟨S240, .i32⟩
  | .hbm, ⟨5, _⟩ => ⟨S512, .i32⟩
  | .hbm, ⟨6, _⟩ => ⟨S512x1, .i32⟩
  | .hbm, ⟨7, _⟩ => ⟨S1x240, .i32⟩
  | .hbm, ⟨8, _⟩ => ⟨S512x240, .i32⟩
  | .hbm, ⟨9, _⟩ => ⟨S512x240, .i32⟩
  | .hbm, ⟨10, _⟩ => ⟨S512x240, .i1⟩
  | .hbm, ⟨11, _⟩ => ⟨S512x240, .f32⟩
  | .hbm, ⟨12, _⟩ => ⟨S512x240, .f32⟩
  | .hbm, ⟨13, _⟩ => ⟨S240x512, .f32⟩
  | .hbm, ⟨14, _⟩ => ⟨S240x512, .f32⟩
  | .hbm, ⟨15, _⟩ => ⟨S240x512, .f32⟩
  | .local _ .vmem, ⟨0, _⟩ => ⟨S240x512, .f32⟩
  | .local _ .vmem, ⟨1, _⟩ => ⟨S240x512, .f32⟩
  | .local _ .vmem, ⟨2, _⟩ => ⟨S240x512, .f32⟩
  | _, _ => ⟨S512x240x1, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S240x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S240x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AttentionReferenceIdeal.lean ====
abbrev S512x240x1 : Shape := ⟨3, ![512, 240, 1]⟩
abbrev S240 : Shape := ⟨1, ![240]⟩
abbrev S512x240 : Shape := ⟨2, ![512, 240]⟩
abbrev S240x512 : Shape := ⟨2, ![240, 512]⟩
abbrev S_ : Shape := ⟨0, ![]⟩
abbrev S512 : Shape := ⟨1, ![512]⟩
abbrev S1x512 : Shape := ⟨2, ![1, 512]⟩
abbrev S240x1 : Shape := ⟨2, ![240, 1]⟩

abbrev nBuf : Space → Nat
  | .hbm => 31
  | .vmem => 0
  | .smem => 0
  | _ => 0

abbrev bufTy : (tb : Table) → Fin (tcTables nBuf tb) → BufTy
  | .hbm, ⟨0, _⟩ => ⟨S512x240x1, .f32⟩
  | .hbm, ⟨1, _⟩ => ⟨S240, .i32⟩
  | .hbm, ⟨2, _⟩ => ⟨S512x240, .f32⟩
  | .hbm, ⟨3, _⟩ => ⟨S240x512, .f32⟩
  | .hbm, ⟨4, _⟩ => ⟨S_, .i32⟩
  | .hbm, ⟨5, _⟩ => ⟨S240, .i32⟩
  | .hbm, ⟨6, _⟩ => ⟨S240, .i32⟩
  | .hbm, ⟨7, _⟩ => ⟨S512, .i32⟩
  | .hbm, ⟨8, _⟩ => ⟨S1x512, .i32⟩
  | .hbm, ⟨9, _⟩ => ⟨S240x1, .i32⟩
  | .hbm, ⟨10, _⟩ => ⟨S240x512, .i32⟩
  | .hbm, ⟨11, _⟩ => ⟨S240x512, .i32⟩
  | .hbm, ⟨12, _⟩ => ⟨S240x512, .i1⟩
  | .hbm, ⟨13, _⟩ => ⟨S_, .f32⟩
  | .hbm, ⟨14, _⟩ => ⟨S_, .f32⟩
  | .hbm, ⟨15, _⟩ => ⟨S240x512, .f32⟩
  | .hbm, ⟨16, _⟩ => ⟨S240x512, .f32⟩
  | .hbm, ⟨17, _⟩ => ⟨S_, .f32⟩
  | .hbm, ⟨18, _⟩ => ⟨S240, .f32⟩
  | .hbm, ⟨19, _⟩ => ⟨S_, .f32⟩
  | .hbm, ⟨20, _⟩ => ⟨S240, .f32⟩
  | .hbm, ⟨21, _⟩ => ⟨S240, .f32⟩
  | .hbm, ⟨22, _⟩ => ⟨S240x1, .f32⟩
  | .hbm, ⟨23, _⟩ => ⟨S240x512, .f32⟩
  | .hbm, ⟨24, _⟩ => ⟨S240x512, .f32⟩
  | .hbm, ⟨25, _⟩ => ⟨S240x512, .f32⟩
  | .hbm, ⟨26, _⟩ => ⟨S_, .f32⟩
  | .hbm, ⟨27, _⟩ => ⟨S240, .f32⟩
  | .hbm, ⟨28, _⟩ => ⟨S240x1, .f32⟩
  | .hbm, ⟨29, _⟩ => ⟨S240x512, .f32⟩
  | .hbm, ⟨30, _⟩ => ⟨S240x512, .f32⟩
  | _, _ => ⟨S512x240x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.Fold.lean ====
/-
  What the second GRU's kernel leaves: its state after `n` grid points as a recursion on `n` (`state`), one application
  of the body's arithmetic (`stepK`) per point, and its result array at the end of the run (`run`).
-/
module

public import proofs.«01_k».proof.Proof.Gen.KernelIdeal.Frame
public import Idealize.ShloMosaic.Lib.Pipeline.Value
public import Idealize.ShloMosaic.Lib.StableHlo.Run
public import Idealize.ShloMosaic.Lib.Tactic

@[expose] public section

noncomputable section

open Idealize.ShloMosaic Idealize.ShloMosaic.TcCoe Idealize.SL.Sem
open Idealize.ShloMosaic.Pipeline (Dat)

namespace Cert.KernelIdeal.Fold

open Cert.KernelIdeal Cert.KernelIdeal.Gen

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- One grid point's arithmetic: the new state of the point's blocks `x0 … x7` and the state `h` before it. -/
def stepK (x0 : Vec F S1x240x128 .bf16) (x1 : Vec F S1x240x1 .f32) (x2 : Vec F S128x384 .bf16) (x3 : Vec F S1x384 .f32)
    (x4 : Vec F S1x384 .f32) (x5 : Vec F S128x384 .bf16) (x6 : Vec F S1x384 .f32) (x7 : Vec F S1x384 .f32)
    (h : Vec F S240x128 .f32) : Vec F S240x128 .f32 :=
  k0_pay1 (k0_pay5 x0 x2 x3 x4) h (k0_pay6 h x5 x6 x7) (k0_pay7 x1) (k0_pay8 x0 x2 x3 x4 h x5 x6 x7)

/-- The zero state the first point starts from. -/
def zeroK : Vec F S240x128 .f32 := k0_pay4

section cases
variable (c : Dev nD) (i : grid0.Coords) (arg1 : Memref sig .tc .vmem S1x240x128 .bf16) (harg1 : arg1.IsWhole) (arg2 : Memref sig .tc .vmem S1x240x1 .f32) (harg2 : arg2.IsWhole) (arg3 : Memref sig .tc .vmem S128x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S128x384 .bf16) (harg6 : arg6.IsWhole) (arg7 : Memref sig .tc .vmem S1x384 .f32) (harg7 : arg7.IsWhole) (arg8 : Memref sig .tc .vmem S1x384 .f32) (harg8 : arg8.IsWhole) (arg9 : Memref sig .tc .vmem S240x128 .bf16) (harg9 : arg9.IsWhole) (arg10 : Memref sig .tc .vmem S240x128 .f32) (harg10 : arg10.IsWhole)
    (x0 : Vec F S1x240x128 .bf16) (x1 : Vec F S1x240x1 .f32) (x2 : Vec F S128x384 .bf16) (x3 : Vec F S1x384 .f32) (x4 : Vec F S1x384 .f32) (x5 : Vec F S128x384 .bf16) (x6 : Vec F S1x384 .f32) (x7 : Vec F S1x384 .f32) (xs0 : Vec F S240x128 .f32)

/-- At a point after the first, the carried state becomes one step of what the point before left. -/
theorem sout_B (hc0 : ¬cond0_0 i) :
    sout0_B_0 c i arg1 harg1 arg2 harg2 arg3 harg3 arg4 harg4 arg5 harg5 arg6 harg6 arg7 harg7 arg8 harg8 arg9 harg9 arg10 harg10 hc0 x0 x1 x2 x3 x4 x5 x6 x7 xs0
      = stepK x0 x1 x2 x3 x4 x5 x6 x7 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 x0 x1 x2 x3 x4 x5 x6 x7 xs0)]
  unfold kernelRun0_B
  dsimp only
  sl_unfold_words
  rw [View.canon_unit_zero hz2]
  unfold k0_pay2 stepK
  simp only [View.readAt_eq_ld, harg1.read_unread, harg2.read_unread, harg3.read_unread, harg4.read_unread, harg5.read_unread, harg6.read_unread, harg7.read_unread, harg8.read_unread, harg10.read_unread,
    View.ld_unit_zero (S := S240x128) hz2, View.ld_unit_zero (S := S128x384) hz2, View.ld_unit_zero (S := S1x384) hz2, View.ld_unit_zero (S := S1x240x128) hz3, View.ld_unit_zero (S := S1x240x1) hz3, shapeCast_self]

/-- At a point after the first, the result's block is the new state in the result's format. -/
theorem out_B (hc0 : ¬cond0_0 i) :
    out0_B_8 c i arg1 harg1 arg2 harg2 arg3 harg3 arg4 harg4 arg5 harg5 arg6 harg6 arg7 harg7 arg8 harg8 arg9 harg9 arg10 harg10 hc0 x0 x1 x2 x3 x4 x5 x6 x7 xs0
      = truncf .bf16 (stepK x0 x1 x2 x3 x4 x5 x6 x7 xs0) bitsLt_bf16_f32 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 x7 xs0)]
  unfold kernelRun0_B
  dsimp only
  sl_unfold_words
  rw [View.canon_unit_zero hz2]
  unfold k0_pay3 stepK
  simp only [View.readAt_eq_ld, harg1.read_unread, harg2.read_unread, harg3.read_unread, harg4.read_unread, harg5.read_unread, harg6.read_unread, harg7.read_unread, harg8.read_unread, harg10.read_unread,
    View.ld_unit_zero (S := S240x128) hz2, View.ld_unit_zero (S := S128x384) hz2, View.ld_unit_zero (S := S1x384) hz2, View.ld_unit_zero (S := S1x240x128) hz3, View.ld_unit_zero (S := S1x240x1) hz3, shapeCast_self]

/-- At the first point the carried state becomes one step of the zero state. -/
theorem sout_A (hc0 : cond0_0 i) :
    sout0_A_0 c i arg1 harg1 arg2 harg2 arg3 harg3 arg4 harg4 arg5 harg5 arg6 harg6 arg7 harg7 arg8 harg8 arg9 harg9 arg10 harg10 hc0 x0 x1 x2 x3 x4 x5 x6 x7
      = stepK x0 x1 x2 x3 x4 x5 x6 x7 zeroK := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_cons_unit_zero (S := S240x128) hz2]
  unfold k0_pay2 stepK zeroK
  simp only [View.readCov_unit_zero (S := S240x128) _ hz2, View.readAt_eq_ld, harg1.read_unread, harg2.read_unread, harg3.read_unread, harg4.read_unread, harg5.read_unread, harg6.read_unread, harg7.read_unread, harg8.read_unread, harg10.read_unread,
    View.ld_unit_zero (S := S240x128) hz2, View.ld_unit_zero (S := S128x384) hz2, View.ld_unit_zero (S := S1x384) hz2, View.ld_unit_zero (S := S1x240x128) hz3, View.ld_unit_zero (S := S1x240x1) hz3, shapeCast_self]

/-- At the first point the result's block is the new state in the result's format. -/
theorem out_A (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5 x6 x7
      = truncf .bf16 (stepK x0 x1 x2 x3 x4 x5 x6 x7 zeroK) bitsLt_bf16_f32 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_unit_zero hz2]
  unfold k0_pay3 stepK zeroK
  simp only [View.readCov_unit_zero (S := S240x128) _ hz2, View.readAt_eq_ld, harg1.read_unread, harg2.read_unread, harg3.read_unread, harg4.read_unread, harg5.read_unread, harg6.read_unread, harg7.read_unread, harg8.read_unread, harg10.read_unread,
    View.ld_unit_zero (S := S240x128) hz2, View.ld_unit_zero (S := S128x384) hz2, View.ld_unit_zero (S := S1x384) hz2, View.ld_unit_zero (S := S1x240x128) hz3, View.ld_unit_zero (S := S1x240x1) hz3, shapeCast_self]
end cases

/-- The state after `n` grid points: zero, then one step per point. -/
def state (c : Dev nD) : ℕ → Vec F S240x128 .f32
  | 0 => zeroK
  | n + 1 => if h : n < cfg0.N then stepK (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (state c n) else state c n

theorem state_succ (c : Dev nD) (n : ℕ) (h : n < cfg0.N) : state m c (n + 1) = stepK (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (state m c n) := by
  rw [state, dif_pos h]

/-- After point `n` the result's block and the carried scratch hold the state after `n + 1` points. -/
theorem outsAt_eq (c : Dev nD) : ∀ (n : ℕ) (h : n < cfg0.N), outsAt0 m c n h = (truncf .bf16 (state m c (n + 1)) bitsLt_bf16_f32, state m c (n + 1))
  | 0, h => by
    rw [state_succ m c 0 h, show state m c 0 = zeroK from rfl]
    rw [show outsAt0 m c 0 h = _ from outsAt0_A m c ⟨0, h⟩ rfl, out_A, sout_A]
  | n + 1, h => by
    have hN : cfg0.N = 512 := N_0
    have hB : ¬(⟨n + 1, h⟩ : Fin cfg0.N).val % 512 = 0 := by dsimp only; omega
    rw [state_succ m c (n + 1) h]
    rw [show outsAt0 m c (n + 1) h = _ from outsAt0_B m c ⟨n + 1, h⟩ hB, out_B, sout_B]
    show (truncf .bf16 (stepK _ _ _ _ _ _ _ _ (outsAt0 m c n _).2) _, stepK _ _ _ _ _ _ _ _ (outsAt0 m c n _).2) = _
    rw [outsAt_eq c n]

/-- The kernel's result array: the state after the last point, in the result's format. -/
abbrev result (c : Dev nD) : Buf (Elt F) ((c : Thread nD τ).loc main_v16) := truncf .bf16 (state m c 512) bitsLt_bf16_f32

abbrev tLast : Fin cfg0.N := ⟨511, by rw [show cfg0.N = 512 from N_0]; decide⟩

theorem idx_last : ∀ a, win0_8.index tLast a = 0 := by decide +kernel

/-- The one write-back, after the last point, writes it: the block is the whole array. -/
theorem flushed_eq (c : Dev nD) (t : Fin cfg0.N) (hf : (cfg0.win 8).flush t = true) :
    (dats m 0 c).flushed 8 t = ((cfg0.win 8).blk t).view.read (Elt F) (result m c) := by
  have hN : cfg0.N = 512 := N_0
  have h3 : t.val = 511 := by have := (flush0_8 t).mp hf; have := t.isLt; omega
  obtain rfl : t = tLast := Fin.ext h3
  show (cfg0.win 8).cut (grid0.coords tLast) ((dats m 0 c).after 8 tLast) = _
  rw [after0_8, outsAt_eq]
  have hz' : (fun a => win0_8.index tLast a * main_v16.ty.shape.size a) = fun _ => 0 := funext fun a => by rw [idx_last]; exact Nat.zero_mul _
  exact (Memref.read_access_unit_zero (Elt F) main_v16 hz' (fun a => by rw [congrFun hz' a]; simp) (result m c)).symm

/-- So the result array ends at the state after the last point. -/
theorem final_o (c : Dev nD) : (dats m 0 c).arrAt 8 cfg0.N = result m c :=
  (dats m 0 c).arrAt_eq_of_cover 8 (result m c) (flushed_eq m c) fun i =>
    ⟨tLast, (flush0_8 tLast).mpr rfl, by
      show i ∈ ((View.whole main_v16).slice (win0_8.rect tLast)).set
      rw [View.set_slice_whole, Rect.mem_set_unit]
      intro a
      have h0 : (i 0 : Nat) < 240 := (i 0).isLt
      have h1 : (i 1 : Nat) < 128 := (i 1).isLt
      match a with
      | ⟨0, _⟩ => show win0_8.index tLast 0 * win0_8.size 0 ≤ (i 0 : Nat) ∧ (i 0 : Nat) < win0_8.index tLast 0 * win0_8.size 0 + win0_8.xsize (grid0.coords tLast) 0
                  rw [idx_last, show win0_8.xsize (grid0.coords tLast) 0 = 240 from by decide +kernel]; omega
      | ⟨1, _⟩ => show win0_8.index tLast 1 * win0_8.size 1 ≤ (i 1 : Nat) ∧ (i 1 : Nat) < win0_8.index tLast 1 * win0_8.size 1 + win0_8.xsize (grid0.coords tLast) 1
                  rw [idx_last, show win0_8.xsize (grid0.coords tLast) 1 = 128 from by decide +kernel]; omega⟩

/-- The program's result after the run: the first 96 columns of the state after the last point. -/
abbrev interest (c : Dev nD) : Buf (Elt F) ((c : Thread nD τ).loc main_v17) :=
  extractStridedSlice S240x96 ![0, 0] (result m c) slices_S240x128_S240x96_0_0

theorem arr_inj : Function.Injective (Pipeline.arrRef spec0) := by decide +kernel

theorem tail_eq (c : Dev nD) : Pipeline.afterTail₀ cfgs (dats m) 0 (V0 m) [hostOps1] c main_v17 = interest m c := by
  unfold Pipeline.afterTail₀
  show StableHlo.after hostOps1 _ _ = _
  rw [show (StableHlo.after (hostOps1 (F := F)) _ (Proc.devRef .tc main_v17)) = _ from by after_results]
  have := Pipeline.withArrays_arr spec0 arr_inj c (V0 m c) (fun w => (dats m 0 c).arrAt w cfg0.N) 8
  exact congrArg (fun v => extractStridedSlice S240x96 ![0, 0] v slices_S240x128_S240x96_0_0) (this.trans (final_o m c))

/-- The run, read: the program's result, and every argument unchanged. -/
theorem run : θ_run defs (onTc (τ := τ) (main (F := F))) ⟨m, fun _ => 0, ρ⟩ fun r => ∀ c : Dev nD,
      r.2.mem ((c.tc : Thread nD τ).loc main_v17) = interest m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).2 main_v17 (Pipeline.mem_restRefs_of main_v17 (by decide) (by decide))).trans (tail_eq m c), h.2 c⟩)
    (θ_run_and (run_main m ρ) (unchanged m ρ))

end Cert.KernelIdeal.Fold

end
-- ==== Proof.Math.lean ====
/-
  The mathematics both programs compute, over the extended reals: one gate's affine form, the attention-scaled update
  of a GRU's state, and the state after `n` steps, element by element.
-/
module

public import Idealize.ShloMosaic.PureOps.Ideal
public import Idealize.ShloMosaic.Lib.ValueIdx
public import Idealize.ShloMosaic.Lib.IdealHost

@[expose] public section

noncomputable section

open Idealize.ShloMosaic
open scoped BigOperators

namespace Cert.Evolve

/-- A gate's input: the product of a row and a column, scaled and shifted. -/
def affine (x w : Fin 96 → EReal) (s b : EReal) : EReal := (∑ k, x k * w k) * s + b

/-- The new value of one state element: the update gate times the attention weight `a`, the reset gate and the candidate
    are made of the input's gates `gi` and the state's gates `gh`, and `h` is the old value. -/
def update (gi gh : Fin 3 → EReal) (a h : EReal) : EReal :=
  (1 - a * Ideal.logistic (gi 0 + gh 0)) * h
    + a * Ideal.logistic (gi 0 + gh 0) * Ideal.tanh (gi 2 + Ideal.logistic (gi 1 + gh 1) * gh 2)

/-- The state after `n` steps: zero, then one update per step `n` of the sequence `x n`, with the attention weights `a n`,
    the input's weights `wi` (scales `si`, biases `bi`) and the state's weights `wh` (scales `sh`, biases `bh`). -/
def hidden (x : ℕ → Fin 240 → Fin 96 → EReal) (a : ℕ → Fin 240 → EReal) (wi wh : Fin 96 → Fin 3 → Fin 96 → EReal)
    (si bi sh bh : Fin 3 → Fin 96 → EReal) : ℕ → Fin 240 → Fin 96 → EReal
  | 0 => fun _ _ => 0
  | n + 1 => fun b j => update (fun g => affine (x n b) (fun k => wi k g j) (si g j) (bi g j))
      (fun g => affine (hidden x a wi wh si bi sh bh n b) (fun k => wh k g j) (sh g j) (bh g j)) (a n b)
      (hidden x a wi wh si bi sh bh n b j)

/-- A sum over 128 terms whose last 32 vanish is the sum over the first 96. -/
theorem sum_padded (f : Fin 128 → EReal) (h : ∀ k : Fin 128, 96 ≤ k.val → f k = 0) :
    ∑ k, f k = ∑ k : Fin 96, f ⟨k.val, by omega⟩ := by
  have e := Fin.sum_univ_add (a := 96) (b := 32) f
  rw [show (∑ k, f k) = ∑ k : Fin (96 + 32), f k from rfl, e]
  have z : ∑ i : Fin 32, f (Fin.natAdd 96 i) = 0 := Finset.sum_eq_zero fun i _ => h _ (by simp)
  rw [z, add_zero]
  rfl

end Cert.Evolve

end
-- ==== Proof.StepValue.lean ====
/-
  One grid point's arithmetic at an index, over the extended reals: the new state's element `(b, j)` is `Evolve.update`
  of the two gate products' elements there.
-/
module

public import proofs.«01_k».proof.Proof.Fold
public import proofs.«01_k».proof.Proof.Math
public import Idealize.ShloMosaic.Lib.MatmulPlain

@[expose] public section

noncomputable section

open Idealize.ShloMosaic Idealize.ShloMosaic.ValueIdx
open scoped BigOperators

namespace Cert.KernelIdeal.StepValue

open Cert.KernelIdeal Cert.KernelIdeal.Gen Cert.KernelIdeal.Fold

/-- A product of the kernel read at `(b, q)`: the sum over the 128 columns and rows. -/
theorem product_apply (l : FVec Ideal S240x128 .bf16) (r : FVec Ideal S128x384 .bf16) (b : Fin 240) (q : Fin 384) :
    (matmul (F := Ideal) dot_S240x128_S128x384_S240x384_1_0_0_1_n_n none l r (constant S240x384 .f32 0x00000000#32)) (ix2 b q)
      = ∑ k : Fin 128, l (ix2 b k) * r (ix2 k q) := by
  have := Ideal.matmul_plain_apply (M := 240) (K := 128) (N := 384) none l r (constant S240x384 .f32 0x00000000#32) b q
  refine Eq.trans this ?_
  rw [constant_apply]
  simp

/-- A row of the kernel's scales or biases, spread over the rows, read at `(b, q)`. -/
theorem row_apply (v : FVec Ideal S1x384 .f32) (b : Fin 240) (q : Fin 384) :
    broadcastTo S240x384 v broadcasts_S1x384_S240x384 (ix2 b q) = v (ix2 0 q) :=
  broadcastTo_apply v _ _ _ fun a => by
    match a with
    | ⟨0, _⟩ => rfl
    | ⟨1, _⟩ => rfl

/-- The input's gates before the activations at `(b, q)`. -/
theorem gi_apply (x0 : Vec Ideal S1x240x128 .bf16) (x2 : Vec Ideal S128x384 .bf16) (x3 x4 : Vec Ideal S1x384 .f32)
    (b : Fin 240) (q : Fin 384) :
    k0_pay5 x0 x2 x3 x4 (ix2 b q) = (∑ k : Fin 128, x0 (ix3 0 b k) * x2 (ix2 k q)) * x3 (ix2 0 q) + x4 (ix2 0 q) := by
  unfold k0_pay5
  rw [addf_apply, mulf_apply, product_apply, row_apply, row_apply]
  simp only [shapeCast_self]
  congr 2
  refine Finset.sum_congr rfl fun k _ => congrArg (· * _) ?_
  refine (shapeCast_dropUnit_apply ![240, 128] x0 _ _).trans (congrArg x0 ?_)
  funext a
  match a with
  | ⟨0, _⟩ => rfl
  | ⟨1, _⟩ => rfl
  | ⟨2, _⟩ => rfl

/-- The state's gates before the activations at `(b, q)`. -/
theorem gh_apply (h : Vec Ideal S240x128 .f32) (x5 : Vec Ideal S128x384 .bf16) (x6 x7 : Vec Ideal S1x384 .f32)
    (b : Fin 240) (q : Fin 384) :
    k0_pay6 h x5 x6 x7 (ix2 b q) = (∑ k : Fin 128, h (ix2 b k) * x5 (ix2 k q)) * x6 (ix2 0 q) + x7 (ix2 0 q) := by
  unfold k0_pay6
  rw [addf_apply, mulf_apply, product_apply, row_apply, row_apply]
  simp only [shapeCast_self, truncf_apply]

/-- The column of gate `g` and unit `j` in the padded layout: three gates of 128 columns side by side. -/
def col (g : Fin 3) (j : Fin 128) : Fin 384 := ⟨128 * g.val + j.val, by omega⟩

theorem cut0 (v : FVec Ideal S240x384 .f32) (b : Fin 240) (j : Fin 128) :
    extractStridedSlice S240x128 ![0, 0] v slices_S240x384_o0_0_S240x128 (ix2 b j) = v (ix2 b (col 0 j)) :=
  extractStridedSlice_apply _ v _ _ _ fun a => by
    match a with
    | ⟨0, _⟩ => show b.val = 0 + b.val; omega
    | ⟨1, _⟩ => show 128 * 0 + j.val = 0 + j.val; omega
theorem cut1 (v : FVec Ideal S240x384 .f32) (b : Fin 240) (j : Fin 128) :
    extractStridedSlice S240x128 ![0, 128] v slices_S240x384_o0_128_S240x128 (ix2 b j) = v (ix2 b (col 1 j)) :=
  extractStridedSlice_apply _ v _ _ _ fun a => by
    match a with
    | ⟨0, _⟩ => show b.val = 0 + b.val; omega
    | ⟨1, _⟩ => show 128 * 1 + j.val = 128 + j.val; omega
theorem cut2 (v : FVec Ideal S240x384 .f32) (b : Fin 240) (j : Fin 128) :
    extractStridedSlice S240x128 ![0, 256] v slices_S240x384_o0_256_S240x128 (ix2 b j) = v (ix2 b (col 2 j)) :=
  extractStridedSlice_apply _ v _ _ _ fun a => by
    match a with
    | ⟨0, _⟩ => show b.val = 0 + b.val; omega
    | ⟨1, _⟩ => show 128 * 2 + j.val = 256 + j.val; omega

/-- The attention weight of row `b`. -/
theorem att_apply (x1 : Vec Ideal S1x240x1 .f32) (b : Fin 240) (j : Fin 128) :
    broadcastTo S240x128 (k0_pay7 x1) broadcasts_S240x1_S240x128 (ix2 b j) = x1 (ix3 0 b 0) := by
  refine (broadcastTo_apply _ _ _ (ix2 b (0 : Fin 1)) fun a => by
    match a with
    | ⟨0, _⟩ => rfl
    | ⟨1, _⟩ => rfl).trans ?_
  unfold k0_pay7
  refine (shapeCast_dropUnit_apply ![240, 1] x1 _ _).trans (congrArg x1 ?_)
  funext a
  match a with
  | ⟨0, _⟩ => rfl
  | ⟨1, _⟩ => rfl
  | ⟨2, _⟩ => rfl

/-- The new state at `(b, j)`. -/
theorem stepK_apply (x0 : Vec Ideal S1x240x128 .bf16) (x1 : Vec Ideal S1x240x1 .f32) (x2 : Vec Ideal S128x384 .bf16)
    (x3 x4 : Vec Ideal S1x384 .f32) (x5 : Vec Ideal S128x384 .bf16) (x6 x7 : Vec Ideal S1x384 .f32)
    (h : Vec Ideal S240x128 .f32) (b : Fin 240) (j : Fin 128) :
    stepK x0 x1 x2 x3 x4 x5 x6 x7 h (ix2 b j)
      = Evolve.update (fun g => (∑ k : Fin 128, x0 (ix3 0 b k) * x2 (ix2 k (col g j))) * x3 (ix2 0 (col g j)) + x4 (ix2 0 (col g j)))
          (fun g => (∑ k : Fin 128, h (ix2 b k) * x5 (ix2 k (col g j))) * x6 (ix2 0 (col g j)) + x7 (ix2 0 (col g j)))
          (x1 (ix3 0 b 0)) (h (ix2 b j)) := by
  have one : broadcast S240x128 (Scalar.ofBits (F := Ideal) .f32 0x3F800000#32) (ix2 b j) = (1 : EReal) := Ideal.ofBits_one_f32
  have e5 : (fun g : Fin 3 => (∑ k : Fin 128, x0 (ix3 0 b k) * x2 (ix2 k (col g j))) * x3 (ix2 0 (col g j)) + x4 (ix2 0 (col g j)))
      = fun g => k0_pay5 x0 x2 x3 x4 (ix2 b (col g j)) := funext fun g => (gi_apply x0 x2 x3 x4 b (col g j)).symm
  have e6 : (fun g : Fin 3 => (∑ k : Fin 128, h (ix2 b k) * x5 (ix2 k (col g j))) * x6 (ix2 0 (col g j)) + x7 (ix2 0 (col g j)))
      = fun g => k0_pay6 h x5 x6 x7 (ix2 b (col g j)) := funext fun g => (gh_apply h x5 x6 x7 b (col g j)).symm
  rw [e5, e6]
  unfold Evolve.update
  beta_reduce
  rw [← cut0 (k0_pay5 x0 x2 x3 x4) b j, ← cut0 (k0_pay6 h x5 x6 x7) b j, ← cut1 (k0_pay5 x0 x2 x3 x4) b j,
    ← cut1 (k0_pay6 h x5 x6 x7) b j, ← cut2 (k0_pay5 x0 x2 x3 x4) b j, ← cut2 (k0_pay6 h x5 x6 x7) b j, ← att_apply x1 b j, ← one]
  unfold stepK k0_pay1 k0_pay8
  rfl

end Cert.KernelIdeal.StepValue

end
-- ==== Proof.Inputs.lean ====
/-
  What the kernel's windows hold, over the extended reals, in terms of the program's arguments: each point's blocks of the
  sequence and of the attention weights, and the weights, scales and biases with every gate padded from 96 to 128 columns
  (and the weights' rows from 96 to 128 by zeros).
-/
module

public import proofs.«01_k».proof.Proof.StepValue
public import Idealize.ShloMosaic.Lib.KernelVsHost

@[expose] public section

noncomputable section

open Idealize.ShloMosaic Idealize.ShloMosaic.TcCoe Idealize.ShloMosaic.ValueIdx
open scoped BigOperators

namespace Cert.KernelIdeal.Inputs

open Cert.KernelIdeal Cert.KernelIdeal.Gen Cert.KernelIdeal.StepValue

/-- Weights in the padded layout. -/
def padW (w : FVec Ideal S96x3x96 .bf16) : FVec Ideal S128x384 .bf16 :=
  pad S128x384 ![0, 0] ![32, 0] ![0, 0]
    (shapeCast S96x384 (pad S96x3x128 ![0, 0, 0] ![0, 0, 32] ![0, 0, 0] w (sitofp (F := Ideal) .bf16 (constantI S_ 32 0#32))
      pads_S96x3x96_S96x3x128_000_000_0320 h_S_) shapeCasts_S96x3x128_S96x384)
    (sitofp (F := Ideal) .bf16 (constantI S_ 32 0#32)) pads_S96x384_S128x384_0320_000 h_S_

/-- Scales or biases in the padded layout. -/
def padV (v : FVec Ideal S3x96 .f32) : FVec Ideal S1x384 .f32 :=
  shapeCast S1x384 (pad S3x128 ![0, 0] ![0, 32] ![0, 0] v (sitofp (F := Ideal) .f32 (constantI S_ 32 0#32))
    pads_S3x96_S3x128_000_0320 h_S_) shapeCasts_S3x128_S1x384

/-- The padding value is zero. -/
theorem pad16 : sitofp (F := Ideal) .bf16 (constantI S_ 32 0#32) (Shape.Idx.first h_S_) = (0 : EReal) := by
  rw [sitofp_apply]
  show ((((0#32 : BitVec 32).toInt : ℝ)) : EReal) = 0
  simp

/-- The padded weights' element at a row below 96: gate `g`, unit `j`. -/
theorem padW_in (w : FVec Ideal S96x3x96 .bf16) (k : Fin 96) (g : Fin 3) (j : Fin 96) :
    padW w (ix2 (⟨k.val, by omega⟩ : Fin 128) (col g ⟨j.val, by omega⟩)) = w (ix3 k g j) := by
  unfold padW
  refine (pad_apply_of_inside _ _ _ _ _ _ _ _ (ix2 k (col g ⟨j.val, by omega⟩)) fun a => by
    match a with
    | ⟨0, _⟩ => show k.val = 0 + k.val * (0 + 1); omega
    | ⟨1, _⟩ => show 128 * g.val + j.val = 0 + (128 * g.val + j.val) * (0 + 1); omega).trans ?_
  refine (shapeCast_apply _ _ _ (ix3 k g (⟨j.val, by omega⟩ : Fin 128)) (by
    rw [Shape.rowMajor_val_three, Shape.rowMajor_val_two]
    show (k.val * 3 + g.val) * 128 + j.val = k.val * 384 + (128 * g.val + j.val); omega)).trans ?_
  exact pad_apply_of_inside _ _ _ _ _ _ _ _ (ix3 k g j) fun a => by
    match a with
    | ⟨0, _⟩ => show k.val = 0 + k.val * (0 + 1); omega
    | ⟨1, _⟩ => show g.val = 0 + g.val * (0 + 1); omega
    | ⟨2, _⟩ => show j.val = 0 + j.val * (0 + 1); omega

/-- The padded weights' rows from 96 on are zero. -/
theorem padW_out (w : FVec Ideal S96x3x96 .bf16) (k : Fin 128) (hk : 96 ≤ k.val) (q : Fin 384) : padW w (ix2 k q) = (0 : EReal) := by
  unfold padW
  refine (pad_apply_of_not_inside _ _ _ _ _ _ _ _ (0 : Fin 2) ?_).trans pad16
  rintro ⟨-, -, h3⟩
  have : (k.val - 0) / (0 + 1) < 96 := h3
  omega

/-- The padded scales' or biases' element: gate `g`, unit `j`. -/
theorem padV_in (v : FVec Ideal S3x96 .f32) (g : Fin 3) (j : Fin 96) : padV v (ix2 0 (col g ⟨j.val, by omega⟩)) = v (ix2 g j) := by
  unfold padV
  refine (shapeCast_apply _ _ _ (ix2 g (⟨j.val, by omega⟩ : Fin 128)) (by
    rw [Shape.rowMajor_val_two, Shape.rowMajor_val_two]
    show g.val * 128 + j.val = 0 * 384 + (128 * g.val + j.val); omega)).trans ?_
  exact pad_apply_of_inside _ _ _ _ _ _ _ _ (ix2 g j) fun a => by
    match a with
    | ⟨0, _⟩ => show g.val = 0 + g.val * (0 + 1); omega
    | ⟨1, _⟩ => show j.val = 0 + j.val * (0 + 1); omega

section arrays
variable (m : (ℓ : Loc nD τ sig) → Buf (Elt Ideal) ℓ) (c : Dev nD)

set_option maxRecDepth 8192 in
theorem V_v1 : V m c main_v1 = shapeCast S512x240x1 (transpose S512x240 [1, 0] (m ((c : Thread nD τ).loc main_arg1)) transposes_S240x512_S512x240_1_0) shapeCasts_S512x240_S512x240x1 := by
  unfold V V0
  simp only [List.flatten_cons, List.flatten_nil, List.append_nil, List.cons_append, List.nil_append]
  after_results
  rfl

set_option maxRecDepth 8192 in
theorem V_v4 : V m c main_v4 = padW (m ((c : Thread nD τ).loc main_arg2)) := by
  unfold V V0
  simp only [List.flatten_cons, List.flatten_nil, List.append_nil, List.cons_append, List.nil_append]
  after_results
  rfl
set_option maxRecDepth 8192 in
theorem V_v6 : V m c main_v6 = padV (m ((c : Thread nD τ).loc main_arg3)) := by
  unfold V V0
  simp only [List.flatten_cons, List.flatten_nil, List.append_nil, List.cons_append, List.nil_append]
  after_results
  rfl
set_option maxRecDepth 8192 in
theorem V_v8 : V m c main_v8 = padV (m ((c : Thread nD τ).loc main_arg6)) := by
  unfold V V0
  simp only [List.flatten_cons, List.flatten_nil, List.append_nil, List.cons_append, List.nil_append]
  after_results
  rfl
set_option maxRecDepth 8192 in
theorem V_v11 : V m c main_v11 = padW (m ((c : Thread nD τ).loc main_arg4)) := by
  unfold V V0
  simp only [List.flatten_cons, List.flatten_nil, List.append_nil, List.cons_append, List.nil_append]
  after_results
  rfl
set_option maxRecDepth 8192 in
theorem V_v13 : V m c main_v13 = padV (m ((c : Thread nD τ).loc main_arg5)) := by
  unfold V V0
  simp only [List.flatten_cons, List.flatten_nil, List.append_nil, List.cons_append, List.nil_append]
  after_results
  rfl
set_option maxRecDepth 8192 in
theorem V_v15 : V m c main_v15 = padV (m ((c : Thread nD τ).loc main_arg7)) := by
  unfold V V0
  simp only [List.flatten_cons, List.flatten_nil, List.append_nil, List.cons_append, List.nil_append]
  after_results
  rfl

/-- A window over the whole of an array of two axes holds the array at every point. -/
theorem iblk2 (t : Fin cfg0.N) : (iblk m c 2 t : Vec Ideal S128x384 .bf16) = padW (m ((c : Thread nD τ).loc main_arg2)) := by
  rw [← V_v4]
  unfold iblk
  have hz' : (fun a => win0_2.index t a * main_v4.ty.shape.size a) = fun _ => 0 := funext fun a => by
    match a with
    | ⟨0, _⟩ => rfl
    | ⟨1, _⟩ => rfl
  exact Memref.read_access_unit_zero (Elt Ideal) main_v4 hz' (fun a => by rw [congrFun hz' a]; simp) (V m c main_v4)
theorem iblk3 (t : Fin cfg0.N) : (iblk m c 3 t : Vec Ideal S1x384 .f32) = padV (m ((c : Thread nD τ).loc main_arg3)) := by
  rw [← V_v6]
  unfold iblk
  have hz' : (fun a => win0_3.index t a * main_v6.ty.shape.size a) = fun _ => 0 := funext fun a => by
    match a with
    | ⟨0, _⟩ => rfl
    | ⟨1, _⟩ => rfl
  exact Memref.read_access_unit_zero (Elt Ideal) main_v6 hz' (fun a => by rw [congrFun hz' a]; simp) (V m c main_v6)
theorem iblk4 (t : Fin cfg0.N) : (iblk m c 4 t : Vec Ideal S1x384 .f32) = padV (m ((c : Thread nD τ).loc main_arg6)) := by
  rw [← V_v8]
  unfold iblk
  have hz' : (fun a => win0_4.index t a * main_v8.ty.shape.size a) = fun _ => 0 := funext fun a => by
    match a with
    | ⟨0, _⟩ => rfl
    | ⟨1, _⟩ => rfl
  exact Memref.read_access_unit_zero (Elt Ideal) main_v8 hz' (fun a => by rw [congrFun hz' a]; simp) (V m c main_v8)
theorem iblk5 (t : Fin cfg0.N) : (iblk m c 5 t : Vec Ideal S128x384 .bf16) = padW (m ((c : Thread nD τ).loc main_arg4)) := by
  rw [← V_v11]
  unfold iblk
  have hz' : (fun a => win0_5.index t a * main_v11.ty.shape.size a) = fun _ => 0 := funext fun a => by
    match a with
    | ⟨0, _⟩ => rfl
    | ⟨1, _⟩ => rfl
  exact Memref.read_access_unit_zero (Elt Ideal) main_v11 hz' (fun a => by rw [congrFun hz' a]; simp) (V m c main_v11)
theorem iblk6 (t : Fin cfg0.N) : (iblk m c 6 t : Vec Ideal S1x384 .f32) = padV (m ((c : Thread nD τ).loc main_arg5)) := by
  rw [← V_v13]
  unfold iblk
  have hz' : (fun a => win0_6.index t a * main_v13.ty.shape.size a) = fun _ => 0 := funext fun a => by
    match a with
    | ⟨0, _⟩ => rfl
    | ⟨1, _⟩ => rfl
  exact Memref.read_access_unit_zero (Elt Ideal) main_v13 hz' (fun a => by rw [congrFun hz' a]; simp) (V m c main_v13)
theorem iblk7 (t : Fin cfg0.N) : (iblk m c 7 t : Vec Ideal S1x384 .f32) = padV (m ((c : Thread nD τ).loc main_arg7)) := by
  rw [← V_v15]
  unfold iblk
  have hz' : (fun a => win0_7.index t a * main_v15.ty.shape.size a) = fun _ => 0 := funext fun a => by
    match a with
    | ⟨0, _⟩ => rfl
    | ⟨1, _⟩ => rfl
  exact Memref.read_access_unit_zero (Elt Ideal) main_v15 hz' (fun a => by rw [congrFun hz' a]; simp) (V m c main_v15)

theorem coord (t : Fin cfg0.N) : (grid0.coords t 0).val = t.val := by
  have hN : cfg0.N = 512 := N_0
  have := t.isLt
  rw [Pipeline.Grid.coords_val t 0 (S := 1) (B := 512) (by decide +kernel) rfl]
  omega

theorem index0 (t : Fin cfg0.N) : win0_0.index t 0 = t.val := by
  have hN : cfg0.N = 512 := N_0
  have := t.isLt
  show (BitVec.ofNat 32 (grid0.coords t 0).val).toNat = t.val
  rw [coord, BitVec.toNat_ofNat]; omega

theorem index1 (t : Fin cfg0.N) : win0_1.index t 0 = t.val := by
  have hN : cfg0.N = 512 := N_0
  have := t.isLt
  show (BitVec.ofNat 32 (grid0.coords t 0).val).toNat = t.val
  rw [coord, BitVec.toNat_ofNat]; omega

/-- The point's block of the sequence. -/
theorem iblk0_apply (n : ℕ) (hn : n < cfg0.N) (hn' : n < 512) (b : Fin 240) (k : Fin 128) :
    (iblk m c 0 ⟨n, hn⟩ : Vec Ideal S1x240x128 .bf16) (ix3 0 b k) = m ((c : Thread nD τ).loc main_arg0) (ix3 ⟨n, hn'⟩ b k) := by
  rw [show m ((c : Thread nD τ).loc main_arg0) = V m c main_arg0 from (V_main_arg0 m c).symm]
  unfold iblk
  rw [View.read_apply]
  show V m c main_arg0 _ = V m c main_arg0 _
  congr 1
  funext a
  apply Fin.ext
  match a with
  | ⟨0, _⟩ => show win0_0.index ⟨n, hn⟩ 0 * 1 + 1 * 0 = n; rw [show win0_0.index ⟨n, hn⟩ 0 = n from index0 _]; omega
  | ⟨1, _⟩ => show win0_0.index ⟨n, hn⟩ 1 * 240 + 1 * b.val = b.val; rw [show win0_0.index ⟨n, hn⟩ 1 = 0 from rfl]; omega
  | ⟨2, _⟩ => show win0_0.index ⟨n, hn⟩ 2 * 128 + 1 * k.val = k.val; rw [show win0_0.index ⟨n, hn⟩ 2 = 0 from rfl]; omega

/-- The point's attention weights. -/
theorem iblk1_apply (n : ℕ) (hn : n < cfg0.N) (hn' : n < 512) (b : Fin 240) :
    (iblk m c 1 ⟨n, hn⟩ : Vec Ideal S1x240x1 .f32) (ix3 0 b 0) = m ((c : Thread nD τ).loc main_arg1) (ix2 b ⟨n, hn'⟩) := by
  have e : V m c main_v1 (ix3 ⟨n, hn'⟩ b (0 : Fin 1)) = m ((c : Thread nD τ).loc main_arg1) (ix2 b ⟨n, hn'⟩) := by
    rw [V_v1]
    refine (shapeCast_apply _ _ _ (ix2 (⟨n, hn'⟩ : Fin 512) b) (by
      rw [Shape.rowMajor_val_three, Shape.rowMajor_val_two]
      show n * 240 + b.val = (n * 240 + b.val) * 1 + 0; omega)).trans ?_
    exact transpose_apply _ _ _ _ (ix2 b (⟨n, hn'⟩ : Fin 512)) fun a => by
      match a with
      | ⟨0, _⟩ => rfl
      | ⟨1, _⟩ => rfl
  rw [← e]
  unfold iblk
  rw [View.read_apply]
  show V m c main_v1 _ = V m c main_v1 _
  congr 1
  funext a
  apply Fin.ext
  match a with
  | ⟨0, _⟩ => show win0_1.index ⟨n, hn⟩ 0 * 1 + 1 * 0 = n; rw [show win0_1.index ⟨n, hn⟩ 0 = n from index1 _]; omega
  | ⟨1, _⟩ => show win0_1.index ⟨n, hn⟩ 1 * 240 + 1 * b.val = b.val; rw [show win0_1.index ⟨n, hn⟩ 1 = 0 from rfl]; omega
  | ⟨2, _⟩ => show win0_1.index ⟨n, hn⟩ 2 * 1 + 1 * 0 = 0; rw [show win0_1.index ⟨n, hn⟩ 2 = 0 from rfl]
end arrays

end Cert.KernelIdeal.Inputs

end
-- ==== Proof.RefValue.lean ====
/-
  The reference's state after `n` steps at an index, over the extended reals: it is `Evolve.hidden` of the arguments.
-/
module

public import proofs.«01_k».proof.Proof.Gen.ReferenceIdeal.StepRun
public import proofs.«01_k».proof.Proof.Math
public import Idealize.ShloMosaic.Lib.WordCmp
public import Idealize.ShloMosaic.Lib.Pipeline.Value

@[expose] public section

noncomputable section

open Idealize.ShloMosaic Idealize.ShloMosaic.TcCoe Idealize.ShloMosaic.ValueIdx
open scoped BigOperators

namespace Cert.ReferenceIdeal.RefValue

open Cert.ReferenceIdeal Cert.ReferenceIdeal.Gen Cert.ReferenceIdeal.Step

/-- The product of the state and its weights at gate `g`, unit `j`, row `b`. -/
theorem dotH_apply (w : FVec Ideal S96x3x96 .bf16) (h : FVec Ideal S240x96 .bf16) (g : Fin 3) (j : Fin 96) (b : Fin 240) :
    Host.dotGeneral (F := Ideal) dot_S96x3x96_S240x96_S3x96x240_0_1_12_0_n_n none w h (ix3 g j b)
      = ∑ k : Fin 96, w (ix3 k g j) * h (ix2 b k) := by
  let D := dot_S96x3x96_S240x96_S3x96x240_0_1_12_0_n_n
  let e := contrEquiv1 D 96 rfl rfl
  refine (Ideal.dotGeneral_apply D none _ w h _).trans ?_
  rw [← Equiv.sum_comp e.symm]
  refine Finset.sum_congr rfl fun k _ => ?_
  have hk := contrEquiv1_symm_val D 96 rfl rfl k
  have el : D.lhsIdx (ix3 g j b) (e.symm k) = ix3 k g j := by
    funext a; apply Fin.ext
    match a with
    | ⟨0, _⟩ => exact hk
    | ⟨1, _⟩ => rfl
    | ⟨2, _⟩ => rfl
  have er : D.rhsIdx (ix3 g j b) (e.symm k) = ix2 b k := by
    funext a; apply Fin.ext
    match a with
    | ⟨0, _⟩ => rfl
    | ⟨1, _⟩ => exact hk
  rw [el, er]

/-- The product of the sequence and the input's weights at gate `g`, unit `j`, step `s`, row `b`. -/
theorem dotI_apply (w : FVec Ideal S96x3x96 .bf16) (x : FVec Ideal S512x240x96 .bf16) (g : Fin 3) (j : Fin 96) (s : Fin 512) (b : Fin 240) :
    Host.dotGeneral (F := Ideal) dot_S96x3x96_S512x240x96_S3x96x512x240_0_2_12_01_n_n none w x (ix4 g j s b)
      = ∑ k : Fin 96, w (ix3 k g j) * x (ix3 s b k) := by
  let D := dot_S96x3x96_S512x240x96_S3x96x512x240_0_2_12_01_n_n
  let e := contrEquiv1 D 96 rfl rfl
  refine (Ideal.dotGeneral_apply D none _ w x _).trans ?_
  rw [← Equiv.sum_comp e.symm]
  refine Finset.sum_congr rfl fun k _ => ?_
  have hk := contrEquiv1_symm_val D 96 rfl rfl k
  have el : D.lhsIdx (ix4 g j s b) (e.symm k) = ix3 k g j := by
    funext a; apply Fin.ext
    match a with
    | ⟨0, _⟩ => exact hk
    | ⟨1, _⟩ => rfl
    | ⟨2, _⟩ => rfl
  have er : D.rhsIdx (ix4 g j s b) (e.symm k) = ix3 s b k := by
    funext a; apply Fin.ext
    match a with
    | ⟨0, _⟩ => rfl
    | ⟨1, _⟩ => rfl
    | ⟨2, _⟩ => exact hk
  rw [el, er]

/-- A row of scales or biases, spread over the rows, at `(g, b, j)`. -/
theorem spread3 (v : FVec Ideal S3x96 .f32) (g : Fin 3) (b : Fin 240) (j : Fin 96) :
    broadcastInDim S3x240x96 ![0, 1, 2] bcast_S3x1x96_S3x240x96_0_1_2 (broadcastInDim S3x1x96 ![0, 2] bcast_S3x96_S3x1x96_0_2 v) (ix3 g b j)
      = v (ix2 g j) := by
  refine (broadcastInDim_apply _ _ _ _ (ix3 g (0 : Fin 1) j) fun a => by
    match a with
    | ⟨0, _⟩ => rfl
    | ⟨1, _⟩ => rfl
    | ⟨2, _⟩ => rfl).trans ?_
  exact broadcastInDim_apply _ _ _ _ (ix2 g j) fun a => by
    match a with
    | ⟨0, _⟩ => rfl
    | ⟨1, _⟩ => rfl

/-- The same at `(s, g, b, j)`. -/
theorem spread4 (v : FVec Ideal S3x96 .f32) (s : Fin 512) (g : Fin 3) (b : Fin 240) (j : Fin 96) :
    broadcastInDim S512x3x240x96 ![0, 1, 2, 3] bcast_S1x3x1x96_S512x3x240x96_0_1_2_3 (broadcastInDim S1x3x1x96 ![1, 3] bcast_S3x96_S1x3x1x96_1_3 v) (ix4 s g b j)
      = v (ix2 g j) := by
  refine (broadcastInDim_apply _ _ _ _ (ix4 (0 : Fin 1) g (0 : Fin 1) j) fun a => by
    match a with
    | ⟨0, _⟩ => rfl
    | ⟨1, _⟩ => rfl
    | ⟨2, _⟩ => rfl
    | ⟨3, _⟩ => rfl).trans ?_
  exact broadcastInDim_apply _ _ _ _ (ix2 g j) fun a => by
    match a with
    | ⟨0, _⟩ => rfl
    | ⟨1, _⟩ => rfl

/-- The input's gates at `(s, g, b, j)`. -/
theorem gi_apply (x : FVec Ideal S512x240x128 .bf16) (a : FVec Ideal S240x512 .f32) (w : FVec Ideal S96x3x96 .bf16)
    (sc bi : FVec Ideal S3x96 .f32) (s : Fin 512) (g : Fin 3) (b : Fin 240) (j : Fin 96) :
    A_main_v8 (F := Ideal) x a w sc bi (ix4 s g b j)
      = Evolve.affine (fun k => x (ix3 s b ⟨k.val, by omega⟩)) (fun k => w (ix3 k g j)) (sc (ix2 g j)) (bi (ix2 g j)) := by
  unfold A_main_v8 A_main_v7 A_main_v6 A_main_v5 A_main_v4 A_main_v3 A_main_v2 A_main_v1 A_main_v0
  rw [addf_apply, mulf_apply, spread4, spread4]
  unfold Evolve.affine
  congr 2
  refine (transpose_apply _ _ _ _ (ix4 g j s b) fun a => by
    match a with
    | ⟨0, _⟩ => rfl
    | ⟨1, _⟩ => rfl
    | ⟨2, _⟩ => rfl
    | ⟨3, _⟩ => rfl).trans ?_
  rw [dotI_apply]
  refine Finset.sum_congr rfl fun k _ => ?_
  rw [mul_comm]
  refine congrArg (· * _) ?_
  exact extractStridedSlice_apply _ _ _ _ _ fun a => by
    match a with
    | ⟨0, _⟩ => show s.val = 0 + s.val; omega
    | ⟨1, _⟩ => show b.val = 0 + b.val; omega
    | ⟨2, _⟩ => show k.val = 0 + k.val; omega

/-- The attention weights, step first. -/
theorem att_apply (x : FVec Ideal S512x240x128 .bf16) (a : FVec Ideal S240x512 .f32) (w : FVec Ideal S96x3x96 .bf16)
    (sc bi : FVec Ideal S3x96 .f32) (s : Fin 512) (b : Fin 240) : A_main_v10 (F := Ideal) x a w sc bi (ix2 s b) = a (ix2 b s) := by
  unfold A_main_v10
  exact transpose_apply _ _ _ _ (ix2 b s) fun a => by
    match a with
    | ⟨0, _⟩ => rfl
    | ⟨1, _⟩ => rfl

/-- The trip's word is its number. -/
theorem toInt_trip (n : ℕ) (hn : n < 512) : (BitVec.ofNat 32 n).toInt = (n : Int) := by
  rw [BitVec.toInt_ofNat', Int.bmod_eq_of_le] <;> omega

theorem b3_fits (n : ℕ) (hn : n < 512) : S512x3x240x96.Slices ![n, 0, 0, 0] S1x3x240x96 := ⟨rfl, fun a => by
  match a with
  | ⟨0, _⟩ => show n + 1 ≤ 512; omega
  | ⟨1, _⟩ => show 0 + 3 ≤ 3; omega
  | ⟨2, _⟩ => show 0 + 240 ≤ 240; omega
  | ⟨3, _⟩ => show 0 + 96 ≤ 96; omega⟩
theorem b6_fits (n : ℕ) (hn : n < 512) : S512x240.Slices ![n, 0] S1x240 := ⟨rfl, fun a => by
  match a with
  | ⟨0, _⟩ => show n + 1 ≤ 512; omega
  | ⟨1, _⟩ => show 0 + 240 ≤ 240; omega⟩

theorem b3_eq (n : ℕ) (hn : n < 512) (s : State Ideal) :
    b3 n s = extractStridedSlice S1x3x240x96 ![n, 0, 0, 0] s.main_v11_0 (b3_fits n hn) :=
  WordCmp.dynamicSlice_eq_extract _ _ _ _ _ (b3_fits n hn) fun a => by
    match a with
    | ⟨0, _⟩ => exact toInt_trip n hn
    | ⟨1, _⟩ => rfl
    | ⟨2, _⟩ => rfl
    | ⟨3, _⟩ => rfl
theorem b6_eq (n : ℕ) (hn : n < 512) (s : State Ideal) :
    b6 n s = extractStridedSlice S1x240 ![n, 0] s.main_v11_1 (b6_fits n hn) :=
  WordCmp.dynamicSlice_eq_extract _ _ _ _ _ (b6_fits n hn) fun a => by
    match a with
    | ⟨0, _⟩ => exact toInt_trip n hn
    | ⟨1, _⟩ => rfl

/-- The trip's slice of the input's gates. -/
theorem b4_apply (n : ℕ) (hn : n < 512) (s : State Ideal) (g : Fin 3) (b : Fin 240) (j : Fin 96) :
    b4 n s (ix3 g b j) = s.main_v11_0 (ix4 ⟨n, hn⟩ g b j) := by
  unfold b4
  rw [b3_eq n hn s]
  refine (shapeCast_dropUnit_apply ![3, 240, 96] _ _ _).trans ?_
  exact extractStridedSlice_apply _ _ _ _ _ fun a => by
    match a with
    | ⟨0, _⟩ => show n = n + 0; omega
    | ⟨1, _⟩ => show g.val = 0 + g.val; omega
    | ⟨2, _⟩ => show b.val = 0 + b.val; omega
    | ⟨3, _⟩ => show j.val = 0 + j.val; omega

/-- The trip's attention weight of row `b`. -/
theorem b7_apply (n : ℕ) (hn : n < 512) (s : State Ideal) (b : Fin 240) :
    b7 n s (ix1 b) = s.main_v11_1 (ix2 ⟨n, hn⟩ b) := by
  unfold b7
  rw [b6_eq n hn s]
  refine (shapeCast_dropUnit_apply ![240] _ _ _).trans ?_
  exact extractStridedSlice_apply _ _ _ _ _ fun a => by
    match a with
    | ⟨0, _⟩ => show n = n + 0; omega
    | ⟨1, _⟩ => show b.val = 0 + b.val; omega

/-- The state's gates at `(g, b, j)`. -/
theorem b16_apply (n : ℕ) (s : State Ideal) (g : Fin 3) (b : Fin 240) (j : Fin 96) :
    b16 n s (ix3 g b j) = Evolve.affine (fun k => s.main_v11_6 (ix2 b k)) (fun k => s.main_v11_2 (ix3 k g j))
      (s.main_v11_3 (ix2 g j)) (s.main_v11_4 (ix2 g j)) := by
  unfold b16 b15 b14 b13 b12 b11 b10 b9 b8
  rw [addf_apply, mulf_apply, spread3, spread3]
  unfold Evolve.affine
  congr 2
  refine (transpose_apply _ _ _ _ (ix3 g j b) fun a => by
    match a with
    | ⟨0, _⟩ => rfl
    | ⟨1, _⟩ => rfl
    | ⟨2, _⟩ => rfl).trans ?_
  rw [dotH_apply]
  exact Finset.sum_congr rfl fun k _ => mul_comm _ _

/-- Gate `g` cut out of three, as a matrix. -/
theorem gate_apply (g : Fin 3) (v : FVec Ideal S3x240x96 .f32) (h : S3x240x96.Slices ![g.val, 0, 0] S1x240x96) (b : Fin 240) (j : Fin 96) :
    shapeCast S240x96 (extractStridedSlice S1x240x96 ![g.val, 0, 0] v h) shapeCasts_S1x240x96_S240x96 (ix2 b j) = v (ix3 g b j) := by
  refine (shapeCast_dropUnit_apply ![240, 96] _ _ _).trans ?_
  exact extractStridedSlice_apply _ _ _ _ _ fun a => by
    match a with
    | ⟨0, _⟩ => show g.val = g.val + 0; omega
    | ⟨1, _⟩ => show b.val = 0 + b.val; omega
    | ⟨2, _⟩ => show j.val = 0 + j.val; omega

/-- The constant one, spread. -/
theorem one_apply (i : S240x96.Idx) : broadcastInDim S240x96 ![] bcast_S_S240x96 (constant (F := Ideal) S_ .f32 0x3F800000#32) i = (1 : EReal) := by
  rw [broadcastInDim_scalar_apply, constant_apply, Ideal.ofBits_one_f32]

/-- The attention weight spread over the units. -/
theorem b51_apply (n : ℕ) (hn : n < 512) (s : State Ideal) (b : Fin 240) (j : Fin 96) :
    b51 n s (ix2 b j) = s.main_v11_1 (ix2 ⟨n, hn⟩ b) := by
  unfold b51 b50
  refine (broadcastInDim_apply _ _ _ _ (ix2 b (0 : Fin 1)) fun a => by
    match a with
    | ⟨0, _⟩ => rfl
    | ⟨1, _⟩ => rfl).trans ?_
  refine (broadcastInDim_apply _ _ _ _ (ix1 b) fun a => by
    match a with
    | ⟨0, _⟩ => rfl).trans (b7_apply n hn s b)

/-- The new state at `(b, j)`. -/
theorem b58_apply (n : ℕ) (hn : n < 512) (s : State Ideal) (b : Fin 240) (j : Fin 96) :
    b58 n s (ix2 b j) = Evolve.update (fun g => s.main_v11_0 (ix4 ⟨n, hn⟩ g b j))
      (fun g => Evolve.affine (fun k => s.main_v11_6 (ix2 b k)) (fun k => s.main_v11_2 (ix3 k g j)) (s.main_v11_3 (ix2 g j)) (s.main_v11_4 (ix2 g j)))
      (s.main_v11_1 (ix2 ⟨n, hn⟩ b)) (s.main_v11_6 (ix2 b j)) := by
  have u : b29 n s (ix2 b j) = Ideal.logistic (b4 n s (ix3 0 b j) + b16 n s (ix3 0 b j)) := by
    rw [← gate_apply 0 (b4 n s) slices_S3x240x96_S1x240x96_0_0_0 b j, ← gate_apply 0 (b16 n s) slices_S3x240x96_S1x240x96_0_0_0 b j]
    unfold b29 b28 b27 b26 b25 b24 b23 b22 b21 b20 b19 b18 b17
    rw [hostDivf_apply, one_apply, addf_apply, one_apply]
    rfl
  have r : b42 n s (ix2 b j) = Ideal.logistic (b4 n s (ix3 1 b j) + b16 n s (ix3 1 b j)) := by
    rw [← gate_apply 1 (b4 n s) slices_S3x240x96_S1x240x96_1_0_0 b j, ← gate_apply 1 (b16 n s) slices_S3x240x96_S1x240x96_1_0_0 b j]
    unfold b42 b41 b40 b39 b38 b37 b36 b35 b34 b33 b32 b31 b30
    rw [hostDivf_apply, one_apply, addf_apply, one_apply]
    rfl
  have t : b49 n s (ix2 b j) = Ideal.tanh (b4 n s (ix3 2 b j) + b42 n s (ix2 b j) * b16 n s (ix3 2 b j)) := by
    rw [← gate_apply 2 (b4 n s) slices_S3x240x96_S1x240x96_2_0_0 b j, ← gate_apply 2 (b16 n s) slices_S3x240x96_S1x240x96_2_0_0 b j]
    unfold b49 b48 b47 b46 b45 b44 b43
    rfl
  unfold b58 b57 b56 b55 b54 b53 b52
  rw [addf_apply, mulf_apply, mulf_apply, subf_apply, mulf_apply, one_apply, b51_apply n hn, u, t, r]
  simp only [b4_apply n hn, b16_apply]
  rfl

/-- The reference's states, one trip at a time. -/
def it {F : FTy → Type} [FloatOps F] (m : (ℓ : Loc nD τ sig) → Buf (Elt F) ℓ) (c : Dev nD) : ℕ → State F
  | 0 => StepRun.initState m c
  | n + 1 => step n (it m c n)

variable (m : (ℓ : Loc nD τ sig) → Buf (Elt Ideal) ℓ) (c : Dev nD)

/-- What the loop carries unchanged. -/
theorem it_const (n : ℕ) : (it m c n).main_v11_0 = (it m c 0).main_v11_0 ∧ (it m c n).main_v11_1 = (it m c 0).main_v11_1
    ∧ (it m c n).main_v11_2 = (it m c 0).main_v11_2 ∧ (it m c n).main_v11_3 = (it m c 0).main_v11_3 ∧ (it m c n).main_v11_4 = (it m c 0).main_v11_4 := by
  induction n with
  | zero => exact ⟨rfl, rfl, rfl, rfl, rfl⟩
  | succ n ih => exact ih

/-- The mathematics' state of the arguments: `x0` the sequence, `x1` the attention weights, `x2`, `x3`, `x6` the input's
    weights, scales and biases, `x4`, `x5`, `x7` the state's. -/
def spec (x0 : FVec Ideal ⟨3, ![512, 240, 128]⟩ .bf16) (x1 : FVec Ideal ⟨2, ![240, 512]⟩ .f32) (x2 : FVec Ideal ⟨3, ![96, 3, 96]⟩ .bf16)
    (x3 : FVec Ideal ⟨2, ![3, 96]⟩ .f32) (x4 : FVec Ideal ⟨3, ![96, 3, 96]⟩ .bf16) (x5 x6 x7 : FVec Ideal ⟨2, ![3, 96]⟩ .f32) :
    ℕ → Fin 240 → Fin 96 → EReal :=
  Evolve.hidden (fun n b k => if h : n < 512 then x0 (ix3 ⟨n, h⟩ b ⟨k.val, by omega⟩) else 0)
    (fun n b => if h : n < 512 then x1 (ix2 b ⟨n, h⟩) else 0)
    (fun k g j => x2 (ix3 k g j)) (fun k g j => x4 (ix3 k g j)) (fun g j => x3 (ix2 g j)) (fun g j => x6 (ix2 g j))
    (fun g j => x5 (ix2 g j)) (fun g j => x7 (ix2 g j))

/-- The reference's state after `n` trips. -/
theorem it_eq (n : ℕ) (hn : n ≤ 512) (b : Fin 240) (j : Fin 96) :
    (it m c n).main_v11_6 (ix2 b j)
      = spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) n b j := by
  induction n generalizing b j with
  | zero =>
    show K_main_v9 (F := Ideal) (ix2 b j) = 0
    unfold K_main_v9 K_main_cst
    rw [broadcastInDim_scalar_apply, constant_apply]
    simp
  | succ n ih =>
    have hlt : n < 512 := by omega
    show b58 n (it m c n) (ix2 b j) = _
    obtain ⟨h0, h1, h2, h3, h4⟩ := it_const m c n
    have e0 : ∀ g b j, (it m c n).main_v11_0 (ix4 ⟨n, hlt⟩ g b j) = _ := fun g b j =>
      (congrFun h0 _).trans (gi_apply _ _ _ _ _ ⟨n, hlt⟩ g b j)
    have e1 : (it m c n).main_v11_1 (ix2 ⟨n, hlt⟩ b) = m ((c : Thread nD τ).loc main_arg1) (ix2 b ⟨n, hlt⟩) :=
      (congrFun h1 _).trans (att_apply (m ((c : Thread nD τ).loc main_arg0)) _ (m ((c : Thread nD τ).loc main_arg2))
        (m ((c : Thread nD τ).loc main_arg3)) (m ((c : Thread nD τ).loc main_arg6)) ⟨n, hlt⟩ b)
    rw [b58_apply n hlt, h2, h3, h4, e1]
    simp only [e0, ih (by omega)]
    unfold spec
    rw [Evolve.hidden]
    simp only [dif_pos hlt]
    rfl

end Cert.ReferenceIdeal.RefValue

end
-- ==== Proof.Agree.lean ====
/-
  The kernel's result over the extended reals is the reference's: each of the first 96 columns of the kernel's state after
  `n` points is the recursion `Evolve.hidden` after `n` steps, and so is the reference's state after `n` trips.
-/
module

public import proofs.«01_k».proof.Proof.Inputs
public import proofs.«01_k».proof.Proof.RefValue

@[expose] public section

noncomputable section

open Idealize.ShloMosaic Idealize.ShloMosaic.TcCoe Idealize.ShloMosaic.ValueIdx
open scoped BigOperators

namespace Cert.KernelIdeal.Agree

open Cert.KernelIdeal Cert.KernelIdeal.Gen Cert.KernelIdeal.StepValue Cert.KernelIdeal.Inputs Cert.KernelIdeal.Fold

/-- A gate of the padded product is the gate of the product over the first 96 rows. -/
theorem gate_eq (x : Fin 128 → EReal) (w : FVec Ideal S96x3x96 .bf16) (s b : FVec Ideal S3x96 .f32) (g : Fin 3) (j : Fin 96) :
    (∑ k : Fin 128, x k * padW w (ix2 k (col g ⟨j.val, by omega⟩))) * padV s (ix2 0 (col g ⟨j.val, by omega⟩))
        + padV b (ix2 0 (col g ⟨j.val, by omega⟩))
      = Evolve.affine (fun k => x ⟨k.val, by omega⟩) (fun k => w (ix3 k g j)) (s (ix2 g j)) (b (ix2 g j)) := by
  unfold Evolve.affine
  rw [padV_in, padV_in, Evolve.sum_padded _ fun k hk => by rw [padW_out w k hk, mul_zero]]
  simp only [padW_in]

section state
variable (m : (ℓ : Loc nD τ sig) → Buf (Elt Ideal) ℓ) (c : Dev nD)

/-- The kernel's state after `n` points, at one of the first 96 columns. -/
theorem state_eq (n : ℕ) (hn : n ≤ 512) (b : Fin 240) (j : Fin 96) :
    state m c n (ix2 b (⟨j.val, by omega⟩ : Fin 128))
      = Cert.ReferenceIdeal.RefValue.spec (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) n b j := by
  induction n generalizing b j with
  | zero =>
    show k0_pay4 (F := Ideal) (ix2 b (⟨j.val, by omega⟩ : Fin 128)) = 0
    unfold k0_pay4
    simp only [shapeCast_self, broadcast_apply]
    simp
  | succ n ih =>
    have hlt : n < 512 := by omega
    have hN : n < cfg0.N := lt_of_lt_of_eq hlt N_0.symm
    rw [state_succ m c n hN, stepK_apply, iblk2, iblk3, iblk4, iblk5, iblk6, iblk7]
    simp only [gate_eq, iblk0_apply m c n hN hlt, iblk1_apply m c n hN hlt, ih (by omega)]
    unfold Cert.ReferenceIdeal.RefValue.spec
    rw [Evolve.hidden]
    simp only [dif_pos hlt]

/-- The kernel's result at an index. -/
theorem interest_apply (b : Fin 240) (j : Fin 96) :
    interest m c (ix2 b j)
      = Cert.ReferenceIdeal.RefValue.spec (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) 512 b j := by
  unfold interest
  refine (extractStridedSlice_apply _ _ _ _ (ix2 b (⟨j.val, by omega⟩ : Fin 128)) fun a => by
    match a with
    | ⟨0, _⟩ => show b.val = 0 + b.val; omega
    | ⟨1, _⟩ => show j.val = 0 + j.val; omega).trans ?_
  exact state_eq m c 512 le_rfl b j

end state

/-- From memories that agree on the arguments, the kernel's result is the reference's. -/
theorem result_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c : Thread nD τ).loc Cert.ReferenceIdeal.main_arg0) = m ((c : Thread nD τ).loc main_arg0))
    (h1 : m' ((c : Thread nD τ).loc Cert.ReferenceIdeal.main_arg1) = m ((c : Thread nD τ).loc main_arg1))
    (h2 : m' ((c : Thread nD τ).loc Cert.ReferenceIdeal.main_arg2) = m ((c : Thread nD τ).loc main_arg2))
    (h3 : m' ((c : Thread nD τ).loc Cert.ReferenceIdeal.main_arg3) = m ((c : Thread nD τ).loc main_arg3))
    (h4 : m' ((c : Thread nD τ).loc Cert.ReferenceIdeal.main_arg4) = m ((c : Thread nD τ).loc main_arg4))
    (h5 : m' ((c : Thread nD τ).loc Cert.ReferenceIdeal.main_arg5) = m ((c : Thread nD τ).loc main_arg5))
    (h6 : m' ((c : Thread nD τ).loc Cert.ReferenceIdeal.main_arg6) = m ((c : Thread nD τ).loc main_arg6))
    (h7 : m' ((c : Thread nD τ).loc Cert.ReferenceIdeal.main_arg7) = m ((c : Thread nD τ).loc main_arg7)) :
    Cert.ReferenceIdeal.Step.R_main_v12 (Cert.ReferenceIdeal.RefValue.it m' c 512) = interest m c := by
  funext i
  obtain ⟨b, j, rfl⟩ : ∃ (b : Fin 240) (j : Fin 96), i = ix2 b j := ⟨i 0, i 1, eq_ix2 i⟩
  rw [interest_apply]
  refine (Cert.ReferenceIdeal.RefValue.it_eq m' c 512 le_rfl b j).trans ?_
  rw [h0, h1, h2, h3, h4, h5, h6, h7]

end Cert.KernelIdeal.Agree

end
-- ==== Proof.First.Kit.lean ====
/- The program of the first GRU around its one region, stated where a body with copies of its own can be run. -/
module

public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Pipeline.Value
public import Idealize.ShloMosaic.Lib.StableHlo.Run
public import Idealize.ShloMosaic.Lib.Claim
public import proofs.«01_k».proof.Proof.Gen.First.Frame

@[expose] public section

-- membership in a rectangle of production extents (`View.cover_of_tiled`): the elaborator's structural look
-- recurses once per coordinate of the long axes
set_option maxRecDepth 16384

noncomputable section

namespace Cert.First.Region

open Cert.First.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program is the host lines before the region, the region, and the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (Pipeline.UD sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (Pipeline.UD sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (Pipeline.UD sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (Pipeline.UD sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- Window 0's staging buffer holds its block at every point, for any proof data that starts from the region's
    entry contents and leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds its block at every point, for any proof data that starts from the region's
    entry contents and leaves the block in place. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds its block at every point, for any proof data that starts from the region's
    entry contents and leaves the block in place. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's staging buffer holds its block at every point, for any proof data that starts from the region's
    entry contents and leaves the block in place. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4's staging buffer holds its block at every point, for any proof data that starts from the region's
    entry contents and leaves the block in place. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5's staging buffer holds its block at every point, for any proof data that starts from the region's
    entry contents and leaves the block in place. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6's staging buffer holds its block at every point, for any proof data that starts from the region's
    entry contents and leaves the block in place. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7's staging buffer holds its block at every point, for any proof data that starts from the region's
    entry contents and leaves the block in place. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Window 8's staging buffer holds its block at every point, for any proof data that starts from the region's
    entry contents and leaves the block in place. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Window 9's staging buffer holds its block at every point, for any proof data that starts from the region's
    entry contents and leaves the block in place. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Window 10's staging buffer holds its block at every point, for any proof data that starts from the region's
    entry contents and leaves the block in place. -/
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Every argument array ends as launched, from any run of the region to the arrays' final contents. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 4).trans (((dats 0 c).arrAt_in 4 rfl _).trans ((hA c 4).trans (V_main_arg4 m c))),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c))⟩) h

end Cert.First.Region

end
-- ==== Proof.First.Rows.lean ====
/- The gather: 240 rows of the table in HBM copied to the 240 rows of a scratch buffer, every copy signalling ONE
   semaphore, all of them started before the first is waited for. Stated over the rows' offsets, so that both custom
   calls that gather (the target rows, and one step's rows of the history) use the same lemmas.
   The copies are a batch (`Transfers.Batch`) of 240 transfers; transfer `b` delivers row `b` of the scratch at the
   gathered contents and gives back its share of the table's row. -/
module

public import proofs.«01_k».proof.Proof.Gen.First.Launch
public import proofs.«01_k».proof.Proof.Gen.First.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.First.Region

open Cert.First.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The end of a loop's trip. -/
theorem done_bind : ((Prog.ret PUnit.unit : Prog (TpuEff nD τ sig (Elt F) Λ₀ .tc) PUnit).bind fun _ => Pure.pure PUnit.unit) = Prog.ret PUnit.unit := rfl

section Rows

variable (c : Dev nD) (tab : Memref sig .tc .hbm S325000x224 .i32) (buf : Memref sig .tc .vmem S240x224 .i32) (hbuf : buf.IsWhole)
  (sm : DmaSem sig) (ro : Fin 240 → Fin 2 → ℕ) (hro : ∀ b a, ro b a + S1x224.size a ≤ S325000x224.size a)
  (ft : Buf (Elt F) (tab.view.loc (c : Thread nD τ)))

theorem dst_inb (b : Fin 240) : ∀ a, (![b.val, 0] : Fin 2 → ℕ) a + S1x224.size a ≤ S240x224.size a := by
  have := b.isLt; intro a; fin_cases a
  · show b.val + 1 ≤ 240; omega
  · show 0 + 224 ≤ 224; omega

/-- Row `b` of the scratch; -/
def dstRow (b : Fin 240) : Memref sig .tc .vmem S1x224 .i32 :=
  buf.slice (Rect.unit (s := S240x224) ![b.val, 0] S1x224.size (dst_inb b)) (fun _ => rfl)
/-- the row of the table it is copied from. -/
def srcRow (b : Fin 240) : Memref sig .tc .hbm S1x224 .i32 :=
  tab.slice (Rect.unit (s := S325000x224) (ro b) S1x224.size (hro b)) (fun _ => rfl)

/-- The scratch after every copy has landed: row `b` is the table's row at `ro b`. -/
def gathered : Vec F S240x224 .i32 := fun y =>
  (srcRow tab ro hro (y 0)).view.read (Elt F) ft (fun a => ⟨![0, (y 1).val] a, by
    have := (y 1).isLt
    fin_cases a
    · show 0 < 1; omega
    · show (y 1).val < 224; exact this⟩)

/-- Row `b` of the scratch at contents `f`, its own elements; -/
abbrev rowAt (f : Buf (Elt F) (buf.view.loc (c : Thread nD τ))) (b : Fin 240) : sProp 𝕄 :=
  buf.view.loc (c : Thread nD τ) ↦[(dstRow buf b).view.set]{fullShare} f
/-- the table's row that copy `b` reads, under its own share, -/
abbrev lentAt (b : Fin 240) : sProp 𝕄 :=
  tab.view.loc (c : Thread nD τ) ↦[(srcRow tab ro hro b).view.set]{Transfers.shareTokN fullShare b.val} ft
/-- and the rest of the table under that share. -/
abbrev keptAt (b : Fin 240) : sProp 𝕄 :=
  tab.view.loc (c : Thread nD τ) ↦[Finset.univ \ (srcRow tab ro hro b).view.set]{Transfers.shareTokN fullShare b.val} ft

/-- What copy `b` delivers. -/
abbrev deliv (b : Fin 240) : sProp 𝕄 :=
  iprop(rowAt c buf (hbuf.unread (gathered c tab ro hro ft)) b ∗ lentAt c tab ro hro ft b)

/-- The credit of one row's copy. -/
abbrev rowN : ℕ := sig.dmaCredit .tc (Kind.table .tc .vmem) buf.view.buf S1x224 .i32

/-- The batch with `j` copies started and `u` units waited for. -/
abbrev batch (j u : ℕ) : sProp 𝕄 :=
  Transfers.Batch (countersEmb (U := Pipeline.UD sig nD τ)) (c : Thread nD τ) (.dma sm) () (rowN buf) (deliv c tab buf hbuf ro hro ft) j u

theorem rowN_pos : 0 < rowN buf := sig.dmaCredit_pos _ _ _ _ _ (by decide)
theorem rowN_eq (b : Fin 240) (sm : DmaSem sig) : (dstRow buf b).view.amount (.dma sm) = rowN buf := rfl

include hbuf in
/-- A copy that has landed leaves its row of the scratch at the gathered contents. -/
theorem landed_eq (fd : Buf (Elt F) (buf.view.loc (c : Thread nD τ))) (b : Fin 240) :
    ∀ i ∈ (dstRow buf b).view.set,
      (dstRow buf b).view.write (Elt F) fd ((srcRow tab ro hro b).view.read (Elt F) ft) Finset.univ i
        = hbuf.unread (gathered c tab ro hro ft) i := by
  intro i hi
  have hw : (srcRow tab ro hro b).view.read (Elt F) ft
      = (dstRow buf b).view.read (Elt F) (hbuf.unread (gathered c tab ro hro ft)) := by
    funext x
    have h1 : (dstRow buf b).view.read (Elt F) (hbuf.unread (gathered c tab ro hro ft)) x
        = gathered c tab ro hro ft ((Rect.unit (s := S240x224) ![b.val, 0] S1x224.size (dst_inb b)).emb x) :=
      congrFun (hbuf.read_unread (gathered c tab ro hro ft)) _
    rw [h1]
    have hx0 : (x 0).val = 0 := by have : (x 0).val < 1 := (x 0).isLt; omega
    have e0 : ((Rect.unit (s := S240x224) ![b.val, 0] S1x224.size (dst_inb b)).emb x) 0 = b := by
      apply Fin.ext; show b.val + 1 * (x 0).val = b.val; omega
    have e1 : (((Rect.unit (s := S240x224) ![b.val, 0] S1x224.size (dst_inb b)).emb x) 1).val = (x 1).val := by
      show 0 + 1 * (x 1).val = (x 1).val; omega
    unfold gathered
    rw [e0]
    congr 1
    funext a
    apply Fin.ext
    fin_cases a
    · exact hx0
    · exact e1.symm
  rw [hw]
  exact (congrFun (View.write_read_eq_piecewise (v := (dstRow buf b).view) fd (hbuf.unread (gathered c tab ro hro ft)) Finset.univ) i).trans
    (Finset.piecewise_eq_of_mem _ _ _ hi)

/-- Starting copy `b`: with the batch at `b` started, row `b` of the scratch and its share of the table's row in hand,
    the copy is started. The copy's operands are the body's slices, at any spelling of their offsets. -/
theorem wp_start (b : Fin 240) (fd : Buf (Elt F) (buf.view.loc (c : Thread nD τ)))
    (od os : Fin 2 → ℕ) (hod : ∀ a, od a + S1x224.size a ≤ S240x224.size a) (hos : ∀ a, os a + S1x224.size a ≤ S325000x224.size a)
    (ed : od = ![b.val, 0]) (es : os = ro b) {α : Type} {k : PUnit → Prog (TpuEff nD τ sig (Elt F) Λ₀ .tc) α} {Q : α → sProp 𝕄}
    {hsrc hdst hsem} :
    iprop(lentAt c tab ro hro ft b ∗ rowAt c buf fd b ∗ batch c tab buf hbuf sm ro hro ft b.val 0)
      ⊢ iprop((batch c tab buf hbuf sm ro hro ft (b.val + 1) 0
            -∗ wp frame (wpE (defs₀ (F := F)) Variants.none (c : Thread nD τ) none) Set.univ (k ⟨⟩) Q)
          -∗ wp frame (wpE (defs₀ (F := F)) Variants.none (c : Thread nD τ) none) Set.univ
            (.op (.enqueueDma (tab.slice (Rect.unit (s := S325000x224) os S1x224.size hos) (fun _ => rfl))
              (.here (buf.slice (Rect.unit (s := S240x224) od S1x224.size hod) (fun _ => rfl))) (.dma sm) hsrc hdst hsem) k) Q) := by
  subst ed es
  refine Transfers.wp_dmaBatch (countersEmb (U := Pipeline.UD sig nD τ)) Variants.none (c : Thread nD τ) none
    (src := srcRow tab ro hro b) (dst := dstRow buf b) (via := .same) () (rowN buf) rfl (Finset.Subset.refl _) b.isLt (Nat.zero_le _) ?_
  exact sep_mono_left (Entails.of_eq (pointsTo_congr (landed_eq c tab buf hbuf ro hro ft fd b)))

/-- A wait while copies remain to be waited for: one row's units more are consumed; -/
theorem wp_wait_more (u : ℕ) (hu : u + rowN buf < rowN buf * 240) (W : Waits sig Unit)
    {o : Memref sig .tc .hbm S1x224 .i32}
    {α : Type} {k : PUnit → Prog (TpuEff nD τ sig (Elt F) Λ₀ .tc) α} {Q : α → sProp 𝕄} {hsrc hdst} :
    iprop(batch c tab buf hbuf sm ro hro ft 240 u ∗ owes (c : Thread nD τ) 0 W)
      ⊢ iprop((iprop(batch c tab buf hbuf sm ro hro ft 240 (u + rowN buf) ∗ (∃ W', owes (c : Thread nD τ) 0 W'))
            -∗ wp frame (wpE (defs₀ (F := F)) Variants.none (c : Thread nD τ) none) Set.univ (k ⟨⟩) Q)
          -∗ wp frame (wpE (defs₀ (F := F)) Variants.none (c : Thread nD τ) none) Set.univ
            (.op (.waitDma2 sm o (buf.slice (Rect.unit (s := S240x224) ![0, 0] S1x224.size inb_S240x224_S1x224_0_0) (fun _ => rfl)) hsrc hdst) k) Q) := by
  iintro HB Hk
  iapply (Transfers.wp_waitBatch (countersEmb (U := Pipeline.UD sig nD τ)) Variants.none (c : Thread nD τ) none () (N := rowN buf) rfl hu) $$ HB
  iintro ⟨HB, HO⟩
  iapply Hk
  isplitl [HB]; · iexact HB
  iexists _; iexact HO

/-- and the last wait: the semaphore back at zero, every copy's delivery in hand. -/
theorem wp_wait_last (u : ℕ) (hu : u + rowN buf = rowN buf * 240) (W : Waits sig Unit)
    {o : Memref sig .tc .hbm S1x224 .i32}
    {α : Type} {k : PUnit → Prog (TpuEff nD τ sig (Elt F) Λ₀ .tc) α} {Q : α → sProp 𝕄} {hsrc hdst} :
    iprop(batch c tab buf hbuf sm ro hro ft 240 u ∗ owes (c : Thread nD τ) 0 W)
      ⊢ iprop((iprop(semVal ((c : Thread nD τ), SemLoc.dma sm) 0 ∗ bigSep Finset.univ (deliv c tab buf hbuf ro hro ft) ∗ (∃ W', owes (c : Thread nD τ) 0 W'))
            -∗ wp frame (wpE (defs₀ (F := F)) Variants.none (c : Thread nD τ) none) Set.univ (k ⟨⟩) Q)
          -∗ wp frame (wpE (defs₀ (F := F)) Variants.none (c : Thread nD τ) none) Set.univ
            (.op (.waitDma2 sm o (buf.slice (Rect.unit (s := S240x224) ![0, 0] S1x224.size inb_S240x224_S1x224_0_0) (fun _ => rfl)) hsrc hdst) k) Q) := by
  iintro HB Hk
  iapply (Transfers.wp_waitBatchLast (countersEmb (U := Pipeline.UD sig nD τ)) Variants.none (c : Thread nD τ) none () (N := rowN buf) rfl (rowN_pos buf) hu) $$ HB
  iintro ⟨HD, Hv, HO⟩
  iapply Hk
  isplitl [Hv]; · iexact Hv
  isplitl [HD]; · iexact HD
  iexists _; iexact HO

/-! ## Before the first copy and after the last wait -/

/-- What the rows started from `k` on still need: the table's row under its share, and the scratch's row at `fb`. -/
abbrev toStart (fb : Buf (Elt F) (buf.view.loc (c : Thread nD τ))) (k : ℕ) : sProp 𝕄 :=
  bigSep (Transfers.pending (n := 240) k) (fun b => iprop(lentAt c tab ro hro ft b ∗ rowAt c buf fb b))

/-- What of the table no copy holds. -/
def aside : sProp 𝕄 :=
  iprop((tab.view.loc (c : Thread nD τ) ↦{Transfers.shareDrop fullShare 240} ft) ∗ bigSep Finset.univ (keptAt c tab ro hro ft))

theorem dst_set (b : Fin 240) : (dstRow buf b).view.set
    = (Rect.unit (s := S240x224) ![b.val, 0] S1x224.size (dst_inb b)).set.map buf.view.emb := View.set_slice _ _

theorem dst_disjoint : ∀ b b' : Fin 240, b ≠ b' → Disjoint (dstRow buf b).view.set (dstRow buf b').view.set := by
  intro b b' h
  refine Finset.disjoint_left.mpr fun j hj hj' => ?_
  obtain ⟨i, hi, rfl⟩ := Finset.mem_map.mp ((Finset.ext_iff.mp (dst_set buf b) j).mp hj)
  obtain ⟨i', hi', e⟩ := Finset.mem_map.mp ((Finset.ext_iff.mp (dst_set buf b') _).mp hj')
  have e := buf.view.emb.injective e
  rw [e] at hi'
  have h1 := (Rect.mem_set_unit.mp hi) 0
  have h2 := (Rect.mem_set_unit.mp hi') 0
  have h3 : b.val ≤ (i 0).val ∧ (i 0).val < b.val + 1 := h1
  have h4 : b'.val ≤ (i 0).val ∧ (i 0).val < b'.val + 1 := h2
  exact h (Fin.ext (by omega))

theorem dst_cover : Finset.univ.biUnion (fun b => (dstRow buf b).view.set) = buf.view.set := by
  ext j
  constructor
  · intro h
    obtain ⟨b, -, hb⟩ := Finset.mem_biUnion.mp h
    exact View.set_slice_subset _ _ hb
  · intro h
    obtain ⟨y, -, rfl⟩ := Finset.mem_map.mp h
    refine Finset.mem_biUnion.mpr ⟨y 0, Finset.mem_univ _, ?_⟩
    refine (Finset.ext_iff.mp (dst_set buf (y 0)) _).mpr (Finset.mem_map_of_mem _ (Rect.mem_set_unit.mpr fun a => ?_))
    have h1 : (y 1).val < 224 := (y 1).isLt
    fin_cases a
    · show (y 0).val ≤ (y 0).val ∧ (y 0).val < (y 0).val + 1; omega
    · show 0 ≤ (y 1).val ∧ (y 1).val < 0 + 224; omega

theorem held_storable (ℓ : Loc nD τ sig) (I : Finset (Idx ℓ)) (q : PosShare TreeShare) (f : Buf (Elt F) ℓ) :
    BI.Storable (upEmb : UEmb _ 𝕄) (ℓ ↦[I]{q} f : sProp 𝕄) := inferInstance

instance deliv_storable (b : Fin 240) : BI.Storable (upEmb : UEmb _ 𝕄) (deliv c tab buf hbuf ro hro ft b) :=
  @BI.Storable.sep _ _ _ _ _ _ _ _ (held_storable _ _ _ _) (held_storable _ _ _ _)

/-- The scratch by rows. -/
theorem buf_rows (f : Buf (Elt F) (buf.view.loc (c : Thread nD τ))) :
    (buf.view.loc (c : Thread nD τ) ↦[buf.view.set]{fullShare} f : sProp 𝕄) = bigSep Finset.univ (rowAt c buf f) :=
  Ring.pointsTo_sub_blocks (ℓ := buf.view.loc (c : Thread nD τ)) (fun b => (dstRow buf b).view.set) (dst_disjoint buf) _ (dst_cover buf) f

/-- The table as what is lent to the copies and what is not. -/
theorem tab_rows :
    (tab.view.loc (c : Thread nD τ) ↦{fullShare} ft : sProp 𝕄)
      ⊣⊢ iprop(bigSep Finset.univ (lentAt c tab ro hro ft) ∗ aside c tab ro hro ft) := by
  have h : (bigSep (Finset.range 240) (fun i => tab.view.loc (c : Thread nD τ) ↦[Finset.univ]{Transfers.shareTokN fullShare i} ft) : sProp 𝕄)
      = iprop(bigSep Finset.univ (lentAt c tab ro hro ft) ∗ bigSep Finset.univ (keptAt c tab ro hro ft)) := by
    rw [← Ring.bigSep_fin_eq_range 240 (fun b : Fin 240 => (tab.view.loc (c : Thread nD τ) ↦[Finset.univ]{Transfers.shareTokN fullShare b.val} ft : sProp 𝕄)) _ (fun _ _ => rfl)]
    rw [← BI.bigSep_sep']
    refine BI.bigSep_congr fun b _ => ?_
    exact Entails.antisymm (pointsTo_split_subset (Finset.subset_univ _)).1 (pointsTo_split_subset (Finset.subset_univ _)).2
  have e := Transfers.pointsTo_toks_range (Ix := Unit) (Val := Elt F) (Name := ℕ) (U := Pipeline.UD sig nD τ) (Lvl := ℕ) (ℓ := tab.view.loc (c : Thread nD τ)) (S := Finset.univ) (f := ft) fullShare 240
  unfold aside
  constructor
  · refine e.1.trans ?_
    refine (sep_mono_right (Entails.of_eq h)).trans ?_
    iintro ⟨H1, H2, H3⟩
    isplitl [H2]; · iexact H2
    isplitl [H1] <;> iassumption
  · refine BIBase.Entails.trans ?_ ((sep_mono_right (Entails.of_eq h.symm)).trans e.2)
    iintro ⟨H2, H1, H3⟩
    isplitl [H1]; · iexact H1
    isplitl [H2] <;> iassumption

/-- Before the first copy: the batch with nothing started, every row's holdings, and the rest of the table. -/
theorem gather_open (fb : Buf (Elt F) (buf.view.loc (c : Thread nD τ))) :
    iprop((tab.view.loc (c : Thread nD τ) ↦{fullShare} ft) ∗ (buf.view.loc (c : Thread nD τ) ↦[buf.view.set]{fullShare} fb) ∗ semVal ((c : Thread nD τ), SemLoc.dma sm) 0)
      ⊢ (|={Set.univ}=> iprop(batch c tab buf hbuf sm ro hro ft 0 0 ∗ toStart c tab buf ro hro ft fb 0 ∗ aside c tab ro hro ft) : sProp 𝕄) := by
  iintro ⟨Ht, Hb, Hv⟩
  imod (Transfers.batch_alloc' (Lvl := ℕ) (countersEmb (U := Pipeline.UD sig nD τ)) (c : Thread nD τ) () (rowN buf) (deliv c tab buf hbuf ro hro ft) (sm := .dma sm) (E := Set.univ)) $$ Hv with HB
  imodintro
  ihave Ht' := (tab_rows c tab ro hro ft).1 $$ Ht
  icases Ht' with ⟨Hl, Ha⟩
  ihave Hb' := (Entails.of_eq (buf_rows c buf fb)) $$ Hb
  isplitl [HB]; · iexact HB
  isplitl [Hl Hb']
  · unfold toStart
    rw [Transfers.pending_zero, BI.bigSep_sep']
    isplitl [Hl] <;> iassumption
  iexact Ha

/-- After the last wait: the table whole again, the scratch at the gathered rows. -/
theorem gather_close :
    iprop(bigSep Finset.univ (deliv c tab buf hbuf ro hro ft) ∗ aside c tab ro hro ft)
      ⊢ (iprop((tab.view.loc (c : Thread nD τ) ↦{fullShare} ft) ∗ (buf.view.loc (c : Thread nD τ) ↦[buf.view.set]{fullShare} (hbuf.unread (gathered c tab ro hro ft)))) : sProp 𝕄) := by
  unfold deliv
  rw [BI.bigSep_sep', buf_rows c buf]
  iintro ⟨⟨Hb, Hl⟩, Ha⟩
  isplitl [Hl Ha]
  · iapply (tab_rows c tab ro hro ft).2
    isplitl [Hl] <;> iassumption
  iexact Hb

/-! ## The two loops' invariants -/

/-- Before trip `k` of the loop that starts the copies: `k` started, the rows from `k` on still in hand. -/
def startInv (fb : Buf (Elt F) (buf.view.loc (c : Thread nD τ))) (P : sProp 𝕄) (k : ℕ) (_ : Unit) : sProp 𝕄 :=
  iprop(batch c tab buf hbuf sm ro hro ft k 0 ∗ toStart c tab buf ro hro ft fb k ∗ P)

/-- Before trip `k` of the loop that waits: `k` rows' units consumed; after the last trip, everything delivered. -/
def waitInv (k : ℕ) (_ : Unit) : sProp 𝕄 :=
  iprop((∃ W, owes (c : Thread nD τ) 0 W)
    ∗ (if k < 240 then batch c tab buf hbuf sm ro hro ft 240 (k * rowN buf)
       else iprop(semVal ((c : Thread nD τ), SemLoc.dma sm) 0 ∗ bigSep Finset.univ (deliv c tab buf hbuf ro hro ft))))

end Rows

end Cert.First.Region
end
-- ==== Proof.First.Gather.lean ====
/- The gather of the first GRU: the loop that starts the 240 copies and the loop that waits for them. -/
module

public import proofs.«01_k».proof.Proof.First.Rows

@[expose] public section

set_option maxRecDepth 16384

noncomputable section

namespace Cert.First.Region

open Cert.First.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The id word of row `b`. -/
def idAt0 (x0 : Vec F S1x1x240 .i32) (b : Fin 240) : BitVec 32 := x0 (fun a => ⟨(![0, 0, b.val] : Fin 3 → ℕ) a, by
  have := b.isLt
  fin_cases a
  all_goals first | exact Nat.one_pos | exact this⟩)

/-- The table row copied for row `b`, as the body computes it from the id word. -/
def rowOf0 (x0 : Vec F S1x1x240 .i32) (b : Fin 240) : Fin 2 → ℕ := k0_off3 (idAt0 x0 b)

/-- Every id word names a row of the table. -/
def InTable0 (x0 : Vec F S1x1x240 .i32) : Prop := ∀ b, k0_chk1 (idAt0 x0 b)

theorem rowOf0_inb {x0 : Vec F S1x1x240 .i32} (h : InTable0 x0) : ∀ b a, rowOf0 x0 b a + S1x224.size a ≤ S325000x224.size a := h

theorem k0_trips1 : k0_t1_loop.trips = 240 := by decide
theorem k0_trips2 : k0_t2_loop.trips = 240 := by decide
theorem k0_off2_eq (k : Fin k0_t1_loop.trips) : k0_off2 k = ![k.val, 0] := by revert k; decide +kernel
theorem k0_off1_eq (k : Fin k0_t1_loop.trips) : k0_off1 k = (![0, 0, k.val] : Fin 3 → ℕ) := by revert k; decide +kernel

section
variable (c : Dev nD) (i : grid0.Coords) (arg1 : Memref sig .tc .smem S1x1x240 .i32) (harg1 : arg1.IsWhole) (arg2 : Memref sig .tc .hbm S325000x224 .i32) (harg2 : arg2.IsWhole) (arg3 : Memref sig .tc .vmem S1x240x1 .i32) (harg3 : arg3.IsWhole) (arg4 : Memref sig .tc .vmem S1x240x1 .f32) (harg4 : arg4.IsWhole) (arg5 : Memref sig .tc .vmem S1x240x1 .f32) (harg5 : arg5.IsWhole) (arg6 : Memref sig .tc .vmem S240x128 .f32) (harg6 : arg6.IsWhole) (arg7 : Memref sig .tc .vmem S224x384 .bf16) (harg7 : arg7.IsWhole) (arg8 : Memref sig .tc .vmem S1x384 .f32) (harg8 : arg8.IsWhole) (arg9 : Memref sig .tc .vmem S1x384 .f32) (harg9 : arg9.IsWhole) (arg10 : Memref sig .tc .vmem S128x384 .bf16) (harg10 : arg10.IsWhole) (arg11 : Memref sig .tc .vmem S1x384 .f32) (harg11 : arg11.IsWhole) (arg12 : Memref sig .tc .vmem S1x384 .f32) (harg12 : arg12.IsWhole) (arg13 : Memref sig .tc .vmem S1x240x128 .bf16) (harg13 : arg13.IsWhole) (arg14 : Memref sig .tc .vmem S1x240x1 .f32) (harg14 : arg14.IsWhole) (arg15 : Memref sig .tc .vmem S240x128 .f32) (harg15 : arg15.IsWhole) (arg16 : Memref sig .tc .vmem S240x224 .i32) (harg16 : arg16.IsWhole) (arg17 : Memref sig .tc .vmem S240x128 .f32) (harg17 : arg17.IsWhole) (arg18 : DmaSems sig S_)
  (x0 : Vec F S1x1x240 .i32) (hx : InTable0 x0) (ft : Buf (Elt F) (arg2.view.loc (c : Thread nD τ)))

/-- The word the body loads at trip `k` is row `k`'s id. -/
theorem word0 (k : Fin k0_t1_loop.trips) (y) :
    (arg1.access (Rect.unit (s := S1x1x240) (k0_off1 k) S1x1x1.size (k0_off1_inb k))).read (Elt F) (harg1.unread x0) y
      = idAt0 x0 (k.cast k0_trips1) := by
  refine (congrFun (harg1.read_unread x0) ((Rect.unit (s := S1x1x240) (k0_off1 k) S1x1x1.size (k0_off1_inb k)).emb y)).trans ?_
  unfold idAt0
  congr 1
  funext a
  apply Fin.ext
  have h : (y a).val = 0 := by
    have h1 : (y a).val < 1 := by have := (y a).isLt; revert this; fin_cases a <;> exact id
    omega
  have e : ∀ n, k0_off1 k a + 1 * n = (![0, 0, k.val] : Fin 3 → ℕ) a + 1 * n := fun n => by rw [k0_off1_eq]
  refine (e _).trans ?_
  rw [h]; rfl

/-- The copies' batch as this custom call uses it. -/
abbrev inv1_0 (fb : Buf (Elt F) (arg16.view.loc (c : Thread nD τ))) : ℕ → Unit → sProp 𝕄 :=
  startInv c arg2 arg16 harg16 arg18.sem (rowOf0 x0) (rowOf0_inb hx) ft fb (arg1.view.loc (c : Thread nD τ) ↦[arg1.view.set]{fullShare} (harg1.unread x0))

/-- One trip of the loop that starts the copies. -/
theorem start_step0 (fb : Buf (Elt F) (arg16.view.loc (c : Thread nD τ))) (k : Fin k0_t1_loop.trips) (u : Unit) :
    inv1_0 c arg1 harg1 arg2 arg16 harg16 arg18 x0 hx ft fb k.val u
      ⊢ wp frame (wpE (defs₀ (F := F)) Variants.none (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k u)
          (inv1_0 c arg1 harg1 arg2 arg16 harg16 arg18 x0 hx ft fb (k.val + 1)) := by
  have hk : k.val < 240 := lt_of_lt_of_eq k.isLt k0_trips1
  have hw := word0 arg1 harg1 x0 k (Shape.Idx.first (numel1_S1x1x1.symm ▸ Nat.one_pos))
  have hb : (k.cast k0_trips1 : Fin 240) = ⟨k.val, hk⟩ := rfl
  unfold inv1_0 startInv toStart
  rw [Transfers.bigSep_pending_step _ k.val hk]
  iintro ⟨HB, ⟨⟨Hl, Hr⟩, Hp⟩, Hids⟩
  unfold k0_t1_body smemLoad
  rw [smemLoadElt_bind]
  iapply (wp_smemLoadElt_named (hS := View.set_slice_subset _ _)) $$ Hids
  iintro Hids %w %hw'
  obtain rfl := hw'.trans hw
  iapply (wp_assume Variants.none (c : Thread nD τ) none Set.univ (hx (k.cast k0_trips1)))
  iapply (wp_start c arg2 arg16 harg16 arg18.sem (rowOf0 x0) (rowOf0_inb hx) ft ⟨k.val, hk⟩ fb _ _ _ _ (k0_off2_eq k) rfl) $$ [Hl Hr HB]
  · isplitl [Hl]; · iexact Hl
    isplitl [Hr]; · iexact Hr
    iexact HB
  iintro HB
  rw [done_bind]
  sl_step
  isplitl [HB]; · iexact HB
  isplitl [Hp]; · iexact Hp
  iexact Hids

/-- One trip of the loop that waits. -/
theorem wait_step0 (k : Fin k0_t2_loop.trips) (u : Unit) :
    waitInv c arg2 arg16 harg16 arg18.sem (rowOf0 x0) (rowOf0_inb hx) ft k.val u
      ⊢ wp frame (wpE (defs₀ (F := F)) Variants.none (c : Thread nD τ) none) Set.univ
          (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k u)
          (waitInv c arg2 arg16 harg16 arg18.sem (rowOf0 x0) (rowOf0_inb hx) ft (k.val + 1)) := by
  have hk : k.val < 240 := lt_of_lt_of_eq k.isLt k0_trips2
  unfold waitInv
  rw [if_pos hk]
  iintro ⟨⟨%W, HO⟩, HB⟩
  unfold k0_t2_body
  by_cases h : k.val + 1 < 240
  · rw [if_pos h]
    iapply (wp_wait_more c arg2 arg16 harg16 arg18.sem (rowOf0 x0) (rowOf0_inb hx) ft (k.val * rowN arg16)
      (by have h1 := rowN_pos arg16; have h2 := Nat.mul_le_mul_right (rowN arg16) (show k.val + 2 ≤ 240 by omega); rw [Nat.add_mul] at h2; omega) W) $$ [HB HO]
    · isplitl [HB] <;> iassumption
    iintro ⟨HB, HO⟩
    rw [done_bind]
    sl_step
    isplitl [HO]; · iexact HO
    rw [Nat.add_mul, Nat.one_mul]
    iexact HB
  · rw [if_neg h]
    iapply (wp_wait_last c arg2 arg16 harg16 arg18.sem (rowOf0 x0) (rowOf0_inb hx) ft (k.val * rowN arg16)
      (by have e : k.val = 239 := by omega
          rw [e]; omega) W) $$ [HB HO]
    · isplitl [HB] <;> iassumption
    iintro ⟨Hv, HD, HO⟩
    rw [done_bind]
    sl_step
    isplitl [HO]; · iexact HO
    isplitl [Hv] <;> iassumption

/-- The two loops together: the table and the ids are back as they were, the scratch holds the gathered rows. -/
theorem gather0 (W : Waits sig Unit) (fb : Buf (Elt F) (arg16.view.loc (c : Thread nD τ)))
    {α : Type} {kk : Unit → Prog (TpuEff nD τ sig (Elt F) Λ₀ .tc) α} {Q : α → sProp 𝕄} :
    iprop((arg1.view.loc (c : Thread nD τ) ↦[arg1.view.set]{fullShare} (harg1.unread x0)) ∗ (arg2.view.loc (c : Thread nD τ) ↦{fullShare} ft)
        ∗ (arg16.view.loc (c : Thread nD τ) ↦[arg16.view.set]{fullShare} fb) ∗ semVal ((c : Thread nD τ), SemLoc.dma arg18.sem) 0 ∗ owes (c : Thread nD τ) 0 W)
      ⊢ iprop((iprop((arg1.view.loc (c : Thread nD τ) ↦[arg1.view.set]{fullShare} (harg1.unread x0)) ∗ (arg2.view.loc (c : Thread nD τ) ↦{fullShare} ft)
            ∗ (arg16.view.loc (c : Thread nD τ) ↦[arg16.view.set]{fullShare} (harg16.unread (gathered c arg2 (rowOf0 x0) (rowOf0_inb hx) ft)))
            ∗ semVal ((c : Thread nD τ), SemLoc.dma arg18.sem) 0 ∗ (∃ W', owes (c : Thread nD τ) 0 W'))
          -∗ wp frame (wpE (defs₀ (F := F)) Variants.none (c : Thread nD τ) none) Set.univ (kk ⟨⟩) Q)
        -∗ wp frame (wpE (defs₀ (F := F)) Variants.none (c : Thread nD τ) none) Set.univ
          (Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) >>= fun _ =>
            Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) >>= kk) Q) := by
  iintro ⟨Hids, Ht, Hb, Hv, HO⟩ Hk
  imod (gather_open c arg2 arg16 harg16 arg18.sem (rowOf0 x0) (rowOf0_inb hx) ft fb) $$ [Ht Hb Hv] with ⟨HB, Hs, Ha⟩
  · isplitl [Ht]; · iexact Ht
    isplitl [Hb] <;> iassumption
  iapply (Scf.wp_for_bind frame (wpE (defs₀ (F := F)) Variants.none (c : Thread nD τ) none) Set.univ _ _ _ k0_t1_ok ⟨⟩ _
    (inv1_0 c arg1 harg1 arg2 arg16 harg16 arg18 x0 hx ft fb) (start_step0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 x0 hx ft fb)) $$ [HB Hs Hids]
  · unfold inv1_0 startInv
    isplitl [HB]; · iexact HB
    isplitl [Hs] <;> iassumption
  iintro %_ HI
  rw [show Scf.trips k0_t1_loop.lb k0_t1_loop.ub k0_t1_loop.st = 240 from k0_trips1]
  unfold inv1_0 startInv
  icases HI with ⟨HB, -, Hids⟩
  iapply (Scf.wp_for_bind frame (wpE (defs₀ (F := F)) Variants.none (c : Thread nD τ) none) Set.univ _ _ _ k0_t2_ok ⟨⟩ _
    (waitInv c arg2 arg16 harg16 arg18.sem (rowOf0 x0) (rowOf0_inb hx) ft) (wait_step0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 x0 hx ft)) $$ [HB HO]
  · unfold waitInv
    rw [if_pos (by omega), Nat.zero_mul]
    isplitl [HO]; · iexists _; iexact HO
    iexact HB
  iintro %_ HI
  rw [show Scf.trips k0_t2_loop.lb k0_t2_loop.ub k0_t2_loop.st = 240 from k0_trips2]
  unfold waitInv
  rw [if_neg (by omega)]
  icases HI with ⟨HO, Hv, HD⟩
  ihave H := (gather_close c arg2 arg16 harg16 (rowOf0 x0) (rowOf0_inb hx) ft) $$ [HD Ha]
  · isplitl [HD] <;> iassumption
  icases H with ⟨Ht, Hb⟩
  iapply Hk
  isplitl [Hids]; · iexact Hids
  isplitl [Ht]; · iexact Ht
  isplitl [Hb]; · iexact Hb
  isplitl [Hv] <;> iassumption

end

end Cert.First.Region

end
-- ==== Proof.First.Body.lean ====
/- The first GRU: its body as one triple over explicit values. -/
module

public import Idealize.ShloMosaic.Lib.VecWindow
public import Idealize.ShloMosaic.Lib.Tactic.RunNames
public import proofs.«01_k».proof.Proof.First.Gather
public import proofs.«01_k».proof.Proof.Gen.First.Launch
public import proofs.«01_k».proof.Proof.Gen.First.Skeleton
public import proofs.«01_k».proof.Proof.Gen.First.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.First.Region

open Cert.First.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The condition of the body's `scf.if`: the point is the grid's first. -/
abbrev first0 (i : grid0.Coords) : Prop := (Scalar.cmpi .ne (Scalar.extui (Scalar.cmpi .eq (BitVec.ofNat 32 (i 0).val) 0#32)) 0#32) = 1#1

/-- It holds at point 0 alone. -/
theorem first0_iff (t : Fin cfg0.N) : first0 (grid0.coords t) ↔ t.val = 0 := by
  have e0 : (grid0.coords t 0).val = t.val / 1 % 512 := Pipeline.Grid.coords_val t 0 (by decide) rfl
  have ht : t.val < 512 := Nat.lt_of_lt_of_eq t.isLt N_0
  have h : first0 (grid0.coords t) ↔ t.val % 512 = 0 := by
    simp only [first0, e0]
    word_cmp
  rw [h]; omega

/-- The state after a point whose gathered rows are `g` and whose other blocks are `x1 … x10`, entered with the state
    `h`: the GRU's update. -/
def next0 (g : Vec F S240x224 .i32) (x1 : Vec F S1x240x1 .i32) (x2 : Vec F S1x240x1 .f32) (x3 : Vec F S1x240x1 .f32) (x4 : Vec F S240x128 .f32) (x5 : Vec F S224x384 .bf16) (x6 : Vec F S1x384 .f32) (x7 : Vec F S1x384 .f32) (x8 : Vec F S128x384 .bf16) (x9 : Vec F S1x384 .f32) (x10 : Vec F S1x384 .f32) (h : Vec F S240x128 .f32) : Vec F S240x128 .f32 :=
  k0_pay4 (k0_pay3 g x1 x5 x2 x6 x7) h x8 x9 x10 x3

/-- What the point keeps in the scratch: that state, through a cast of its shape to itself. -/
def keep0 (g : Vec F S240x224 .i32) (x1 : Vec F S1x240x1 .i32) (x2 : Vec F S1x240x1 .f32) (x3 : Vec F S1x240x1 .f32) (x4 : Vec F S240x128 .f32) (x5 : Vec F S224x384 .bf16) (x6 : Vec F S1x384 .f32) (x7 : Vec F S1x384 .f32) (x8 : Vec F S128x384 .bf16) (x9 : Vec F S1x384 .f32) (x10 : Vec F S1x384 .f32) (h : Vec F S240x128 .f32) : Vec F S240x128 .f32 :=
  k0_pay5 (k0_pay3 g x1 x5 x2 x6 x7) h x8 x9 x10 x3

/-- What the point stores as its row of states: the state as bf16. -/
def emit0 (g : Vec F S240x224 .i32) (x1 : Vec F S1x240x1 .i32) (x2 : Vec F S1x240x1 .f32) (x3 : Vec F S1x240x1 .f32) (x4 : Vec F S240x128 .f32) (x5 : Vec F S224x384 .bf16) (x6 : Vec F S1x384 .f32) (x7 : Vec F S1x384 .f32) (x8 : Vec F S128x384 .bf16) (x9 : Vec F S1x384 .f32) (x10 : Vec F S1x384 .f32) (h : Vec F S240x128 .f32) : Vec F S1x240x128 .bf16 :=
  k0_pay6 (k0_pay3 g x1 x5 x2 x6 x7) h x8 x9 x10 x3

/-- What the point stores as its scores: the state's product with the target, summed. -/
def score0 (g : Vec F S240x224 .i32) (x1 : Vec F S1x240x1 .i32) (x2 : Vec F S1x240x1 .f32) (x3 : Vec F S1x240x1 .f32) (x4 : Vec F S240x128 .f32) (x5 : Vec F S224x384 .bf16) (x6 : Vec F S1x384 .f32) (x7 : Vec F S1x384 .f32) (x8 : Vec F S128x384 .bf16) (x9 : Vec F S1x384 .f32) (x10 : Vec F S1x384 .f32) (h : Vec F S240x128 .f32) : Vec F S1x240x1 .f32 :=
  k0_pay1 (k0_pay4 (k0_pay3 g x1 x5 x2 x6 x7) h x8 x9 x10 x3) x4

/-- The results read their arguments only through their values. -/
theorem emit0_congr {g g' : Vec F S240x224 .i32} {x1 : Vec F S1x240x1 .i32} {x2 : Vec F S1x240x1 .f32} {x3 : Vec F S1x240x1 .f32} {x4 : Vec F S240x128 .f32} {x5 : Vec F S224x384 .bf16} {x6 : Vec F S1x384 .f32} {x7 : Vec F S1x384 .f32} {x8 : Vec F S128x384 .bf16} {x9 : Vec F S1x384 .f32} {x10 : Vec F S1x384 .f32} {y1 : Vec F S1x240x1 .i32} {y2 : Vec F S1x240x1 .f32} {y3 : Vec F S1x240x1 .f32} {y4 : Vec F S240x128 .f32} {y5 : Vec F S224x384 .bf16} {y6 : Vec F S1x384 .f32} {y7 : Vec F S1x384 .f32} {y8 : Vec F S128x384 .bf16} {y9 : Vec F S1x384 .f32} {y10 : Vec F S1x384 .f32} {h h' : Vec F S240x128 .f32} (eg : g' = g) (e1 : y1 = x1) (e2 : y2 = x2) (e3 : y3 = x3) (e4 : y4 = x4) (e5 : y5 = x5) (e6 : y6 = x6) (e7 : y7 = x7) (e8 : y8 = x8) (e9 : y9 = x9) (e10 : y10 = x10) (eh : h' = h) : k0_pay6 (k0_pay3 g' y1 y5 y2 y6 y7) h' y8 y9 y10 y3 = emit0 g x1 x2 x3 x4 x5 x6 x7 x8 x9 x10 h := by
  subst eg e1 e2 e3 e4 e5 e6 e7 e8 e9 e10 eh; rfl
theorem score0_congr {g g' : Vec F S240x224 .i32} {x1 : Vec F S1x240x1 .i32} {x2 : Vec F S1x240x1 .f32} {x3 : Vec F S1x240x1 .f32} {x4 : Vec F S240x128 .f32} {x5 : Vec F S224x384 .bf16} {x6 : Vec F S1x384 .f32} {x7 : Vec F S1x384 .f32} {x8 : Vec F S128x384 .bf16} {x9 : Vec F S1x384 .f32} {x10 : Vec F S1x384 .f32} {y1 : Vec F S1x240x1 .i32} {y2 : Vec F S1x240x1 .f32} {y3 : Vec F S1x240x1 .f32} {y4 : Vec F S240x128 .f32} {y5 : Vec F S224x384 .bf16} {y6 : Vec F S1x384 .f32} {y7 : Vec F S1x384 .f32} {y8 : Vec F S128x384 .bf16} {y9 : Vec F S1x384 .f32} {y10 : Vec F S1x384 .f32} {h h' : Vec F S240x128 .f32} (eg : g' = g) (e1 : y1 = x1) (e2 : y2 = x2) (e3 : y3 = x3) (e4 : y4 = x4) (e5 : y5 = x5) (e6 : y6 = x6) (e7 : y7 = x7) (e8 : y8 = x8) (e9 : y9 = x9) (e10 : y10 = x10) (eh : h' = h) : k0_pay1 (k0_pay4 (k0_pay3 g' y1 y5 y2 y6 y7) h' y8 y9 y10 y3) y4 = score0 g x1 x2 x3 x4 x5 x6 x7 x8 x9 x10 h := by
  subst eg e1 e2 e3 e4 e5 e6 e7 e8 e9 e10 eh; rfl
theorem next0_congr {g g' : Vec F S240x224 .i32} {x1 : Vec F S1x240x1 .i32} {x2 : Vec F S1x240x1 .f32} {x3 : Vec F S1x240x1 .f32} {x4 : Vec F S240x128 .f32} {x5 : Vec F S224x384 .bf16} {x6 : Vec F S1x384 .f32} {x7 : Vec F S1x384 .f32} {x8 : Vec F S128x384 .bf16} {x9 : Vec F S1x384 .f32} {x10 : Vec F S1x384 .f32} {y1 : Vec F S1x240x1 .i32} {y2 : Vec F S1x240x1 .f32} {y3 : Vec F S1x240x1 .f32} {y4 : Vec F S240x128 .f32} {y5 : Vec F S224x384 .bf16} {y6 : Vec F S1x384 .f32} {y7 : Vec F S1x384 .f32} {y8 : Vec F S128x384 .bf16} {y9 : Vec F S1x384 .f32} {y10 : Vec F S1x384 .f32} {h h' : Vec F S240x128 .f32} (eg : g' = g) (e1 : y1 = x1) (e2 : y2 = x2) (e3 : y3 = x3) (e4 : y4 = x4) (e5 : y5 = x5) (e6 : y6 = x6) (e7 : y7 = x7) (e8 : y8 = x8) (e9 : y9 = x9) (e10 : y10 = x10) (eh : h' = h) : k0_pay4 (k0_pay3 g' y1 y5 y2 y6 y7) h' y8 y9 y10 y3 = next0 g x1 x2 x3 x4 x5 x6 x7 x8 x9 x10 h := by
  subst eg e1 e2 e3 e4 e5 e6 e7 e8 e9 e10 eh; rfl
theorem keep0_congr {g g' : Vec F S240x224 .i32} {x1 : Vec F S1x240x1 .i32} {x2 : Vec F S1x240x1 .f32} {x3 : Vec F S1x240x1 .f32} {x4 : Vec F S240x128 .f32} {x5 : Vec F S224x384 .bf16} {x6 : Vec F S1x384 .f32} {x7 : Vec F S1x384 .f32} {x8 : Vec F S128x384 .bf16} {x9 : Vec F S1x384 .f32} {x10 : Vec F S1x384 .f32} {y1 : Vec F S1x240x1 .i32} {y2 : Vec F S1x240x1 .f32} {y3 : Vec F S1x240x1 .f32} {y4 : Vec F S240x128 .f32} {y5 : Vec F S224x384 .bf16} {y6 : Vec F S1x384 .f32} {y7 : Vec F S1x384 .f32} {y8 : Vec F S128x384 .bf16} {y9 : Vec F S1x384 .f32} {y10 : Vec F S1x384 .f32} {h h' : Vec F S240x128 .f32} (eg : g' = g) (e1 : y1 = x1) (e2 : y2 = x2) (e3 : y3 = x3) (e4 : y4 = x4) (e5 : y5 = x5) (e6 : y6 = x6) (e7 : y7 = x7) (e8 : y8 = x8) (e9 : y9 = x9) (e10 : y10 = x10) (eh : h' = h) : k0_pay5 (k0_pay3 g' y1 y5 y2 y6 y7) h' y8 y9 y10 y3 = keep0 g x1 x2 x3 x4 x5 x6 x7 x8 x9 x10 h := by
  subst eg e1 e2 e3 e4 e5 e6 e7 e8 e9 e10 eh; rfl

set_option maxHeartbeats 2000000 in
/-- THE BODY, at any point `i`, on whole memrefs: from the inputs at `x0 … x10`, the ids of `x0` naming rows of the
    table, and the state at `d`, where the state the point starts from is `h` (the zeros at the first point, else `d`), it
    leaves the inputs and the table as they were, the outputs at `emit0`, `score0` and `next0`, and the state at `keep0`. -/
theorem body0 (c : Dev nD) (i : grid0.Coords) (arg1 : Memref sig .tc .smem S1x1x240 .i32) (harg1 : arg1.IsWhole) (arg3 : Memref sig .tc .vmem S1x240x1 .i32) (harg3 : arg3.IsWhole) (arg4 : Memref sig .tc .vmem S1x240x1 .f32) (harg4 : arg4.IsWhole) (arg5 : Memref sig .tc .vmem S1x240x1 .f32) (harg5 : arg5.IsWhole) (arg6 : Memref sig .tc .vmem S240x128 .f32) (harg6 : arg6.IsWhole) (arg7 : Memref sig .tc .vmem S224x384 .bf16) (harg7 : arg7.IsWhole) (arg8 : Memref sig .tc .vmem S1x384 .f32) (harg8 : arg8.IsWhole) (arg9 : Memref sig .tc .vmem S1x384 .f32) (harg9 : arg9.IsWhole) (arg10 : Memref sig .tc .vmem S128x384 .bf16) (harg10 : arg10.IsWhole) (arg11 : Memref sig .tc .vmem S1x384 .f32) (harg11 : arg11.IsWhole) (arg12 : Memref sig .tc .vmem S1x384 .f32) (harg12 : arg12.IsWhole) (arg13 : Memref sig .tc .vmem S1x240x128 .bf16) (harg13 : arg13.IsWhole) (arg14 : Memref sig .tc .vmem S1x240x1 .f32) (harg14 : arg14.IsWhole) (arg15 : Memref sig .tc .vmem S240x128 .f32) (harg15 : arg15.IsWhole) (arg16 : Memref sig .tc .vmem S240x224 .i32) (harg16 : arg16.IsWhole) (arg17 : Memref sig .tc .vmem S240x128 .f32) (harg17 : arg17.IsWhole)
    (x0 : Vec F S1x1x240 .i32) (x1 : Vec F S1x240x1 .i32) (x2 : Vec F S1x240x1 .f32) (x3 : Vec F S1x240x1 .f32) (x4 : Vec F S240x128 .f32) (x5 : Vec F S224x384 .bf16) (x6 : Vec F S1x384 .f32) (x7 : Vec F S1x384 .f32) (x8 : Vec F S128x384 .bf16) (x9 : Vec F S1x384 .f32) (x10 : Vec F S1x384 .f32) (ft : Buf (Elt F) ((Memref.whole main_v28 : Memref sig .tc .hbm S325000x224 .i32).view.loc (c : Thread nD τ))) (hx : InTable0 x0)
    (g : Vec F S240x224 .i32) (hg : g = gathered c (Memref.whole main_v28) (rowOf0 x0) (rowOf0_inb hx) ft)
    (d h : Vec F S240x128 .f32) (h0 : first0 i → h = k0_pay2 (F := F)) (h1 : ¬ first0 i → h = d) (W : Waits sig Unit) (K : PUnit → sProp 𝕄) :
    iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare d
        ∗ semVal ((c : Thread nD τ), SemLoc.dma 20) 0 ∗ iprop((Memref.whole main_v28 : Memref sig .tc .hbm S325000x224 .i32).view.loc (c : Thread nD τ) ↦{fullShare} ft) ∗ owes (c : Thread nD τ) 0 W
        ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (emit0 g x1 x2 x3 x4 x5 x6 x7 x8 x9 x10 h) ∗ owns (c : Thread nD τ) arg14 fullShare (score0 g x1 x2 x3 x4 x5 x6 x7 x8 x9 x10 h) ∗ owns (c : Thread nD τ) arg15 fullShare (next0 g x1 x2 x3 x4 x5 x6 x7 x8 x9 x10 h) ∗ (∃ d, owns (c : Thread nD τ) arg16 fullShare d) ∗ owns (c : Thread nD τ) arg17 fullShare (keep0 g x1 x2 x3 x4 x5 x6 x7 x8 x9 x10 h)
            ∗ semVal ((c : Thread nD τ), SemLoc.dma 20) 0 ∗ iprop((Memref.whole main_v28 : Memref sig .tc .hbm S325000x224 .i32).view.loc (c : Thread nD τ) ↦{fullShare} ft) ∗ (∃ W', owes (c : Thread nD τ) 0 W')) -∗ K ⟨⟩))
      ⊢ wp frame (wpE (defs₀ (F := F)) Variants.none c none) Set.univ (cc0__gru1 i arg1 harg1 (Memref.whole main_v28) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch2) K := by
  simp only [cc0__gru1_eq_skeleton]; unfold cc0__gru1_skel
  simp only [k0_part1_eq_skeleton]; unfold k0_part1_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%dg, %fg, -, HG⟩, ⟨%fs0, %hfs0, HS0⟩, Hq0, Hh0, HW, Hk⟩
  obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hfs0
  by_cases hc0 : first0 i
  · obtain rfl := h0 hc0
    sl_exec (disch := first | sl_exact hc0)
    simp only [bind_assoc]
    iapply (gather0 c i arg1 harg1 (Memref.whole main_v28) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch2 x0 hx ft W fg) $$ [H0 Hh0 HG Hq0 HW]
    · isplitl [H0]; · iexact H0
      isplitl [Hh0]; · iexact Hh0
      isplitl [HG]; · iexact HG
      isplitl [Hq0]; · iexact Hq0
      iexact HW
    rw [← hg]
    iintro ⟨H0, Hh0, HG, Hq0, ⟨%W', HW⟩⟩
    sl_exec
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr
      swap; · iexact H11
      ipureintro
      sl_unfold_run_values
      refine (View.read_writes_full _ _ _ _ _).trans ?_
      refine emit0_congr (y4 := x4) ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · rfl
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact View.readCov_full _ inb_S240x128_S240x128_0_0 inb_S240x128_S240x128_0_0 _ _
    isplitl [H12]
    · iexists _; isplitr
      swap; · iexact H12
      ipureintro
      sl_unfold_run_values
      refine (View.read_writes_full _ _ _ _ _).trans ?_
      refine score0_congr ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · exact (View.readAt_full _ _ _).trans (harg6.read_unread _)
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact View.readCov_full _ inb_S240x128_S240x128_0_0 inb_S240x128_S240x128_0_0 _ _
    isplitl [H13]
    · iexists _; isplitr
      swap; · iexact H13
      ipureintro
      sl_unfold_run_values
      refine (View.read_writes_full _ _ _ _ _).trans ?_
      refine next0_congr (y4 := x4) ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · rfl
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact View.readCov_full _ inb_S240x128_S240x128_0_0 inb_S240x128_S240x128_0_0 _ _
    isplitl [HG]
    · iexists _; iexists _; isplitr
      swap; · iexact HG
      ipureintro; exact harg16.read_unread _
    isplitl [HS0]
    · iexists _; isplitr
      swap; · iexact HS0
      ipureintro
      sl_unfold_run_values
      refine (View.read_writes_full _ _ _ _ _).trans ?_
      refine keep0_congr (y4 := x4) ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · rfl
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact View.readCov_full _ inb_S240x128_S240x128_0_0 inb_S240x128_S240x128_0_0 _ _
    isplitl [Hq0]; · iexact Hq0
    isplitl [Hh0]; · iexact Hh0
    iexists _; iexact HW
  · obtain rfl := h1 hc0
    sl_exec (disch := first | sl_exact hc0)
    simp only [bind_assoc]
    iapply (gather0 c i arg1 harg1 (Memref.whole main_v28) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch2 x0 hx ft W fg) $$ [H0 Hh0 HG Hq0 HW]
    · isplitl [H0]; · iexact H0
      isplitl [Hh0]; · iexact Hh0
      isplitl [HG]; · iexact HG
      isplitl [Hq0]; · iexact Hq0
      iexact HW
    rw [← hg]
    iintro ⟨H0, Hh0, HG, Hq0, ⟨%W', HW⟩⟩
    sl_exec
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr
      swap; · iexact H11
      ipureintro
      sl_unfold_run_values
      refine (View.read_writes_full _ _ _ _ _).trans ?_
      refine emit0_congr (y4 := x4) ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · rfl
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact (View.readAt_full _ _ _).trans (harg17.read_unread _)
    isplitl [H12]
    · iexists _; isplitr
      swap; · iexact H12
      ipureintro
      sl_unfold_run_values
      refine (View.read_writes_full _ _ _ _ _).trans ?_
      refine score0_congr ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · exact (View.readAt_full _ _ _).trans (harg6.read_unread _)
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact (View.readAt_full _ _ _).trans (harg17.read_unread _)
    isplitl [H13]
    · iexists _; isplitr
      swap; · iexact H13
      ipureintro
      sl_unfold_run_values
      refine (View.read_writes_full _ _ _ _ _).trans ?_
      refine next0_congr (y4 := x4) ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · rfl
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact (View.readAt_full _ _ _).trans (harg17.read_unread _)
    isplitl [HG]
    · iexists _; iexists _; isplitr
      swap; · iexact HG
      ipureintro; exact harg16.read_unread _
    isplitl [HS0]
    · iexists _; isplitr
      swap; · iexact HS0
      ipureintro
      sl_unfold_run_values
      refine (View.read_writes_full _ _ _ _ _).trans ?_
      refine keep0_congr (y4 := x4) ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · rfl
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact (View.readAt_full _ _ _).trans (harg17.read_unread _)
    isplitl [Hq0]; · iexact Hq0
    isplitl [Hh0]; · iexact Hh0
    iexists _; iexact HW

end Cert.First.Region

end
-- ==== Proof.First.Region.lean ====
/- The region of the first GRU: what its buffers hold at every point, and the run. -/
module

public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Pipeline.Value
public import Idealize.ShloMosaic.Lib.StableHlo.Run
public import Idealize.ShloMosaic.Lib.Claim
public import proofs.«01_k».proof.Proof.First.Kit
public import proofs.«01_k».proof.Proof.First.Body

@[expose] public section

-- membership in a rectangle of production extents (`View.cover_of_tiled`): the elaborator's structural look
-- recurses once per coordinate of the long axes
set_option maxRecDepth 16384

noncomputable section

namespace Cert.First.Region

open Cert.First.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The ids of every point name rows of the table. -/
def InRange (c : Dev nD) : Prop := ∀ t : Fin cfg0.N, InTable0 (iblk m c 0 t)

/-- The rows of the table gathered at point `t`: for every row, the table's row its id names. -/
def rowsAt (hx : ∀ c, InRange m c) (c : Dev nD) (t : Fin cfg0.N) : Vec F S240x224 .i32 :=
  gathered c (Memref.whole main_v28) (rowOf0 (iblk m c 0 t)) (rowOf0_inb (hx c t)) (V m c main_v28)

/-- The state after `n` points: zero, then one step per point. -/
def state (hx : ∀ c, InRange m c) (c : Dev nD) : ℕ → Vec F S240x128 .f32
  | 0 => k0_pay2
  | n + 1 => if h : n < cfg0.N then next0 (rowsAt m hx c ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (state hx c n) else state hx c n

theorem state_succ (hx : ∀ c, InRange m c) (c : Dev nD) (t : Fin cfg0.N) :
    state m hx c (t.val + 1) = next0 (rowsAt m hx c t) (iblk m c 1 t) (iblk m c 2 t) (iblk m c 3 t) (iblk m c 4 t) (iblk m c 5 t) (iblk m c 6 t) (iblk m c 7 t) (iblk m c 8 t) (iblk m c 9 t) (iblk m c 10 t) (state m hx c t.val) := by
  rw [state, dif_pos t.isLt]

/-- What a point keeps in the scratch is its new state. -/
theorem keep0_eq (g : Vec F S240x224 .i32) (x1 : Vec F S1x240x1 .i32) (x2 x3 : Vec F S1x240x1 .f32) (x4 : Vec F S240x128 .f32) (x5 : Vec F S224x384 .bf16) (x6 x7 : Vec F S1x384 .f32) (x8 : Vec F S128x384 .bf16) (x9 x10 : Vec F S1x384 .f32) (h : Vec F S240x128 .f32) :
    keep0 g x1 x2 x3 x4 x5 x6 x7 x8 x9 x10 h = next0 g x1 x2 x3 x4 x5 x6 x7 x8 x9 x10 h := by
  unfold keep0 next0 k0_pay5
  exact shapeCast_self _ _

/-! ## What the body holds between points -/

abbrev ms0_0 (t : Fin cfg0.N) : Memref sig .tc .smem S1x1x240 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x240x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x240x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x240x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S240x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S224x384 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x384 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x384 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x384 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x240x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x240x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S240x128 .f32 := win0_13.stage (cfg0.slots t 13)
abbrev hs0_13 (t : Fin cfg0.N) : (ms0_13 t).IsWhole := hstage0_13 ((cfg0.slots t 13).cast nbuf0_13)

/-- The scratch the rows are gathered into; -/
abbrev scM0_0 : Memref sig .tc .vmem S240x224 .i32 := Memref.whole cc0_scratch0
/-- the scratch the state is carried in. -/
abbrev scM0_1 : Memref sig .tc .vmem S240x128 .f32 := Memref.whole cc0_scratch1

/-- The body's own semaphore. -/
abbrev osem0 : Fin 1 → SemLoc sig := fun j => (![SemLoc.dma 20] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 20) 0) := by
  rw [Pipeline.ownSems0_eq_of_list c osem0 [0] (by decide) (by decide)]; rfl
/-- The table the body copies rows of. -/
def H0 : Finset (Ref sig .tc) := {main_v28}
theorem H0_sub : H0 ⊆ Pipeline.restRefs sig spec0 := by decide
/-- The table held whole at `f`. -/
abbrev tabPt (c : Dev nD) (f : Buf (Elt F) ((Memref.whole main_v28 : Memref sig .tc .hbm S325000x224 .i32).view.loc (c : Thread nD τ))) : sProp 𝕄 :=
  (Memref.whole main_v28 : Memref sig .tc .hbm S325000x224 .i32).view.loc (c : Thread nD τ) ↦{fullShare} f
theorem hbmPts0_eq (c : Dev nD) :
    (bigSep H0 (fun b => ((c : Thread nD τ).loc b) ↦{fullShare} V m c b) : sProp 𝕄) = iprop(tabPt c (V m c main_v28)) := by
  rw [BI.bigSep_eq_bigSepL_of_eq [main_v28] (by decide) (by decide)]; rfl

/-- What is held at the region's two ends, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 20) 0) ∗ iprop(tabPt c (V m c main_v28))) := by
  rw [Pipeline.ΦD_eq, scopedRest0_eq, ownSems00_eq, hbmPts0_eq]; simp only [scM0_0, scM0_1, owns_whole]; try rfl

/-- What is held before point `n` (or, at the end, after the last): the same, with the state in its scratch from the
    first point on. -/
def Phi (hx : ∀ c, InRange m c) (c : Dev nD) (n : ℕ) : sProp 𝕄 :=
  iprop(iprop((∃ d, owns (c : Thread nD τ) scM0_0 fullShare d) ∗ (∃ d, ⌜n ≠ 0 → d = state m hx c n⌝ ∗ owns (c : Thread nD τ) scM0_1 fullShare d)) ∗ (∃ r, prngReg c r) ∗ iprop(semVal ((c : Thread nD τ), SemLoc.dma 20) 0) ∗ iprop(tabPt c (V m c main_v28)))

theorem Phi_zero (hx : ∀ c, InRange m c) (c : Dev nD) : (Pipeline.ΦD osem0 spec0 H0 (V m) c : sProp 𝕄) ⊢ Phi m hx c 0 := by
  rw [PhiD0_eq]; unfold Phi
  iintro ⟨⟨H0, ⟨%d, H1⟩⟩, Hr⟩
  isplitr [Hr]
  · isplitl [H0]; · iexact H0
    iexists d
    isplitr; · ipureintro; exact fun h => absurd rfl h
    iexact H1
  iexact Hr

theorem Phi_last (hx : ∀ c, InRange m c) (c : Dev nD) (n : ℕ) : Phi m hx c n ⊢ (Pipeline.ΦD osem0 spec0 H0 (V m) c : sProp 𝕄) := by
  rw [PhiD0_eq]; unfold Phi
  iintro ⟨⟨H0, ⟨%d, -, H1⟩⟩, Hr⟩
  isplitr [Hr]
  · isplitl [H0]; · iexact H0
    iexists d
    iexact H1
  iexact Hr

/-- The proof data: the arrays as the region finds them; after a point its inputs' blocks, and its outputs at the new
    state as bf16, at the scores and at the new state. -/
def dat0 (hx : ∀ c, InRange m c) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => emit0 (rowsAt m hx c t) (iblk m c 1 t) (iblk m c 2 t) (iblk m c 3 t) (iblk m c 4 t) (iblk m c 5 t) (iblk m c 6 t) (iblk m c 7 t) (iblk m c 8 t) (iblk m c 9 t) (iblk m c 10 t) (state m hx c t.val)
    | ⟨12, _⟩ => score0 (rowsAt m hx c t) (iblk m c 1 t) (iblk m c 2 t) (iblk m c 3 t) (iblk m c 4 t) (iblk m c 5 t) (iblk m c 6 t) (iblk m c 7 t) (iblk m c 8 t) (iblk m c 9 t) (iblk m c 10 t) (state m hx c t.val)
    | ⟨13, _⟩ => state m hx c (t.val + 1)
  Φ t := Phi m hx c t.val
  q _ := fullShare
  owed _ := 0

def dats (hx : ∀ c, InRange m c) : (p : Fin 1) → (c : Dev nD) → Dat τ (Elt F) Unit ℕ (Pipeline.UD sig nD τ) ℕ (cfgs p) c
  | 0 => dat0 m hx

theorem A_eq0 (hx : ∀ c, InRange m c) (c : Dev nD) (w : Fin cfg0.W) : (dat0 m hx c).A w = V m c (Pipeline.arrRef spec0 w) := by
  dsimp only [dat0]
theorem after0_0 (hx : ∀ c, InRange m c) (c : Dev nD) (t : Fin cfg0.N) : (dat0 m hx c).after 0 t = iblk m c 0 t := by dsimp only [dat0]
theorem after0_1 (hx : ∀ c, InRange m c) (c : Dev nD) (t : Fin cfg0.N) : (dat0 m hx c).after 1 t = iblk m c 1 t := by dsimp only [dat0]
theorem after0_2 (hx : ∀ c, InRange m c) (c : Dev nD) (t : Fin cfg0.N) : (dat0 m hx c).after 2 t = iblk m c 2 t := by dsimp only [dat0]
theorem after0_3 (hx : ∀ c, InRange m c) (c : Dev nD) (t : Fin cfg0.N) : (dat0 m hx c).after 3 t = iblk m c 3 t := by dsimp only [dat0]
theorem after0_4 (hx : ∀ c, InRange m c) (c : Dev nD) (t : Fin cfg0.N) : (dat0 m hx c).after 4 t = iblk m c 4 t := by dsimp only [dat0]
theorem after0_5 (hx : ∀ c, InRange m c) (c : Dev nD) (t : Fin cfg0.N) : (dat0 m hx c).after 5 t = iblk m c 5 t := by dsimp only [dat0]
theorem after0_6 (hx : ∀ c, InRange m c) (c : Dev nD) (t : Fin cfg0.N) : (dat0 m hx c).after 6 t = iblk m c 6 t := by dsimp only [dat0]
theorem after0_7 (hx : ∀ c, InRange m c) (c : Dev nD) (t : Fin cfg0.N) : (dat0 m hx c).after 7 t = iblk m c 7 t := by dsimp only [dat0]
theorem after0_8 (hx : ∀ c, InRange m c) (c : Dev nD) (t : Fin cfg0.N) : (dat0 m hx c).after 8 t = iblk m c 8 t := by dsimp only [dat0]
theorem after0_9 (hx : ∀ c, InRange m c) (c : Dev nD) (t : Fin cfg0.N) : (dat0 m hx c).after 9 t = iblk m c 9 t := by dsimp only [dat0]
theorem after0_10 (hx : ∀ c, InRange m c) (c : Dev nD) (t : Fin cfg0.N) : (dat0 m hx c).after 10 t = iblk m c 10 t := by dsimp only [dat0]
theorem after0_11 (hx : ∀ c, InRange m c) (c : Dev nD) (t : Fin cfg0.N) : (dat0 m hx c).after 11 t = emit0 (rowsAt m hx c t) (iblk m c 1 t) (iblk m c 2 t) (iblk m c 3 t) (iblk m c 4 t) (iblk m c 5 t) (iblk m c 6 t) (iblk m c 7 t) (iblk m c 8 t) (iblk m c 9 t) (iblk m c 10 t) (state m hx c t.val) := by dsimp only [dat0]
theorem after0_12 (hx : ∀ c, InRange m c) (c : Dev nD) (t : Fin cfg0.N) : (dat0 m hx c).after 12 t = score0 (rowsAt m hx c t) (iblk m c 1 t) (iblk m c 2 t) (iblk m c 3 t) (iblk m c 4 t) (iblk m c 5 t) (iblk m c 6 t) (iblk m c 7 t) (iblk m c 8 t) (iblk m c 9 t) (iblk m c 10 t) (state m hx c t.val) := by dsimp only [dat0]
theorem after0_13 (hx : ∀ c, InRange m c) (c : Dev nD) (t : Fin cfg0.N) : (dat0 m hx c).after 13 t = state m hx c (t.val + 1) := by dsimp only [dat0]
theorem before0_0 (hx : ∀ c, InRange m c) (c : Dev nD) (t : Fin cfg0.N) (d) : (dat0 m hx c).before 0 t d = iblk m c 0 t :=
  before0_0_of m (dat0 m hx c) (A_eq0 m hx c 0) (after0_0 m hx c) t d
theorem before0_1 (hx : ∀ c, InRange m c) (c : Dev nD) (t : Fin cfg0.N) (d) : (dat0 m hx c).before 1 t d = iblk m c 1 t :=
  before0_1_of m (dat0 m hx c) (A_eq0 m hx c 1) (after0_1 m hx c) t d
theorem before0_2 (hx : ∀ c, InRange m c) (c : Dev nD) (t : Fin cfg0.N) (d) : (dat0 m hx c).before 2 t d = iblk m c 2 t :=
  before0_2_of m (dat0 m hx c) (A_eq0 m hx c 2) (after0_2 m hx c) t d
theorem before0_3 (hx : ∀ c, InRange m c) (c : Dev nD) (t : Fin cfg0.N) (d) : (dat0 m hx c).before 3 t d = iblk m c 3 t :=
  before0_3_of m (dat0 m hx c) (A_eq0 m hx c 3) (after0_3 m hx c) t d
theorem before0_4 (hx : ∀ c, InRange m c) (c : Dev nD) (t : Fin cfg0.N) (d) : (dat0 m hx c).before 4 t d = iblk m c 4 t :=
  before0_4_of m (dat0 m hx c) (A_eq0 m hx c 4) (after0_4 m hx c) t d
theorem before0_5 (hx : ∀ c, InRange m c) (c : Dev nD) (t : Fin cfg0.N) (d) : (dat0 m hx c).before 5 t d = iblk m c 5 t :=
  before0_5_of m (dat0 m hx c) (A_eq0 m hx c 5) (after0_5 m hx c) t d
theorem before0_6 (hx : ∀ c, InRange m c) (c : Dev nD) (t : Fin cfg0.N) (d) : (dat0 m hx c).before 6 t d = iblk m c 6 t :=
  before0_6_of m (dat0 m hx c) (A_eq0 m hx c 6) (after0_6 m hx c) t d
theorem before0_7 (hx : ∀ c, InRange m c) (c : Dev nD) (t : Fin cfg0.N) (d) : (dat0 m hx c).before 7 t d = iblk m c 7 t :=
  before0_7_of m (dat0 m hx c) (A_eq0 m hx c 7) (after0_7 m hx c) t d
theorem before0_8 (hx : ∀ c, InRange m c) (c : Dev nD) (t : Fin cfg0.N) (d) : (dat0 m hx c).before 8 t d = iblk m c 8 t :=
  before0_8_of m (dat0 m hx c) (A_eq0 m hx c 8) (after0_8 m hx c) t d
theorem before0_9 (hx : ∀ c, InRange m c) (c : Dev nD) (t : Fin cfg0.N) (d) : (dat0 m hx c).before 9 t d = iblk m c 9 t :=
  before0_9_of m (dat0 m hx c) (A_eq0 m hx c 9) (after0_9 m hx c) t d
theorem before0_10 (hx : ∀ c, InRange m c) (c : Dev nD) (t : Fin cfg0.N) (d) : (dat0 m hx c).before 10 t d = iblk m c 10 t :=
  before0_10_of m (dat0 m hx c) (A_eq0 m hx c 10) (after0_10 m hx c) t d

set_option maxHeartbeats 1600000 in
/-- The body at any point. -/
theorem sound_body0 (hx : ∀ c, InRange m c) (c : Dev nD) (t : Fin cfg0.N) :
    iprop((dat0 m hx c).Φ t.castSucc ∗ (dat0 m hx c).owesAt () t.castSucc
      ∗ (∃ d, owns (c : Thread nD τ) (ms0_0 t) fullShare ((dat0 m hx c).before 0 t d))
      ∗ (∃ d, owns (c : Thread nD τ) (ms0_1 t) fullShare ((dat0 m hx c).before 1 t d))
      ∗ (∃ d, owns (c : Thread nD τ) (ms0_2 t) fullShare ((dat0 m hx c).before 2 t d))
      ∗ (∃ d, owns (c : Thread nD τ) (ms0_3 t) fullShare ((dat0 m hx c).before 3 t d))
      ∗ (∃ d, owns (c : Thread nD τ) (ms0_4 t) fullShare ((dat0 m hx c).before 4 t d))
      ∗ (∃ d, owns (c : Thread nD τ) (ms0_5 t) fullShare ((dat0 m hx c).before 5 t d))
      ∗ (∃ d, owns (c : Thread nD τ) (ms0_6 t) fullShare ((dat0 m hx c).before 6 t d))
      ∗ (∃ d, owns (c : Thread nD τ) (ms0_7 t) fullShare ((dat0 m hx c).before 7 t d))
      ∗ (∃ d, owns (c : Thread nD τ) (ms0_8 t) fullShare ((dat0 m hx c).before 8 t d))
      ∗ (∃ d, owns (c : Thread nD τ) (ms0_9 t) fullShare ((dat0 m hx c).before 9 t d))
      ∗ (∃ d, owns (c : Thread nD τ) (ms0_10 t) fullShare ((dat0 m hx c).before 10 t d))
      ∗ (∃ d, owns (c : Thread nD τ) (ms0_11 t) fullShare ((dat0 m hx c).before 11 t d))
      ∗ (∃ d, owns (c : Thread nD τ) (ms0_12 t) fullShare ((dat0 m hx c).before 12 t d))
      ∗ (∃ d, owns (c : Thread nD τ) (ms0_13 t) fullShare ((dat0 m hx c).before 13 t d)))
      ⊢ wp frame (wpE (defs₀ (F := F)) Variants.none c none) Set.univ (bodyAt0 t) (fun _ =>
        iprop((dat0 m hx c).Φ t.succ ∗ (dat0 m hx c).owesAt () t.succ
        ∗ owns (c : Thread nD τ) (ms0_0 t) fullShare ((dat0 m hx c).after 0 t)
        ∗ owns (c : Thread nD τ) (ms0_1 t) fullShare ((dat0 m hx c).after 1 t)
        ∗ owns (c : Thread nD τ) (ms0_2 t) fullShare ((dat0 m hx c).after 2 t)
        ∗ owns (c : Thread nD τ) (ms0_3 t) fullShare ((dat0 m hx c).after 3 t)
        ∗ owns (c : Thread nD τ) (ms0_4 t) fullShare ((dat0 m hx c).after 4 t)
        ∗ owns (c : Thread nD τ) (ms0_5 t) fullShare ((dat0 m hx c).after 5 t)
        ∗ owns (c : Thread nD τ) (ms0_6 t) fullShare ((dat0 m hx c).after 6 t)
        ∗ owns (c : Thread nD τ) (ms0_7 t) fullShare ((dat0 m hx c).after 7 t)
        ∗ owns (c : Thread nD τ) (ms0_8 t) fullShare ((dat0 m hx c).after 8 t)
        ∗ owns (c : Thread nD τ) (ms0_9 t) fullShare ((dat0 m hx c).after 9 t)
        ∗ owns (c : Thread nD τ) (ms0_10 t) fullShare ((dat0 m hx c).after 10 t)
        ∗ owns (c : Thread nD τ) (ms0_11 t) fullShare ((dat0 m hx c).after 11 t)
        ∗ owns (c : Thread nD τ) (ms0_12 t) fullShare ((dat0 m hx c).after 12 t)
        ∗ owns (c : Thread nD τ) (ms0_13 t) fullShare ((dat0 m hx c).after 13 t))) := by
  unfold bodyAt0
  simp only [before0_0, before0_1, before0_2, before0_3, before0_4, before0_5, before0_6, before0_7, before0_8, before0_9, before0_10]
  rw [after0_0, after0_1, after0_2, after0_3, after0_4, after0_5, after0_6, after0_7, after0_8, after0_9, after0_10, after0_11, after0_12, after0_13]
  rw [show (dat0 m hx c).Φ t.castSucc = Phi m hx c t.val from rfl, show (dat0 m hx c).Φ t.succ = Phi m hx c (t.val + 1) from rfl]
  unfold Dat.owesAt Pipeline.owesWithin
  rw [show (dat0 m hx c).owed t.castSucc = 0 from rfl, show (dat0 m hx c).owed t.succ = 0 from rfl]
  rw [state_succ]
  unfold Phi
  iintro ⟨⟨⟨HS0, ⟨%d, %hd, HS1⟩⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body0 c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v28) (hx c t) (rowsAt m hx c t) rfl d (state m hx c t.val)
    (fun h => by rw [(first0_iff t).mp h]; rfl) (fun h => (hd fun e => h ((first0_iff t).mpr e)).symm) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexact HS0
  isplitl [HS1]; · iexact HS1
  isplitl [Hq0]; · iexact Hq0
  isplitl [Hh0]; · iexact Hh0
  isplitl [HW]; · iexact HW
  iintro ⟨H0, H1, H2, H3, H4, H5, H6, H7, H8, H9, H10, H11, H12, H13, HS0, HS1, Hq0, Hh0, ⟨%W', HW'⟩⟩
  isplitl [HS0 HS1 Hg Hq0 Hh0]
  · isplitl [HS0 HS1]
    · isplitl [HS0]; · iexact HS0
      iexists _
      isplitr
      swap; · iexact HS1
      ipureintro
      intro _
      rw [keep0_eq, state_succ]
    isplitl [Hg]; · iexact Hg
    isplitl [Hq0]; · iexact Hq0
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row0 (t : Fin cfg0.N) :
    defs₀ (F := F) .tc cfg0.body (cfg0.bodyArgs t (cfg0.slots t)) = bodyAt0 t := by
  unfold defs₀; rw [Defs.onTc_tc]

/-- What the launch asks of the body, at every point. -/
theorem body_obligation0 (hx : ∀ c, InRange m c) (c : Dev nD) : BodyObligation (dat0 (F := F) m hx c) (defs₀ (F := F)) Variants.none () Set.univ := fun t => by
  rw [bigSep_W0, bigSep_W0, defs₀_row0]
  exact triple_restated (sound_body0 m hx c t) rfl .rfl fun _ => .rfl

/-- The host line after the region touches the region's arrays and buffers the region does not use. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  obtain rfl := Finset.mem_singleton.mp hb
  simp only [StableHlo.unary_bufs, Finset.mem_insert, Finset.mem_singleton, not_or]
  repeat' apply And.intro
  all_goals exact StableHlo.devRef_ne_of_ne (by decide)

set_option backward.isDefEq.respectTransparency.types false in
/-- The run: every array at its final contents, every other buffer at what the host line after the region leaves, every
    semaphore at zero. -/
theorem run_main (hx : ∀ c, InRange m c) : θ_run defs (onTc (τ := τ) (main (F := F))) (s₀ m ρ) fun r =>
    Pipeline.FramePost cfgs (dats m hx) 0 (Pipeline.afterTail₀ cfgs (dats m hx) 0 (V0 m) [hostOps1]) r ∧ r.2.sem = fun _ => 0 :=
  Pipeline.θ_run_frame_dma_around cfgs (dats m hx) 0 launch0 osem0 defs₀ Variants.none ownSemFacts0 H0 H0_sub m ρ main
    (hbody := fun c => (body_obligation0 m hx c).loose) (hshare := fun c => (dats m hx 0 c).share_full fun _ => rfl)
    (howed := fun _ _ => rfl) (V₀ := V0 m) (opss := [hostOps1]) (hsub := tail_sub) (hfresh := sfx_fresh) (hkeep := sfx_keeps)
    (hmain := hmain m Variants.none) (hA := fun c w => A_eq0 m hx c w) (hin := fun c => Phi_zero m hx c)
    (hout := fun c => Phi_last m hx c _) (Q' := _) (hQ' := fun _ h => h)

/-- Every argument array ends as launched, and every semaphore at zero. -/
theorem unchanged (hx : ∀ c, InRange m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨h.1, h.2.2⟩)
    (θ_run_and (frame_of m ρ (dats m hx) (fun c w => A_eq0 m hx c w) ((θ_run defs _ _).mono (fun _ h => h.1) (run_main m ρ hx))) (run_main m ρ hx))

end Cert.First.Region

end
-- ==== Proof.First.Words.lean ====
/-
  The word arithmetic of the embedding's ids: the group of four rows an id lies in (`off3_eq`), its place in the group
  (`toNat_place`), and the byte at that place taken out of a word of four bytes (`byte_eq`).
-/
module

public import proofs.«01_k».proof.Proof.Gen.First.Skeleton
public import Idealize.ShloMosaic.Lib.Affine
public import Idealize.ShloMosaic.Lib.BitcastConvert

@[expose] public section

noncomputable section

open Idealize.ShloMosaic

namespace Cert.First.Words

open Cert.First Cert.First.Gen

/-- The quotient of a nonnegative word by a positive literal. -/
theorem toNat_divsi (u : ArithUnit) {x : BitVec 32} (hx : 2 * x.toNat < 2 ^ 32) (k : Nat) (hk : 0 < k) (hk' : 2 * k < 2 ^ 32) :
    (IntOp.divsi u x (BitVec.ofNat 32 k)).toNat = x.toNat / k := by
  have hkN : (BitVec.ofNat 32 k).toNat = k := by rw [BitVec.toNat_ofNat]; omega
  have hm : x.msb = false := by rw [BitVec.msb_eq_false_iff_two_mul_lt]; exact hx
  have hkm : (BitVec.ofNat 32 k).msb = false := by rw [BitVec.msb_eq_false_iff_two_mul_lt]; omega
  have : IntOp.divsi u x (BitVec.ofNat 32 k) = x.sdiv (BitVec.ofNat 32 k) :=
    if_neg (IntOp.not_corner_of_pos (by rw [BitVec.toInt_eq_toNat_of_lt (by omega)]; omega))
  rw [this, BitVec.sdiv_eq, hm, hkm]
  show (x / BitVec.ofNat 32 k).toNat = _
  rw [BitVec.toNat_udiv, hkN]

/-- The row copied for an id of the table is row `id / 4` of the table of words. -/
theorem off3_eq (w : BitVec 32) (hw : w.toNat < 1300000) : k0_off3 w = ![w.toNat / 4, 0] := by
  have hd : (IntOp.divsi .scalar w 4#32).toNat = w.toNat / 4 := toNat_divsi _ (by omega) 4 (by omega) (by omega)
  by_cases h0 : w.toNat = 0
  · obtain rfl : w = 0#32 := BitVec.eq_of_toNat_eq h0
    decide +kernel
  · have hi : w.toInt = (w.toNat : Int) := BitVec.toInt_eq_toNat_of_lt (by omega)
    have h1 : Scalar.cmpi .sgt w 0#32 = 1#1 := IntOp.cmpi_sgt.mpr (by rw [hi]; show (0 : Int) < _; omega)
    have h2 : Scalar.cmpi .slt w 0#32 = 0#1 := by
      have : ¬ Scalar.cmpi .slt w 0#32 = 1#1 := fun h => by
        have := IntOp.cmpi_slt.mp h
        rw [hi] at this
        have h' : (w.toNat : Int) < 0 := this
        omega
      revert this; generalize Scalar.cmpi .slt w 0#32 = x; revert x; decide
    unfold k0_off3
    dsimp only
    rw [h1, h2]
    have hs : ∀ (a b c : BitVec 1) (x y : BitVec 32),
        Scalar.select (Scalar.andi (Scalar.cmpi .ne (Scalar.subi (Scalar.extui (1#1 : BitVec 1) : BitVec 32) (Scalar.extui (0#1 : BitVec 1)))
          (Scalar.subi (Scalar.extui (Scalar.cmpi .sgt 4#32 0#32) : BitVec 32) (Scalar.extui (Scalar.cmpi .slt 4#32 0#32)))) c) x y = y := by
      intro a b c x y
      have : Scalar.andi (Scalar.cmpi .ne (Scalar.subi (Scalar.extui (1#1 : BitVec 1) : BitVec 32) (Scalar.extui (0#1 : BitVec 1)))
          (Scalar.subi (Scalar.extui (Scalar.cmpi .sgt 4#32 0#32) : BitVec 32) (Scalar.extui (Scalar.cmpi .slt 4#32 0#32)))) c = 0#1 := by
        revert c; decide +kernel
      rw [this]; rfl
    rw [hs 0#1 0#1]
    exact congrArg (fun n => (![n, 0] : Fin 2 → Nat)) hd

/-- So an id of the table names a row of it. -/
theorem chk_of (w : BitVec 32) (hw : w.toNat < 1300000) : k0_chk1 w := by
  unfold k0_chk1
  rw [off3_eq w hw]
  intro a
  match a with
  | ⟨0, _⟩ => show w.toNat / 4 + 1 ≤ 325000; omega
  | ⟨1, _⟩ => show 0 + 224 ≤ 224; omega

/-- A word that is nonnegative and below the table's length when read signed. -/
theorem toNat_lt (w : BitVec 32) (h0 : IntOp.cmpi .sge w 0#32 = 1#1) (h1 : IntOp.cmpi .slt w 1300000#32 = 1#1) : w.toNat < 1300000 := by
  have a := IntOp.cmpi_sge.mp h0
  have b := IntOp.cmpi_slt.mp h1
  have a' : (0 : Int) ≤ w.toInt := a
  have b' : w.toInt < 1300000 := b
  rw [BitVec.toInt_eq_toNat_cond] at a' b'
  split at a' <;> omega

/-- Byte `r` of a word, brought to the top and shifted down again, is the byte's signed value. -/
theorem byte_eq (x : BitVec 32) (r : ℕ) (hr : r < 4) :
    (x <<< (24 - 8 * r)).sshiftRight 24 = (x.extractLsb' (8 * r) 8).signExtend 32 := by
  apply BitVec.eq_of_getLsbD_eq
  intro i hi
  rw [BitVec.getLsbD_sshiftRight, BitVec.getLsbD_signExtend]
  have h32 : ¬ (32 ≤ i) := by omega
  by_cases h : i < 8
  · have e : 24 + i < 32 := by omega
    have e2 : ¬ (24 + i < 24 - 8 * r) := by omega
    have e3 : 24 + i - (24 - 8 * r) = 8 * r + i := by omega
    simp [h32, h, e, e2, e3, hi]
    rfl
  · have e : ¬ (24 + i < 32) := by omega
    have e2 : ¬ (31 < 24 - 8 * r) := by omega
    have e3 : 31 - (24 - 8 * r) = 8 * r + 7 := by omega
    simp [h32, h, e, e2, e3, hi, BitVec.msb_eq_getLsbD_last]
    rfl

/-- The same, with the shift given by a word. -/
theorem shifted_eq (x s : BitVec 32) (r : ℕ) (hr : r < 4) (hs : s.toNat = 24 - 8 * r) :
    IntOp.shrsi .vector (IntOp.shli .vector x s) 24#32 = (x.extractLsb' (8 * r) 8).signExtend 32 := by
  unfold IntOp.shrsi IntOp.shli
  rw [if_pos (by decide), if_pos (by omega), ← byte_eq x r hr, ← hs]
  rfl

/-- Byte `r` of a word made of four bytes. -/
theorem widen_byte {t s : Shape} (x : IVec s 8) (h : t.SplitsWords 32 s 8) (j : t.Idx) (r : ℕ) (hr : r < 4) (k : s.Coord h.axis) (hk : k.val = r) :
    (Host.bitcastConvertWiden t 32 x h j).extractLsb' (8 * r) 8 = x (h.snoc j k) := by
  apply BitVec.eq_of_getLsbD_eq
  intro i hi
  rw [BitVec.getLsbD_extractLsb', Host.bitcastConvertWiden_getLsbD t 32 x h j (8 * r + i) (by omega)]
  have e : (8 * r + i) / 8 = r := by omega
  have e' : (8 * r + i) % 8 = i := by omega
  have ek : (⟨(8 * r + i) / 8, h.div_lt (by omega)⟩ : s.Coord h.axis) = k := Fin.ext (by rw [hk]; exact e)
  rw [ek, e']
  simp [hi]

/-- The remainder by four as the host computes it, of a nonnegative word: the place of the id in its group. -/
theorem toNat_place (w : BitVec 32) (hw : w.toNat < 1300000) :
    (if IntOp.andi (IntOp.cmpi .ne (IntOp.cmpi .slt (IntOp.remsi .host w 4#32) 0#32) (IntOp.cmpi .slt 4#32 0#32))
        (IntOp.cmpi .ne (IntOp.remsi .host w 4#32) 0#32) = 1#1 then IntOp.addi (IntOp.remsi .host w 4#32) 4#32 else IntOp.remsi .host w 4#32).toNat
      = w.toNat % 4 := by
  have hd : (IntOp.remsi .host w 4#32).toNat = w.toNat % 4 := IntOp.toNat_remsi _ (by omega) 4 (by omega) (by omega)
  have h2 : IntOp.cmpi .slt (IntOp.remsi .host w 4#32) 0#32 = 0#1 := by
    have : ¬ IntOp.cmpi .slt (IntOp.remsi .host w 4#32) 0#32 = 1#1 := fun h => by
      have := IntOp.cmpi_slt.mp h
      rw [BitVec.toInt_eq_toNat_of_lt (by omega), hd] at this
      have h' : ((w.toNat % 4 : ℕ) : Int) < 0 := this
      omega
    revert this; generalize IntOp.cmpi .slt (IntOp.remsi .host w 4#32) 0#32 = x; revert x; decide
  rw [h2, if_neg, hd]
  generalize IntOp.cmpi .ne (IntOp.remsi .host w 4#32) 0#32 = x
  revert x; decide

end Cert.First.Words

end
-- ==== Proof.First.Ids.lean ====
/-
  The ids every point reads, in terms of the program's arguments, and that they name rows of the table when the
  precondition holds.
-/
module

public import proofs.«01_k».proof.Proof.First.Region
public import proofs.«01_k».proof.Proof.First.Words
public import proofs.«01_k».proof.Pre_ids_in_table
public import Idealize.ShloMosaic.Lib.KernelVsHost
public import Idealize.ShloMosaic.Lib.Pipeline.Value

@[expose] public section

noncomputable section

open Idealize.ShloMosaic Idealize.ShloMosaic.TcCoe Idealize.ShloMosaic.ValueIdx

namespace Cert.First.Ids

open Cert.First Cert.First.Gen Cert.First.Region

variable {F : FTy → Type} [FloatOps F]
variable (m : (ℓ : Loc nD τ sig) → Buf (Elt F) ℓ) (c : Dev nD)

set_option maxRecDepth 8192 in
theorem V_v29 : V m c main_v29 = shapeCast S512x1x240 (transpose S512x240 [1, 0] (m ((c : Thread nD τ).loc main_arg2)) transposes_S240x512_S512x240_1_0) shapeCasts_S512x240_S512x1x240 := by
  unfold V V0
  simp only [List.flatten_cons, List.flatten_nil, List.append_nil, List.cons_append, List.nil_append]
  after_results
  rfl

theorem coord (t : Fin cfg0.N) : (grid0.coords t 0).val = t.val := by
  have hN : cfg0.N = 512 := N_0
  have := t.isLt
  rw [Pipeline.Grid.coords_val t 0 (S := 1) (B := 512) (by decide +kernel) rfl]
  omega

theorem index0 (t : Fin cfg0.N) : win0_0.index t 0 = t.val := by
  have hN : cfg0.N = 512 := N_0
  have := t.isLt
  show (BitVec.ofNat 32 (grid0.coords t 0).val).toNat = t.val
  rw [coord, BitVec.toNat_ofNat]; omega

/-- The id of row `b` at point `n`. -/
theorem idAt_apply (n : ℕ) (hn : n < cfg0.N) (hn' : n < 512) (b : Fin 240) :
    idAt0 (F := F) (iblk m c 0 ⟨n, hn⟩) b = m ((c : Thread nD τ).loc main_arg2) (ix2 b ⟨n, hn'⟩) := by
  have e : V m c main_v29 (ix3 ⟨n, hn'⟩ (0 : Fin 1) b) = m ((c : Thread nD τ).loc main_arg2) (ix2 b ⟨n, hn'⟩) := by
    rw [V_v29]
    refine (shapeCast_apply _ _ _ (ix2 (⟨n, hn'⟩ : Fin 512) b) (by
      rw [Shape.rowMajor_val_three, Shape.rowMajor_val_two]
      show n * 240 + b.val = (n * 1 + 0) * 240 + b.val; omega)).trans ?_
    exact transpose_apply _ _ _ _ (ix2 b (⟨n, hn'⟩ : Fin 512)) fun a => by
      match a with
      | ⟨0, _⟩ => rfl
      | ⟨1, _⟩ => rfl
  rw [← e]
  unfold idAt0 iblk
  rw [View.read_apply]
  show V m c main_v29 _ = V m c main_v29 _
  congr 1
  funext a
  apply Fin.ext
  match a with
  | ⟨0, _⟩ => show win0_0.index ⟨n, hn⟩ 0 * 1 + 1 * 0 = n; rw [show win0_0.index ⟨n, hn⟩ 0 = n from index0 _]; omega
  | ⟨1, _⟩ => show win0_0.index ⟨n, hn⟩ 1 * 1 + 1 * 0 = 0; rw [show win0_0.index ⟨n, hn⟩ 1 = 0 from rfl]
  | ⟨2, _⟩ => show win0_0.index ⟨n, hn⟩ 2 * 240 + 1 * b.val = b.val; rw [show win0_0.index ⟨n, hn⟩ 2 = 0 from rfl]; omega

/-- The shape fact the precondition's function takes. -/
theorem preFacts : Cert.Pre_ids_in_table.Facts := ⟨by decide⟩

/-- The ids lie in the table. -/
def InTable (ids : Vec F S240x512 .i32) : Prop := ∀ (b : Fin 240) (n : Fin 512), BitVec.toNat (ids (ix2 b n)) < 1300000

/-- The precondition says so of the ids. -/
theorem inTable_of_fn [Cert.Pre_ids_in_table.Facts] (x0 : Vec F S1300000x224 .i8) (x1 : Vec F S1300000 .f32) (ids : Vec F S240x512 .i32)
    (x3 : Vec F S240 .i32) (x4 : Vec F S240x128 .f32) (x5 : Vec F S224x3x96 .bf16) (x6 : Vec F S3x96 .f32) (x7 : Vec F S96x3x96 .bf16)
    (x8 x9 x10 : Vec F S3x96 .f32)
    (h : Cert.Pre_ids_in_table.fn (F := F) x0 x1 ids x3 x4 x5 x6 x7 x8 x9 x10 = fun _ => 1#1) : InTable ids := by
  intro b n
  have e := congrFun h (ix2 b n)
  have e' : IntOp.andi (IntOp.cmpi .sge (ids (ix2 b n)) 0#32) (IntOp.cmpi .slt (ids (ix2 b n)) 1300000#32) = 1#1 := e
  obtain ⟨h0, h1⟩ := IntOp.andi_eq_one.mp e'
  exact Words.toNat_lt _ h0 h1

/-- Ids of the table name rows of it at every point. -/
theorem inRange (h : InTable (F := F) (m ((c : Thread nD τ).loc main_arg2))) : InRange m c := by
  intro t b
  have hN : cfg0.N = 512 := N_0
  have := t.isLt
  show k0_chk1 (idAt0 (F := F) (iblk m c 0 ⟨t.val, t.isLt⟩) b)
  rw [idAt_apply m c t.val t.isLt (by omega) b]
  exact Words.chk_of _ (h b _)

end Cert.First.Ids

end
-- ==== Proof.FirstIdeal.Kit.lean ====
/- The program of the first GRU around its one region, stated where a body with copies of its own can be run. -/
module

public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Pipeline.Value
public import Idealize.ShloMosaic.Lib.StableHlo.Run
public import Idealize.ShloMosaic.Lib.Claim
public import proofs.«01_k».proof.Proof.Gen.FirstIdeal.Frame

@[expose] public section

-- membership in a rectangle of production extents (`View.cover_of_tiled`): the elaborator's structural look
-- recurses once per coordinate of the long axes
set_option maxRecDepth 16384

noncomputable section

namespace Cert.FirstIdeal.Region

open Cert.FirstIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program is the host lines before the region, the region, and the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (Pipeline.UD sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (Pipeline.UD sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (Pipeline.UD sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (Pipeline.UD sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- Window 0's staging buffer holds its block at every point, for any proof data that starts from the region's
    entry contents and leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds its block at every point, for any proof data that starts from the region's
    entry contents and leaves the block in place. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds its block at every point, for any proof data that starts from the region's
    entry contents and leaves the block in place. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's staging buffer holds its block at every point, for any proof data that starts from the region's
    entry contents and leaves the block in place. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4's staging buffer holds its block at every point, for any proof data that starts from the region's
    entry contents and leaves the block in place. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5's staging buffer holds its block at every point, for any proof data that starts from the region's
    entry contents and leaves the block in place. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6's staging buffer holds its block at every point, for any proof data that starts from the region's
    entry contents and leaves the block in place. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7's staging buffer holds its block at every point, for any proof data that starts from the region's
    entry contents and leaves the block in place. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Window 8's staging buffer holds its block at every point, for any proof data that starts from the region's
    entry contents and leaves the block in place. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Window 9's staging buffer holds its block at every point, for any proof data that starts from the region's
    entry contents and leaves the block in place. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Window 10's staging buffer holds its block at every point, for any proof data that starts from the region's
    entry contents and leaves the block in place. -/
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Every argument array ends as launched, from any run of the region to the arrays' final contents. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 4).trans (((dats 0 c).arrAt_in 4 rfl _).trans ((hA c 4).trans (V_main_arg4 m c))),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c))⟩) h

end Cert.FirstIdeal.Region

end
-- ==== Proof.FirstIdeal.Rows.lean ====
/- The gather: 240 rows of the table in HBM copied to the 240 rows of a scratch buffer, every copy signalling ONE
   semaphore, all of them started before the first is waited for. Stated over the rows' offsets, so that both custom
   calls that gather (the target rows, and one step's rows of the history) use the same lemmas.
   The copies are a batch (`Transfers.Batch`) of 240 transfers; transfer `b` delivers row `b` of the scratch at the
   gathered contents and gives back its share of the table's row. -/
module

public import proofs.«01_k».proof.Proof.Gen.FirstIdeal.Launch
public import proofs.«01_k».proof.Proof.Gen.FirstIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.FirstIdeal.Region

open Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The end of a loop's trip. -/
theorem done_bind : ((Prog.ret PUnit.unit : Prog (TpuEff nD τ sig (Elt F) Λ₀ .tc) PUnit).bind fun _ => Pure.pure PUnit.unit) = Prog.ret PUnit.unit := rfl

section Rows

variable (c : Dev nD) (tab : Memref sig .tc .hbm S325000x224 .i32) (buf : Memref sig .tc .vmem S240x224 .i32) (hbuf : buf.IsWhole)
  (sm : DmaSem sig) (ro : Fin 240 → Fin 2 → ℕ) (hro : ∀ b a, ro b a + S1x224.size a ≤ S325000x224.size a)
  (ft : Buf (Elt F) (tab.view.loc (c : Thread nD τ)))

theorem dst_inb (b : Fin 240) : ∀ a, (![b.val, 0] : Fin 2 → ℕ) a + S1x224.size a ≤ S240x224.size a := by
  have := b.isLt; intro a; fin_cases a
  · show b.val + 1 ≤ 240; omega
  · show 0 + 224 ≤ 224; omega

/-- Row `b` of the scratch; -/
def dstRow (b : Fin 240) : Memref sig .tc .vmem S1x224 .i32 :=
  buf.slice (Rect.unit (s := S240x224) ![b.val, 0] S1x224.size (dst_inb b)) (fun _ => rfl)
/-- the row of the table it is copied from. -/
def srcRow (b : Fin 240) : Memref sig .tc .hbm S1x224 .i32 :=
  tab.slice (Rect.unit (s := S325000x224) (ro b) S1x224.size (hro b)) (fun _ => rfl)

/-- The scratch after every copy has landed: row `b` is the table's row at `ro b`. -/
def gathered : Vec F S240x224 .i32 := fun y =>
  (srcRow tab ro hro (y 0)).view.read (Elt F) ft (fun a => ⟨![0, (y 1).val] a, by
    have := (y 1).isLt
    fin_cases a
    · show 0 < 1; omega
    · show (y 1).val < 224; exact this⟩)

/-- Row `b` of the scratch at contents `f`, its own elements; -/
abbrev rowAt (f : Buf (Elt F) (buf.view.loc (c : Thread nD τ))) (b : Fin 240) : sProp 𝕄 :=
  buf.view.loc (c : Thread nD τ) ↦[(dstRow buf b).view.set]{fullShare} f
/-- the table's row that copy `b` reads, under its own share, -/
abbrev lentAt (b : Fin 240) : sProp 𝕄 :=
  tab.view.loc (c : Thread nD τ) ↦[(srcRow tab ro hro b).view.set]{Transfers.shareTokN fullShare b.val} ft
/-- and the rest of the table under that share. -/
abbrev keptAt (b : Fin 240) : sProp 𝕄 :=
  tab.view.loc (c : Thread nD τ) ↦[Finset.univ \ (srcRow tab ro hro b).view.set]{Transfers.shareTokN fullShare b.val} ft

/-- What copy `b` delivers. -/
abbrev deliv (b : Fin 240) : sProp 𝕄 :=
  iprop(rowAt c buf (hbuf.unread (gathered c tab ro hro ft)) b ∗ lentAt c tab ro hro ft b)

/-- The credit of one row's copy. -/
abbrev rowN : ℕ := sig.dmaCredit .tc (Kind.table .tc .vmem) buf.view.buf S1x224 .i32

/-- The batch with `j` copies started and `u` units waited for. -/
abbrev batch (j u : ℕ) : sProp 𝕄 :=
  Transfers.Batch (countersEmb (U := Pipeline.UD sig nD τ)) (c : Thread nD τ) (.dma sm) () (rowN buf) (deliv c tab buf hbuf ro hro ft) j u

theorem rowN_pos : 0 < rowN buf := sig.dmaCredit_pos _ _ _ _ _ (by decide)
theorem rowN_eq (b : Fin 240) (sm : DmaSem sig) : (dstRow buf b).view.amount (.dma sm) = rowN buf := rfl

include hbuf in
/-- A copy that has landed leaves its row of the scratch at the gathered contents. -/
theorem landed_eq (fd : Buf (Elt F) (buf.view.loc (c : Thread nD τ))) (b : Fin 240) :
    ∀ i ∈ (dstRow buf b).view.set,
      (dstRow buf b).view.write (Elt F) fd ((srcRow tab ro hro b).view.read (Elt F) ft) Finset.univ i
        = hbuf.unread (gathered c tab ro hro ft) i := by
  intro i hi
  have hw : (srcRow tab ro hro b).view.read (Elt F) ft
      = (dstRow buf b).view.read (Elt F) (hbuf.unread (gathered c tab ro hro ft)) := by
    funext x
    have h1 : (dstRow buf b).view.read (Elt F) (hbuf.unread (gathered c tab ro hro ft)) x
        = gathered c tab ro hro ft ((Rect.unit (s := S240x224) ![b.val, 0] S1x224.size (dst_inb b)).emb x) :=
      congrFun (hbuf.read_unread (gathered c tab ro hro ft)) _
    rw [h1]
    have hx0 : (x 0).val = 0 := by have : (x 0).val < 1 := (x 0).isLt; omega
    have e0 : ((Rect.unit (s := S240x224) ![b.val, 0] S1x224.size (dst_inb b)).emb x) 0 = b := by
      apply Fin.ext; show b.val + 1 * (x 0).val = b.val; omega
    have e1 : (((Rect.unit (s := S240x224) ![b.val, 0] S1x224.size (dst_inb b)).emb x) 1).val = (x 1).val := by
      show 0 + 1 * (x 1).val = (x 1).val; omega
    unfold gathered
    rw [e0]
    congr 1
    funext a
    apply Fin.ext
    fin_cases a
    · exact hx0
    · exact e1.symm
  rw [hw]
  exact (congrFun (View.write_read_eq_piecewise (v := (dstRow buf b).view) fd (hbuf.unread (gathered c tab ro hro ft)) Finset.univ) i).trans
    (Finset.piecewise_eq_of_mem _ _ _ hi)

/-- Starting copy `b`: with the batch at `b` started, row `b` of the scratch and its share of the table's row in hand,
    the copy is started. The copy's operands are the body's slices, at any spelling of their offsets. -/
theorem wp_start (b : Fin 240) (fd : Buf (Elt F) (buf.view.loc (c : Thread nD τ)))
    (od os : Fin 2 → ℕ) (hod : ∀ a, od a + S1x224.size a ≤ S240x224.size a) (hos : ∀ a, os a + S1x224.size a ≤ S325000x224.size a)
    (ed : od = ![b.val, 0]) (es : os = ro b) {α : Type} {k : PUnit → Prog (TpuEff nD τ sig (Elt F) Λ₀ .tc) α} {Q : α → sProp 𝕄}
    {hsrc hdst hsem} :
    iprop(lentAt c tab ro hro ft b ∗ rowAt c buf fd b ∗ batch c tab buf hbuf sm ro hro ft b.val 0)
      ⊢ iprop((batch c tab buf hbuf sm ro hro ft (b.val + 1) 0
            -∗ wp frame (wpE (defs₀ (F := F)) Variants.none (c : Thread nD τ) none) Set.univ (k ⟨⟩) Q)
          -∗ wp frame (wpE (defs₀ (F := F)) Variants.none (c : Thread nD τ) none) Set.univ
            (.op (.enqueueDma (tab.slice (Rect.unit (s := S325000x224) os S1x224.size hos) (fun _ => rfl))
              (.here (buf.slice (Rect.unit (s := S240x224) od S1x224.size hod) (fun _ => rfl))) (.dma sm) hsrc hdst hsem) k) Q) := by
  subst ed es
  refine Transfers.wp_dmaBatch (countersEmb (U := Pipeline.UD sig nD τ)) Variants.none (c : Thread nD τ) none
    (src := srcRow tab ro hro b) (dst := dstRow buf b) (via := .same) () (rowN buf) rfl (Finset.Subset.refl _) b.isLt (Nat.zero_le _) ?_
  exact sep_mono_left (Entails.of_eq (pointsTo_congr (landed_eq c tab buf hbuf ro hro ft fd b)))

/-- A wait while copies remain to be waited for: one row's units more are consumed; -/
theorem wp_wait_more (u : ℕ) (hu : u + rowN buf < rowN buf * 240) (W : Waits sig Unit)
    {o : Memref sig .tc .hbm S1x224 .i32}
    {α : Type} {k : PUnit → Prog (TpuEff nD τ sig (Elt F) Λ₀ .tc) α} {Q : α → sProp 𝕄} {hsrc hdst} :
    iprop(batch c tab buf hbuf sm ro hro ft 240 u ∗ owes (c : Thread nD τ) 0 W)
      ⊢ iprop((iprop(batch c tab buf hbuf sm ro hro ft 240 (u + rowN buf) ∗ (∃ W', owes (c : Thread nD τ) 0 W'))
            -∗ wp frame (wpE (defs₀ (F := F)) Variants.none (c : Thread nD τ) none) Set.univ (k ⟨⟩) Q)
          -∗ wp frame (wpE (defs₀ (F := F)) Variants.none (c : Thread nD τ) none) Set.univ
            (.op (.waitDma2 sm o (buf.slice (Rect.unit (s := S240x224) ![0, 0] S1x224.size inb_S240x224_S1x224_0_0) (fun _ => rfl)) hsrc hdst) k) Q) := by
  iintro HB Hk
  iapply (Transfers.wp_waitBatch (countersEmb (U := Pipeline.UD sig nD τ)) Variants.none (c : Thread nD τ) none () (N := rowN buf) rfl hu) $$ HB
  iintro ⟨HB, HO⟩
  iapply Hk
  isplitl [HB]; · iexact HB
  iexists _; iexact HO

/-- and the last wait: the semaphore back at zero, every copy's delivery in hand. -/
theorem wp_wait_last (u : ℕ) (hu : u + rowN buf = rowN buf * 240) (W : Waits sig Unit)
    {o : Memref sig .tc .hbm S1x224 .i32}
    {α : Type} {k : PUnit → Prog (TpuEff nD τ sig (Elt F) Λ₀ .tc) α} {Q : α → sProp 𝕄} {hsrc hdst} :
    iprop(batch c tab buf hbuf sm ro hro ft 240 u ∗ owes (c : Thread nD τ) 0 W)
      ⊢ iprop((iprop(semVal ((c : Thread nD τ), SemLoc.dma sm) 0 ∗ bigSep Finset.univ (deliv c tab buf hbuf ro hro ft) ∗ (∃ W', owes (c : Thread nD τ) 0 W'))
            -∗ wp frame (wpE (defs₀ (F := F)) Variants.none (c : Thread nD τ) none) Set.univ (k ⟨⟩) Q)
          -∗ wp frame (wpE (defs₀ (F := F)) Variants.none (c : Thread nD τ) none) Set.univ
            (.op (.waitDma2 sm o (buf.slice (Rect.unit (s := S240x224) ![0, 0] S1x224.size inb_S240x224_S1x224_0_0) (fun _ => rfl)) hsrc hdst) k) Q) := by
  iintro HB Hk
  iapply (Transfers.wp_waitBatchLast (countersEmb (U := Pipeline.UD sig nD τ)) Variants.none (c : Thread nD τ) none () (N := rowN buf) rfl (rowN_pos buf) hu) $$ HB
  iintro ⟨HD, Hv, HO⟩
  iapply Hk
  isplitl [Hv]; · iexact Hv
  isplitl [HD]; · iexact HD
  iexists _; iexact HO

/-! ## Before the first copy and after the last wait -/

/-- What the rows started from `k` on still need: the table's row under its share, and the scratch's row at `fb`. -/
abbrev toStart (fb : Buf (Elt F) (buf.view.loc (c : Thread nD τ))) (k : ℕ) : sProp 𝕄 :=
  bigSep (Transfers.pending (n := 240) k) (fun b => iprop(lentAt c tab ro hro ft b ∗ rowAt c buf fb b))

/-- What of the table no copy holds. -/
def aside : sProp 𝕄 :=
  iprop((tab.view.loc (c : Thread nD τ) ↦{Transfers.shareDrop fullShare 240} ft) ∗ bigSep Finset.univ (keptAt c tab ro hro ft))

theorem dst_set (b : Fin 240) : (dstRow buf b).view.set
    = (Rect.unit (s := S240x224) ![b.val, 0] S1x224.size (dst_inb b)).set.map buf.view.emb := View.set_slice _ _

theorem dst_disjoint : ∀ b b' : Fin 240, b ≠ b' → Disjoint (dstRow buf b).view.set (dstRow buf b').view.set := by
  intro b b' h
  refine Finset.disjoint_left.mpr fun j hj hj' => ?_
  obtain ⟨i, hi, rfl⟩ := Finset.mem_map.mp ((Finset.ext_iff.mp (dst_set buf b) j).mp hj)
  obtain ⟨i', hi', e⟩ := Finset.mem_map.mp ((Finset.ext_iff.mp (dst_set buf b') _).mp hj')
  have e := buf.view.emb.injective e
  rw [e] at hi'
  have h1 := (Rect.mem_set_unit.mp hi) 0
  have h2 := (Rect.mem_set_unit.mp hi') 0
  have h3 : b.val ≤ (i 0).val ∧ (i 0).val < b.val + 1 := h1
  have h4 : b'.val ≤ (i 0).val ∧ (i 0).val < b'.val + 1 := h2
  exact h (Fin.ext (by omega))

theorem dst_cover : Finset.univ.biUnion (fun b => (dstRow buf b).view.set) = buf.view.set := by
  ext j
  constructor
  · intro h
    obtain ⟨b, -, hb⟩ := Finset.mem_biUnion.mp h
    exact View.set_slice_subset _ _ hb
  · intro h
    obtain ⟨y, -, rfl⟩ := Finset.mem_map.mp h
    refine Finset.mem_biUnion.mpr ⟨y 0, Finset.mem_univ _, ?_⟩
    refine (Finset.ext_iff.mp (dst_set buf (y 0)) _).mpr (Finset.mem_map_of_mem _ (Rect.mem_set_unit.mpr fun a => ?_))
    have h1 : (y 1).val < 224 := (y 1).isLt
    fin_cases a
    · show (y 0).val ≤ (y 0).val ∧ (y 0).val < (y 0).val + 1; omega
    · show 0 ≤ (y 1).val ∧ (y 1).val < 0 + 224; omega

theorem held_storable (ℓ : Loc nD τ sig) (I : Finset (Idx ℓ)) (q : PosShare TreeShare) (f : Buf (Elt F) ℓ) :
    BI.Storable (upEmb : UEmb _ 𝕄) (ℓ ↦[I]{q} f : sProp 𝕄) := inferInstance

instance deliv_storable (b : Fin 240) : BI.Storable (upEmb : UEmb _ 𝕄) (deliv c tab buf hbuf ro hro ft b) :=
  @BI.Storable.sep _ _ _ _ _ _ _ _ (held_storable _ _ _ _) (held_storable _ _ _ _)

/-- The scratch by rows. -/
theorem buf_rows (f : Buf (Elt F) (buf.view.loc (c : Thread nD τ))) :
    (buf.view.loc (c : Thread nD τ) ↦[buf.view.set]{fullShare} f : sProp 𝕄) = bigSep Finset.univ (rowAt c buf f) :=
  Ring.pointsTo_sub_blocks (ℓ := buf.view.loc (c : Thread nD τ)) (fun b => (dstRow buf b).view.set) (dst_disjoint buf) _ (dst_cover buf) f

/-- The table as what is lent to the copies and what is not. -/
theorem tab_rows :
    (tab.view.loc (c : Thread nD τ) ↦{fullShare} ft : sProp 𝕄)
      ⊣⊢ iprop(bigSep Finset.univ (lentAt c tab ro hro ft) ∗ aside c tab ro hro ft) := by
  have h : (bigSep (Finset.range 240) (fun i => tab.view.loc (c : Thread nD τ) ↦[Finset.univ]{Transfers.shareTokN fullShare i} ft) : sProp 𝕄)
      = iprop(bigSep Finset.univ (lentAt c tab ro hro ft) ∗ bigSep Finset.univ (keptAt c tab ro hro ft)) := by
    rw [← Ring.bigSep_fin_eq_range 240 (fun b : Fin 240 => (tab.view.loc (c : Thread nD τ) ↦[Finset.univ]{Transfers.shareTokN fullShare b.val} ft : sProp 𝕄)) _ (fun _ _ => rfl)]
    rw [← BI.bigSep_sep']
    refine BI.bigSep_congr fun b _ => ?_
    exact Entails.antisymm (pointsTo_split_subset (Finset.subset_univ _)).1 (pointsTo_split_subset (Finset.subset_univ _)).2
  have e := Transfers.pointsTo_toks_range (Ix := Unit) (Val := Elt F) (Name := ℕ) (U := Pipeline.UD sig nD τ) (Lvl := ℕ) (ℓ := tab.view.loc (c : Thread nD τ)) (S := Finset.univ) (f := ft) fullShare 240
  unfold aside
  constructor
  · refine e.1.trans ?_
    refine (sep_mono_right (Entails.of_eq h)).trans ?_
    iintro ⟨H1, H2, H3⟩
    isplitl [H2]; · iexact H2
    isplitl [H1] <;> iassumption
  · refine BIBase.Entails.trans ?_ ((sep_mono_right (Entails.of_eq h.symm)).trans e.2)
    iintro ⟨H2, H1, H3⟩
    isplitl [H1]; · iexact H1
    isplitl [H2] <;> iassumption

/-- Before the first copy: the batch with nothing started, every row's holdings, and the rest of the table. -/
theorem gather_open (fb : Buf (Elt F) (buf.view.loc (c : Thread nD τ))) :
    iprop((tab.view.loc (c : Thread nD τ) ↦{fullShare} ft) ∗ (buf.view.loc (c : Thread nD τ) ↦[buf.view.set]{fullShare} fb) ∗ semVal ((c : Thread nD τ), SemLoc.dma sm) 0)
      ⊢ (|={Set.univ}=> iprop(batch c tab buf hbuf sm ro hro ft 0 0 ∗ toStart c tab buf ro hro ft fb 0 ∗ aside c tab ro hro ft) : sProp 𝕄) := by
  iintro ⟨Ht, Hb, Hv⟩
  imod (Transfers.batch_alloc' (Lvl := ℕ) (countersEmb (U := Pipeline.UD sig nD τ)) (c : Thread nD τ) () (rowN buf) (deliv c tab buf hbuf ro hro ft) (sm := .dma sm) (E := Set.univ)) $$ Hv with HB
  imodintro
  ihave Ht' := (tab_rows c tab ro hro ft).1 $$ Ht
  icases Ht' with ⟨Hl, Ha⟩
  ihave Hb' := (Entails.of_eq (buf_rows c buf fb)) $$ Hb
  isplitl [HB]; · iexact HB
  isplitl [Hl Hb']
  · unfold toStart
    rw [Transfers.pending_zero, BI.bigSep_sep']
    isplitl [Hl] <;> iassumption
  iexact Ha

/-- After the last wait: the table whole again, the scratch at the gathered rows. -/
theorem gather_close :
    iprop(bigSep Finset.univ (deliv c tab buf hbuf ro hro ft) ∗ aside c tab ro hro ft)
      ⊢ (iprop((tab.view.loc (c : Thread nD τ) ↦{fullShare} ft) ∗ (buf.view.loc (c : Thread nD τ) ↦[buf.view.set]{fullShare} (hbuf.unread (gathered c tab ro hro ft)))) : sProp 𝕄) := by
  unfold deliv
  rw [BI.bigSep_sep', buf_rows c buf]
  iintro ⟨⟨Hb, Hl⟩, Ha⟩
  isplitl [Hl Ha]
  · iapply (tab_rows c tab ro hro ft).2
    isplitl [Hl] <;> iassumption
  iexact Hb

/-! ## The two loops' invariants -/

/-- Before trip `k` of the loop that starts the copies: `k` started, the rows from `k` on still in hand. -/
def startInv (fb : Buf (Elt F) (buf.view.loc (c : Thread nD τ))) (P : sProp 𝕄) (k : ℕ) (_ : Unit) : sProp 𝕄 :=
  iprop(batch c tab buf hbuf sm ro hro ft k 0 ∗ toStart c tab buf ro hro ft fb k ∗ P)

/-- Before trip `k` of the loop that waits: `k` rows' units consumed; after the last trip, everything delivered. -/
def waitInv (k : ℕ) (_ : Unit) : sProp 𝕄 :=
  iprop((∃ W, owes (c : Thread nD τ) 0 W)
    ∗ (if k < 240 then batch c tab buf hbuf sm ro hro ft 240 (k * rowN buf)
       else iprop(semVal ((c : Thread nD τ), SemLoc.dma sm) 0 ∗ bigSep Finset.univ (deliv c tab buf hbuf ro hro ft))))

end Rows

end Cert.FirstIdeal.Region
end
-- ==== Proof.FirstIdeal.Gather.lean ====
/- The gather of the first GRU: the loop that starts the 240 copies and the loop that waits for them. -/
module

public import proofs.«01_k».proof.Proof.FirstIdeal.Rows

@[expose] public section

set_option maxRecDepth 16384

noncomputable section

namespace Cert.FirstIdeal.Region

open Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The id word of row `b`. -/
def idAt0 (x0 : Vec F S1x1x240 .i32) (b : Fin 240) : BitVec 32 := x0 (fun a => ⟨(![0, 0, b.val] : Fin 3 → ℕ) a, by
  have := b.isLt
  fin_cases a
  all_goals first | exact Nat.one_pos | exact this⟩)

/-- The table row copied for row `b`, as the body computes it from the id word. -/
def rowOf0 (x0 : Vec F S1x1x240 .i32) (b : Fin 240) : Fin 2 → ℕ := k0_off3 (idAt0 x0 b)

/-- Every id word names a row of the table. -/
def InTable0 (x0 : Vec F S1x1x240 .i32) : Prop := ∀ b, k0_chk1 (idAt0 x0 b)

theorem rowOf0_inb {x0 : Vec F S1x1x240 .i32} (h : InTable0 x0) : ∀ b a, rowOf0 x0 b a + S1x224.size a ≤ S325000x224.size a := h

theorem k0_trips1 : k0_t1_loop.trips = 240 := by decide
theorem k0_trips2 : k0_t2_loop.trips = 240 := by decide
theorem k0_off2_eq (k : Fin k0_t1_loop.trips) : k0_off2 k = ![k.val, 0] := by revert k; decide +kernel
theorem k0_off1_eq (k : Fin k0_t1_loop.trips) : k0_off1 k = (![0, 0, k.val] : Fin 3 → ℕ) := by revert k; decide +kernel

section
variable (c : Dev nD) (i : grid0.Coords) (arg1 : Memref sig .tc .smem S1x1x240 .i32) (harg1 : arg1.IsWhole) (arg2 : Memref sig .tc .hbm S325000x224 .i32) (harg2 : arg2.IsWhole) (arg3 : Memref sig .tc .vmem S1x240x1 .i32) (harg3 : arg3.IsWhole) (arg4 : Memref sig .tc .vmem S1x240x1 .f32) (harg4 : arg4.IsWhole) (arg5 : Memref sig .tc .vmem S1x240x1 .f32) (harg5 : arg5.IsWhole) (arg6 : Memref sig .tc .vmem S240x128 .f32) (harg6 : arg6.IsWhole) (arg7 : Memref sig .tc .vmem S224x384 .bf16) (harg7 : arg7.IsWhole) (arg8 : Memref sig .tc .vmem S1x384 .f32) (harg8 : arg8.IsWhole) (arg9 : Memref sig .tc .vmem S1x384 .f32) (harg9 : arg9.IsWhole) (arg10 : Memref sig .tc .vmem S128x384 .bf16) (harg10 : arg10.IsWhole) (arg11 : Memref sig .tc .vmem S1x384 .f32) (harg11 : arg11.IsWhole) (arg12 : Memref sig .tc .vmem S1x384 .f32) (harg12 : arg12.IsWhole) (arg13 : Memref sig .tc .vmem S1x240x128 .bf16) (harg13 : arg13.IsWhole) (arg14 : Memref sig .tc .vmem S1x240x1 .f32) (harg14 : arg14.IsWhole) (arg15 : Memref sig .tc .vmem S240x128 .f32) (harg15 : arg15.IsWhole) (arg16 : Memref sig .tc .vmem S240x224 .i32) (harg16 : arg16.IsWhole) (arg17 : Memref sig .tc .vmem S240x128 .f32) (harg17 : arg17.IsWhole) (arg18 : DmaSems sig S_)
  (x0 : Vec F S1x1x240 .i32) (hx : InTable0 x0) (ft : Buf (Elt F) (arg2.view.loc (c : Thread nD τ)))

/-- The word the body loads at trip `k` is row `k`'s id. -/
theorem word0 (k : Fin k0_t1_loop.trips) (y) :
    (arg1.access (Rect.unit (s := S1x1x240) (k0_off1 k) S1x1x1.size (k0_off1_inb k))).read (Elt F) (harg1.unread x0) y
      = idAt0 x0 (k.cast k0_trips1) := by
  refine (congrFun (harg1.read_unread x0) ((Rect.unit (s := S1x1x240) (k0_off1 k) S1x1x1.size (k0_off1_inb k)).emb y)).trans ?_
  unfold idAt0
  congr 1
  funext a
  apply Fin.ext
  have h : (y a).val = 0 := by
    have h1 : (y a).val < 1 := by have := (y a).isLt; revert this; fin_cases a <;> exact id
    omega
  have e : ∀ n, k0_off1 k a + 1 * n = (![0, 0, k.val] : Fin 3 → ℕ) a + 1 * n := fun n => by rw [k0_off1_eq]
  refine (e _).trans ?_
  rw [h]; rfl

/-- The copies' batch as this custom call uses it. -/
abbrev inv1_0 (fb : Buf (Elt F) (arg16.view.loc (c : Thread nD τ))) : ℕ → Unit → sProp 𝕄 :=
  startInv c arg2 arg16 harg16 arg18.sem (rowOf0 x0) (rowOf0_inb hx) ft fb (arg1.view.loc (c : Thread nD τ) ↦[arg1.view.set]{fullShare} (harg1.unread x0))

/-- One trip of the loop that starts the copies. -/
theorem start_step0 (fb : Buf (Elt F) (arg16.view.loc (c : Thread nD τ))) (k : Fin k0_t1_loop.trips) (u : Unit) :
    inv1_0 c arg1 harg1 arg2 arg16 harg16 arg18 x0 hx ft fb k.val u
      ⊢ wp frame (wpE (defs₀ (F := F)) Variants.none (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k u)
          (inv1_0 c arg1 harg1 arg2 arg16 harg16 arg18 x0 hx ft fb (k.val + 1)) := by
  have hk : k.val < 240 := lt_of_lt_of_eq k.isLt k0_trips1
  have hw := word0 arg1 harg1 x0 k (Shape.Idx.first (numel1_S1x1x1.symm ▸ Nat.one_pos))
  have hb : (k.cast k0_trips1 : Fin 240) = ⟨k.val, hk⟩ := rfl
  unfold inv1_0 startInv toStart
  rw [Transfers.bigSep_pending_step _ k.val hk]
  iintro ⟨HB, ⟨⟨Hl, Hr⟩, Hp⟩, Hids⟩
  unfold k0_t1_body smemLoad
  rw [smemLoadElt_bind]
  iapply (wp_smemLoadElt_named (hS := View.set_slice_subset _ _)) $$ Hids
  iintro Hids %w %hw'
  obtain rfl := hw'.trans hw
  iapply (wp_assume Variants.none (c : Thread nD τ) none Set.univ (hx (k.cast k0_trips1)))
  iapply (wp_start c arg2 arg16 harg16 arg18.sem (rowOf0 x0) (rowOf0_inb hx) ft ⟨k.val, hk⟩ fb _ _ _ _ (k0_off2_eq k) rfl) $$ [Hl Hr HB]
  · isplitl [Hl]; · iexact Hl
    isplitl [Hr]; · iexact Hr
    iexact HB
  iintro HB
  rw [done_bind]
  sl_step
  isplitl [HB]; · iexact HB
  isplitl [Hp]; · iexact Hp
  iexact Hids

/-- One trip of the loop that waits. -/
theorem wait_step0 (k : Fin k0_t2_loop.trips) (u : Unit) :
    waitInv c arg2 arg16 harg16 arg18.sem (rowOf0 x0) (rowOf0_inb hx) ft k.val u
      ⊢ wp frame (wpE (defs₀ (F := F)) Variants.none (c : Thread nD τ) none) Set.univ
          (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k u)
          (waitInv c arg2 arg16 harg16 arg18.sem (rowOf0 x0) (rowOf0_inb hx) ft (k.val + 1)) := by
  have hk : k.val < 240 := lt_of_lt_of_eq k.isLt k0_trips2
  unfold waitInv
  rw [if_pos hk]
  iintro ⟨⟨%W, HO⟩, HB⟩
  unfold k0_t2_body
  by_cases h : k.val + 1 < 240
  · rw [if_pos h]
    iapply (wp_wait_more c arg2 arg16 harg16 arg18.sem (rowOf0 x0) (rowOf0_inb hx) ft (k.val * rowN arg16)
      (by have h1 := rowN_pos arg16; have h2 := Nat.mul_le_mul_right (rowN arg16) (show k.val + 2 ≤ 240 by omega); rw [Nat.add_mul] at h2; omega) W) $$ [HB HO]
    · isplitl [HB] <;> iassumption
    iintro ⟨HB, HO⟩
    rw [done_bind]
    sl_step
    isplitl [HO]; · iexact HO
    rw [Nat.add_mul, Nat.one_mul]
    iexact HB
  · rw [if_neg h]
    iapply (wp_wait_last c arg2 arg16 harg16 arg18.sem (rowOf0 x0) (rowOf0_inb hx) ft (k.val * rowN arg16)
      (by have e : k.val = 239 := by omega
          rw [e]; omega) W) $$ [HB HO]
    · isplitl [HB] <;> iassumption
    iintro ⟨Hv, HD, HO⟩
    rw [done_bind]
    sl_step
    isplitl [HO]; · iexact HO
    isplitl [Hv] <;> iassumption

/-- The two loops together: the table and the ids are back as they were, the scratch holds the gathered rows. -/
theorem gather0 (W : Waits sig Unit) (fb : Buf (Elt F) (arg16.view.loc (c : Thread nD τ)))
    {α : Type} {kk : Unit → Prog (TpuEff nD τ sig (Elt F) Λ₀ .tc) α} {Q : α → sProp 𝕄} :
    iprop((arg1.view.loc (c : Thread nD τ) ↦[arg1.view.set]{fullShare} (harg1.unread x0)) ∗ (arg2.view.loc (c : Thread nD τ) ↦{fullShare} ft)
        ∗ (arg16.view.loc (c : Thread nD τ) ↦[arg16.view.set]{fullShare} fb) ∗ semVal ((c : Thread nD τ), SemLoc.dma arg18.sem) 0 ∗ owes (c : Thread nD τ) 0 W)
      ⊢ iprop((iprop((arg1.view.loc (c : Thread nD τ) ↦[arg1.view.set]{fullShare} (harg1.unread x0)) ∗ (arg2.view.loc (c : Thread nD τ) ↦{fullShare} ft)
            ∗ (arg16.view.loc (c : Thread nD τ) ↦[arg16.view.set]{fullShare} (harg16.unread (gathered c arg2 (rowOf0 x0) (rowOf0_inb hx) ft)))
            ∗ semVal ((c : Thread nD τ), SemLoc.dma arg18.sem) 0 ∗ (∃ W', owes (c : Thread nD τ) 0 W'))
          -∗ wp frame (wpE (defs₀ (F := F)) Variants.none (c : Thread nD τ) none) Set.univ (kk ⟨⟩) Q)
        -∗ wp frame (wpE (defs₀ (F := F)) Variants.none (c : Thread nD τ) none) Set.univ
          (Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) >>= fun _ =>
            Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) >>= kk) Q) := by
  iintro ⟨Hids, Ht, Hb, Hv, HO⟩ Hk
  imod (gather_open c arg2 arg16 harg16 arg18.sem (rowOf0 x0) (rowOf0_inb hx) ft fb) $$ [Ht Hb Hv] with ⟨HB, Hs, Ha⟩
  · isplitl [Ht]; · iexact Ht
    isplitl [Hb] <;> iassumption
  iapply (Scf.wp_for_bind frame (wpE (defs₀ (F := F)) Variants.none (c : Thread nD τ) none) Set.univ _ _ _ k0_t1_ok ⟨⟩ _
    (inv1_0 c arg1 harg1 arg2 arg16 harg16 arg18 x0 hx ft fb) (start_step0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 x0 hx ft fb)) $$ [HB Hs Hids]
  · unfold inv1_0 startInv
    isplitl [HB]; · iexact HB
    isplitl [Hs] <;> iassumption
  iintro %_ HI
  rw [show Scf.trips k0_t1_loop.lb k0_t1_loop.ub k0_t1_loop.st = 240 from k0_trips1]
  unfold inv1_0 startInv
  icases HI with ⟨HB, -, Hids⟩
  iapply (Scf.wp_for_bind frame (wpE (defs₀ (F := F)) Variants.none (c : Thread nD τ) none) Set.univ _ _ _ k0_t2_ok ⟨⟩ _
    (waitInv c arg2 arg16 harg16 arg18.sem (rowOf0 x0) (rowOf0_inb hx) ft) (wait_step0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 x0 hx ft)) $$ [HB HO]
  · unfold waitInv
    rw [if_pos (by omega), Nat.zero_mul]
    isplitl [HO]; · iexists _; iexact HO
    iexact HB
  iintro %_ HI
  rw [show Scf.trips k0_t2_loop.lb k0_t2_loop.ub k0_t2_loop.st = 240 from k0_trips2]
  unfold waitInv
  rw [if_neg (by omega)]
  icases HI with ⟨HO, Hv, HD⟩
  ihave H := (gather_close c arg2 arg16 harg16 (rowOf0 x0) (rowOf0_inb hx) ft) $$ [HD Ha]
  · isplitl [HD] <;> iassumption
  icases H with ⟨Ht, Hb⟩
  iapply Hk
  isplitl [Hids]; · iexact Hids
  isplitl [Ht]; · iexact Ht
  isplitl [Hb]; · iexact Hb
  isplitl [Hv] <;> iassumption

end

end Cert.FirstIdeal.Region

end
-- ==== Proof.FirstIdeal.Body.lean ====
/- The first GRU: its body as one triple over explicit values. -/
module

public import Idealize.ShloMosaic.Lib.VecWindow
public import Idealize.ShloMosaic.Lib.Tactic.RunNames
public import proofs.«01_k».proof.Proof.FirstIdeal.Gather
public import proofs.«01_k».proof.Proof.Gen.FirstIdeal.Launch
public import proofs.«01_k».proof.Proof.Gen.FirstIdeal.Skeleton
public import proofs.«01_k».proof.Proof.Gen.FirstIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FirstIdeal.Region

open Cert.FirstIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The condition of the body's `scf.if`: the point is the grid's first. -/
abbrev first0 (i : grid0.Coords) : Prop := (Scalar.cmpi .ne (Scalar.extui (Scalar.cmpi .eq (BitVec.ofNat 32 (i 0).val) 0#32)) 0#32) = 1#1

/-- It holds at point 0 alone. -/
theorem first0_iff (t : Fin cfg0.N) : first0 (grid0.coords t) ↔ t.val = 0 := by
  have e0 : (grid0.coords t 0).val = t.val / 1 % 512 := Pipeline.Grid.coords_val t 0 (by decide) rfl
  have ht : t.val < 512 := Nat.lt_of_lt_of_eq t.isLt N_0
  have h : first0 (grid0.coords t) ↔ t.val % 512 = 0 := by
    simp only [first0, e0]
    word_cmp
  rw [h]; omega

/-- The state after a point whose gathered rows are `g` and whose other blocks are `x1 … x10`, entered with the state
    `h`: the GRU's update. -/
def next0 (g : Vec F S240x224 .i32) (x1 : Vec F S1x240x1 .i32) (x2 : Vec F S1x240x1 .f32) (x3 : Vec F S1x240x1 .f32) (x4 : Vec F S240x128 .f32) (x5 : Vec F S224x384 .bf16) (x6 : Vec F S1x384 .f32) (x7 : Vec F S1x384 .f32) (x8 : Vec F S128x384 .bf16) (x9 : Vec F S1x384 .f32) (x10 : Vec F S1x384 .f32) (h : Vec F S240x128 .f32) : Vec F S240x128 .f32 :=
  k0_pay4 (k0_pay3 g x1 x5 x2 x6 x7) h x8 x9 x10 x3

/-- What the point keeps in the scratch: that state, through a cast of its shape to itself. -/
def keep0 (g : Vec F S240x224 .i32) (x1 : Vec F S1x240x1 .i32) (x2 : Vec F S1x240x1 .f32) (x3 : Vec F S1x240x1 .f32) (x4 : Vec F S240x128 .f32) (x5 : Vec F S224x384 .bf16) (x6 : Vec F S1x384 .f32) (x7 : Vec F S1x384 .f32) (x8 : Vec F S128x384 .bf16) (x9 : Vec F S1x384 .f32) (x10 : Vec F S1x384 .f32) (h : Vec F S240x128 .f32) : Vec F S240x128 .f32 :=
  k0_pay5 (k0_pay3 g x1 x5 x2 x6 x7) h x8 x9 x10 x3

/-- What the point stores as its row of states: the state as bf16. -/
def emit0 (g : Vec F S240x224 .i32) (x1 : Vec F S1x240x1 .i32) (x2 : Vec F S1x240x1 .f32) (x3 : Vec F S1x240x1 .f32) (x4 : Vec F S240x128 .f32) (x5 : Vec F S224x384 .bf16) (x6 : Vec F S1x384 .f32) (x7 : Vec F S1x384 .f32) (x8 : Vec F S128x384 .bf16) (x9 : Vec F S1x384 .f32) (x10 : Vec F S1x384 .f32) (h : Vec F S240x128 .f32) : Vec F S1x240x128 .bf16 :=
  k0_pay6 (k0_pay3 g x1 x5 x2 x6 x7) h x8 x9 x10 x3

/-- What the point stores as its scores: the state's product with the target, summed. -/
def score0 (g : Vec F S240x224 .i32) (x1 : Vec F S1x240x1 .i32) (x2 : Vec F S1x240x1 .f32) (x3 : Vec F S1x240x1 .f32) (x4 : Vec F S240x128 .f32) (x5 : Vec F S224x384 .bf16) (x6 : Vec F S1x384 .f32) (x7 : Vec F S1x384 .f32) (x8 : Vec F S128x384 .bf16) (x9 : Vec F S1x384 .f32) (x10 : Vec F S1x384 .f32) (h : Vec F S240x128 .f32) : Vec F S1x240x1 .f32 :=
  k0_pay1 (k0_pay4 (k0_pay3 g x1 x5 x2 x6 x7) h x8 x9 x10 x3) x4

/-- The results read their arguments only through their values. -/
theorem emit0_congr {g g' : Vec F S240x224 .i32} {x1 : Vec F S1x240x1 .i32} {x2 : Vec F S1x240x1 .f32} {x3 : Vec F S1x240x1 .f32} {x4 : Vec F S240x128 .f32} {x5 : Vec F S224x384 .bf16} {x6 : Vec F S1x384 .f32} {x7 : Vec F S1x384 .f32} {x8 : Vec F S128x384 .bf16} {x9 : Vec F S1x384 .f32} {x10 : Vec F S1x384 .f32} {y1 : Vec F S1x240x1 .i32} {y2 : Vec F S1x240x1 .f32} {y3 : Vec F S1x240x1 .f32} {y4 : Vec F S240x128 .f32} {y5 : Vec F S224x384 .bf16} {y6 : Vec F S1x384 .f32} {y7 : Vec F S1x384 .f32} {y8 : Vec F S128x384 .bf16} {y9 : Vec F S1x384 .f32} {y10 : Vec F S1x384 .f32} {h h' : Vec F S240x128 .f32} (eg : g' = g) (e1 : y1 = x1) (e2 : y2 = x2) (e3 : y3 = x3) (e4 : y4 = x4) (e5 : y5 = x5) (e6 : y6 = x6) (e7 : y7 = x7) (e8 : y8 = x8) (e9 : y9 = x9) (e10 : y10 = x10) (eh : h' = h) : k0_pay6 (k0_pay3 g' y1 y5 y2 y6 y7) h' y8 y9 y10 y3 = emit0 g x1 x2 x3 x4 x5 x6 x7 x8 x9 x10 h := by
  subst eg e1 e2 e3 e4 e5 e6 e7 e8 e9 e10 eh; rfl
theorem score0_congr {g g' : Vec F S240x224 .i32} {x1 : Vec F S1x240x1 .i32} {x2 : Vec F S1x240x1 .f32} {x3 : Vec F S1x240x1 .f32} {x4 : Vec F S240x128 .f32} {x5 : Vec F S224x384 .bf16} {x6 : Vec F S1x384 .f32} {x7 : Vec F S1x384 .f32} {x8 : Vec F S128x384 .bf16} {x9 : Vec F S1x384 .f32} {x10 : Vec F S1x384 .f32} {y1 : Vec F S1x240x1 .i32} {y2 : Vec F S1x240x1 .f32} {y3 : Vec F S1x240x1 .f32} {y4 : Vec F S240x128 .f32} {y5 : Vec F S224x384 .bf16} {y6 : Vec F S1x384 .f32} {y7 : Vec F S1x384 .f32} {y8 : Vec F S128x384 .bf16} {y9 : Vec F S1x384 .f32} {y10 : Vec F S1x384 .f32} {h h' : Vec F S240x128 .f32} (eg : g' = g) (e1 : y1 = x1) (e2 : y2 = x2) (e3 : y3 = x3) (e4 : y4 = x4) (e5 : y5 = x5) (e6 : y6 = x6) (e7 : y7 = x7) (e8 : y8 = x8) (e9 : y9 = x9) (e10 : y10 = x10) (eh : h' = h) : k0_pay1 (k0_pay4 (k0_pay3 g' y1 y5 y2 y6 y7) h' y8 y9 y10 y3) y4 = score0 g x1 x2 x3 x4 x5 x6 x7 x8 x9 x10 h := by
  subst eg e1 e2 e3 e4 e5 e6 e7 e8 e9 e10 eh; rfl
theorem next0_congr {g g' : Vec F S240x224 .i32} {x1 : Vec F S1x240x1 .i32} {x2 : Vec F S1x240x1 .f32} {x3 : Vec F S1x240x1 .f32} {x4 : Vec F S240x128 .f32} {x5 : Vec F S224x384 .bf16} {x6 : Vec F S1x384 .f32} {x7 : Vec F S1x384 .f32} {x8 : Vec F S128x384 .bf16} {x9 : Vec F S1x384 .f32} {x10 : Vec F S1x384 .f32} {y1 : Vec F S1x240x1 .i32} {y2 : Vec F S1x240x1 .f32} {y3 : Vec F S1x240x1 .f32} {y4 : Vec F S240x128 .f32} {y5 : Vec F S224x384 .bf16} {y6 : Vec F S1x384 .f32} {y7 : Vec F S1x384 .f32} {y8 : Vec F S128x384 .bf16} {y9 : Vec F S1x384 .f32} {y10 : Vec F S1x384 .f32} {h h' : Vec F S240x128 .f32} (eg : g' = g) (e1 : y1 = x1) (e2 : y2 = x2) (e3 : y3 = x3) (e4 : y4 = x4) (e5 : y5 = x5) (e6 : y6 = x6) (e7 : y7 = x7) (e8 : y8 = x8) (e9 : y9 = x9) (e10 : y10 = x10) (eh : h' = h) : k0_pay4 (k0_pay3 g' y1 y5 y2 y6 y7) h' y8 y9 y10 y3 = next0 g x1 x2 x3 x4 x5 x6 x7 x8 x9 x10 h := by
  subst eg e1 e2 e3 e4 e5 e6 e7 e8 e9 e10 eh; rfl
theorem keep0_congr {g g' : Vec F S240x224 .i32} {x1 : Vec F S1x240x1 .i32} {x2 : Vec F S1x240x1 .f32} {x3 : Vec F S1x240x1 .f32} {x4 : Vec F S240x128 .f32} {x5 : Vec F S224x384 .bf16} {x6 : Vec F S1x384 .f32} {x7 : Vec F S1x384 .f32} {x8 : Vec F S128x384 .bf16} {x9 : Vec F S1x384 .f32} {x10 : Vec F S1x384 .f32} {y1 : Vec F S1x240x1 .i32} {y2 : Vec F S1x240x1 .f32} {y3 : Vec F S1x240x1 .f32} {y4 : Vec F S240x128 .f32} {y5 : Vec F S224x384 .bf16} {y6 : Vec F S1x384 .f32} {y7 : Vec F S1x384 .f32} {y8 : Vec F S128x384 .bf16} {y9 : Vec F S1x384 .f32} {y10 : Vec F S1x384 .f32} {h h' : Vec F S240x128 .f32} (eg : g' = g) (e1 : y1 = x1) (e2 : y2 = x2) (e3 : y3 = x3) (e4 : y4 = x4) (e5 : y5 = x5) (e6 : y6 = x6) (e7 : y7 = x7) (e8 : y8 = x8) (e9 : y9 = x9) (e10 : y10 = x10) (eh : h' = h) : k0_pay5 (k0_pay3 g' y1 y5 y2 y6 y7) h' y8 y9 y10 y3 = keep0 g x1 x2 x3 x4 x5 x6 x7 x8 x9 x10 h := by
  subst eg e1 e2 e3 e4 e5 e6 e7 e8 e9 e10 eh; rfl

set_option maxHeartbeats 2000000 in
/-- THE BODY, at any point `i`, on whole memrefs: from the inputs at `x0 … x10`, the ids of `x0` naming rows of the
    table, and the state at `d`, where the state the point starts from is `h` (the zeros at the first point, else `d`), it
    leaves the inputs and the table as they were, the outputs at `emit0`, `score0` and `next0`, and the state at `keep0`. -/
theorem body0 (c : Dev nD) (i : grid0.Coords) (arg1 : Memref sig .tc .smem S1x1x240 .i32) (harg1 : arg1.IsWhole) (arg3 : Memref sig .tc .vmem S1x240x1 .i32) (harg3 : arg3.IsWhole) (arg4 : Memref sig .tc .vmem S1x240x1 .f32) (harg4 : arg4.IsWhole) (arg5 : Memref sig .tc .vmem S1x240x1 .f32) (harg5 : arg5.IsWhole) (arg6 : Memref sig .tc .vmem S240x128 .f32) (harg6 : arg6.IsWhole) (arg7 : Memref sig .tc .vmem S224x384 .bf16) (harg7 : arg7.IsWhole) (arg8 : Memref sig .tc .vmem S1x384 .f32) (harg8 : arg8.IsWhole) (arg9 : Memref sig .tc .vmem S1x384 .f32) (harg9 : arg9.IsWhole) (arg10 : Memref sig .tc .vmem S128x384 .bf16) (harg10 : arg10.IsWhole) (arg11 : Memref sig .tc .vmem S1x384 .f32) (harg11 : arg11.IsWhole) (arg12 : Memref sig .tc .vmem S1x384 .f32) (harg12 : arg12.IsWhole) (arg13 : Memref sig .tc .vmem S1x240x128 .bf16) (harg13 : arg13.IsWhole) (arg14 : Memref sig .tc .vmem S1x240x1 .f32) (harg14 : arg14.IsWhole) (arg15 : Memref sig .tc .vmem S240x128 .f32) (harg15 : arg15.IsWhole) (arg16 : Memref sig .tc .vmem S240x224 .i32) (harg16 : arg16.IsWhole) (arg17 : Memref sig .tc .vmem S240x128 .f32) (harg17 : arg17.IsWhole)
    (x0 : Vec F S1x1x240 .i32) (x1 : Vec F S1x240x1 .i32) (x2 : Vec F S1x240x1 .f32) (x3 : Vec F S1x240x1 .f32) (x4 : Vec F S240x128 .f32) (x5 : Vec F S224x384 .bf16) (x6 : Vec F S1x384 .f32) (x7 : Vec F S1x384 .f32) (x8 : Vec F S128x384 .bf16) (x9 : Vec F S1x384 .f32) (x10 : Vec F S1x384 .f32) (ft : Buf (Elt F) ((Memref.whole main_v28 : Memref sig .tc .hbm S325000x224 .i32).view.loc (c : Thread nD τ))) (hx : InTable0 x0)
    (g : Vec F S240x224 .i32) (hg : g = gathered c (Memref.whole main_v28) (rowOf0 x0) (rowOf0_inb hx) ft)
    (d h : Vec F S240x128 .f32) (h0 : first0 i → h = k0_pay2 (F := F)) (h1 : ¬ first0 i → h = d) (W : Waits sig Unit) (K : PUnit → sProp 𝕄) :
    iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare d
        ∗ semVal ((c : Thread nD τ), SemLoc.dma 20) 0 ∗ iprop((Memref.whole main_v28 : Memref sig .tc .hbm S325000x224 .i32).view.loc (c : Thread nD τ) ↦{fullShare} ft) ∗ owes (c : Thread nD τ) 0 W
        ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (emit0 g x1 x2 x3 x4 x5 x6 x7 x8 x9 x10 h) ∗ owns (c : Thread nD τ) arg14 fullShare (score0 g x1 x2 x3 x4 x5 x6 x7 x8 x9 x10 h) ∗ owns (c : Thread nD τ) arg15 fullShare (next0 g x1 x2 x3 x4 x5 x6 x7 x8 x9 x10 h) ∗ (∃ d, owns (c : Thread nD τ) arg16 fullShare d) ∗ owns (c : Thread nD τ) arg17 fullShare (keep0 g x1 x2 x3 x4 x5 x6 x7 x8 x9 x10 h)
            ∗ semVal ((c : Thread nD τ), SemLoc.dma 20) 0 ∗ iprop((Memref.whole main_v28 : Memref sig .tc .hbm S325000x224 .i32).view.loc (c : Thread nD τ) ↦{fullShare} ft) ∗ (∃ W', owes (c : Thread nD τ) 0 W')) -∗ K ⟨⟩))
      ⊢ wp frame (wpE (defs₀ (F := F)) Variants.none c none) Set.univ (cc0__gru1 i arg1 harg1 (Memref.whole main_v28) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch2) K := by
  simp only [cc0__gru1_eq_skeleton]; unfold cc0__gru1_skel
  simp only [k0_part1_eq_skeleton]; unfold k0_part1_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%dg, %fg, -, HG⟩, ⟨%fs0, %hfs0, HS0⟩, Hq0, Hh0, HW, Hk⟩
  obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hfs0
  by_cases hc0 : first0 i
  · obtain rfl := h0 hc0
    sl_exec (disch := first | sl_exact hc0)
    simp only [bind_assoc]
    iapply (gather0 c i arg1 harg1 (Memref.whole main_v28) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch2 x0 hx ft W fg) $$ [H0 Hh0 HG Hq0 HW]
    · isplitl [H0]; · iexact H0
      isplitl [Hh0]; · iexact Hh0
      isplitl [HG]; · iexact HG
      isplitl [Hq0]; · iexact Hq0
      iexact HW
    rw [← hg]
    iintro ⟨H0, Hh0, HG, Hq0, ⟨%W', HW⟩⟩
    sl_exec
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr
      swap; · iexact H11
      ipureintro
      sl_unfold_run_values
      refine (View.read_writes_full _ _ _ _ _).trans ?_
      refine emit0_congr (y4 := x4) ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · rfl
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact View.readCov_full _ inb_S240x128_S240x128_0_0 inb_S240x128_S240x128_0_0 _ _
    isplitl [H12]
    · iexists _; isplitr
      swap; · iexact H12
      ipureintro
      sl_unfold_run_values
      refine (View.read_writes_full _ _ _ _ _).trans ?_
      refine score0_congr ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · exact (View.readAt_full _ _ _).trans (harg6.read_unread _)
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact View.readCov_full _ inb_S240x128_S240x128_0_0 inb_S240x128_S240x128_0_0 _ _
    isplitl [H13]
    · iexists _; isplitr
      swap; · iexact H13
      ipureintro
      sl_unfold_run_values
      refine (View.read_writes_full _ _ _ _ _).trans ?_
      refine next0_congr (y4 := x4) ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · rfl
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact View.readCov_full _ inb_S240x128_S240x128_0_0 inb_S240x128_S240x128_0_0 _ _
    isplitl [HG]
    · iexists _; iexists _; isplitr
      swap; · iexact HG
      ipureintro; exact harg16.read_unread _
    isplitl [HS0]
    · iexists _; isplitr
      swap; · iexact HS0
      ipureintro
      sl_unfold_run_values
      refine (View.read_writes_full _ _ _ _ _).trans ?_
      refine keep0_congr (y4 := x4) ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · rfl
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact View.readCov_full _ inb_S240x128_S240x128_0_0 inb_S240x128_S240x128_0_0 _ _
    isplitl [Hq0]; · iexact Hq0
    isplitl [Hh0]; · iexact Hh0
    iexists _; iexact HW
  · obtain rfl := h1 hc0
    sl_exec (disch := first | sl_exact hc0)
    simp only [bind_assoc]
    iapply (gather0 c i arg1 harg1 (Memref.whole main_v28) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch2 x0 hx ft W fg) $$ [H0 Hh0 HG Hq0 HW]
    · isplitl [H0]; · iexact H0
      isplitl [Hh0]; · iexact Hh0
      isplitl [HG]; · iexact HG
      isplitl [Hq0]; · iexact Hq0
      iexact HW
    rw [← hg]
    iintro ⟨H0, Hh0, HG, Hq0, ⟨%W', HW⟩⟩
    sl_exec
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr
      swap; · iexact H11
      ipureintro
      sl_unfold_run_values
      refine (View.read_writes_full _ _ _ _ _).trans ?_
      refine emit0_congr (y4 := x4) ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · rfl
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact (View.readAt_full _ _ _).trans (harg17.read_unread _)
    isplitl [H12]
    · iexists _; isplitr
      swap; · iexact H12
      ipureintro
      sl_unfold_run_values
      refine (View.read_writes_full _ _ _ _ _).trans ?_
      refine score0_congr ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · exact (View.readAt_full _ _ _).trans (harg6.read_unread _)
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact (View.readAt_full _ _ _).trans (harg17.read_unread _)
    isplitl [H13]
    · iexists _; isplitr
      swap; · iexact H13
      ipureintro
      sl_unfold_run_values
      refine (View.read_writes_full _ _ _ _ _).trans ?_
      refine next0_congr (y4 := x4) ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · rfl
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact (View.readAt_full _ _ _).trans (harg17.read_unread _)
    isplitl [HG]
    · iexists _; iexists _; isplitr
      swap; · iexact HG
      ipureintro; exact harg16.read_unread _
    isplitl [HS0]
    · iexists _; isplitr
      swap; · iexact HS0
      ipureintro
      sl_unfold_run_values
      refine (View.read_writes_full _ _ _ _ _).trans ?_
      refine keep0_congr (y4 := x4) ?_ ?_ ?_ ?_ ?_ ?_ ?_ ?_ ?_ ?_ ?_ ?_
      · exact (View.readAt_full _ _ _).trans (harg16.read_unread _)
      · exact (View.readAt_full _ _ _).trans (harg3.read_unread _)
      · exact (View.readAt_full _ _ _).trans (harg4.read_unread _)
      · exact (View.readAt_full _ _ _).trans (harg5.read_unread _)
      · rfl
      · exact (View.readAt_full _ _ _).trans (harg7.read_unread _)
      · exact (View.readAt_full _ _ _).trans (harg8.read_unread _)
      · exact (View.readAt_full _ _ _).trans (harg9.read_unread _)
      · exact (View.readAt_full _ _ _).trans (harg10.read_unread _)
      · exact (View.readAt_full _ _ _).trans (harg11.read_unread _)
      · exact (View.readAt_full _ _ _).trans (harg12.read_unread _)
      · exact (View.readAt_full _ _ _).trans (harg17.read_unread _)
    isplitl [Hq0]; · iexact Hq0
    isplitl [Hh0]; · iexact Hh0
    iexists _; iexact HW

end Cert.FirstIdeal.Region

end
-- ==== Proof.FirstIdeal.Region.lean ====
/- The region of the first GRU: what its buffers hold at every point, and the run. -/
module

public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Pipeline.Value
public import Idealize.ShloMosaic.Lib.StableHlo.Run
public import Idealize.ShloMosaic.Lib.Claim
public import proofs.«01_k».proof.Proof.FirstIdeal.Kit
public import proofs.«01_k».proof.Proof.FirstIdeal.Body

@[expose] public section

-- membership in a rectangle of production extents (`View.cover_of_tiled`): the elaborator's structural look
-- recurses once per coordinate of the long axes
set_option maxRecDepth 16384

noncomputable section

namespace Cert.FirstIdeal.Region

open Cert.FirstIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The ids of every point name rows of the table. -/
def InRange (c : Dev nD) : Prop := ∀ t : Fin cfg0.N, InTable0 (iblk m c 0 t)

/-- The rows of the table gathered at point `t`: for every row, the table's row its id names. -/
def rowsAt (hx : ∀ c, InRange m c) (c : Dev nD) (t : Fin cfg0.N) : Vec F S240x224 .i32 :=
  gathered c (Memref.whole main_v28) (rowOf0 (iblk m c 0 t)) (rowOf0_inb (hx c t)) (V m c main_v28)

/-- The state after `n` points: zero, then one step per point. -/
def state (hx : ∀ c, InRange m c) (c : Dev nD) : ℕ → Vec F S240x128 .f32
  | 0 => k0_pay2
  | n + 1 => if h : n < cfg0.N then next0 (rowsAt m hx c ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (state hx c n) else state hx c n

theorem state_succ (hx : ∀ c, InRange m c) (c : Dev nD) (t : Fin cfg0.N) :
    state m hx c (t.val + 1) = next0 (rowsAt m hx c t) (iblk m c 1 t) (iblk m c 2 t) (iblk m c 3 t) (iblk m c 4 t) (iblk m c 5 t) (iblk m c 6 t) (iblk m c 7 t) (iblk m c 8 t) (iblk m c 9 t) (iblk m c 10 t) (state m hx c t.val) := by
  rw [state, dif_pos t.isLt]

/-- What a point keeps in the scratch is its new state. -/
theorem keep0_eq (g : Vec F S240x224 .i32) (x1 : Vec F S1x240x1 .i32) (x2 x3 : Vec F S1x240x1 .f32) (x4 : Vec F S240x128 .f32) (x5 : Vec F S224x384 .bf16) (x6 x7 : Vec F S1x384 .f32) (x8 : Vec F S128x384 .bf16) (x9 x10 : Vec F S1x384 .f32) (h : Vec F S240x128 .f32) :
    keep0 g x1 x2 x3 x4 x5 x6 x7 x8 x9 x10 h = next0 g x1 x2 x3 x4 x5 x6 x7 x8 x9 x10 h := by
  unfold keep0 next0 k0_pay5
  exact shapeCast_self _ _

/-! ## What the body holds between points -/

abbrev ms0_0 (t : Fin cfg0.N) : Memref sig .tc .smem S1x1x240 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x240x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x240x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x240x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S240x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S224x384 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x384 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x384 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x384 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x240x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x240x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S240x128 .f32 := win0_13.stage (cfg0.slots t 13)
abbrev hs0_13 (t : Fin cfg0.N) : (ms0_13 t).IsWhole := hstage0_13 ((cfg0.slots t 13).cast nbuf0_13)

/-- The scratch the rows are gathered into; -/
abbrev scM0_0 : Memref sig .tc .vmem S240x224 .i32 := Memref.whole cc0_scratch0
/-- the scratch the state is carried in. -/
abbrev scM0_1 : Memref sig .tc .vmem S240x128 .f32 := Memref.whole cc0_scratch1

/-- The body's own semaphore. -/
abbrev osem0 : Fin 1 → SemLoc sig := fun j => (![SemLoc.dma 20] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 20) 0) := by
  rw [Pipeline.ownSems0_eq_of_list c osem0 [0] (by decide) (by decide)]; rfl
/-- The table the body copies rows of. -/
def H0 : Finset (Ref sig .tc) := {main_v28}
theorem H0_sub : H0 ⊆ Pipeline.restRefs sig spec0 := by decide
/-- The table held whole at `f`. -/
abbrev tabPt (c : Dev nD) (f : Buf (Elt F) ((Memref.whole main_v28 : Memref sig .tc .hbm S325000x224 .i32).view.loc (c : Thread nD τ))) : sProp 𝕄 :=
  (Memref.whole main_v28 : Memref sig .tc .hbm S325000x224 .i32).view.loc (c : Thread nD τ) ↦{fullShare} f
theorem hbmPts0_eq (c : Dev nD) :
    (bigSep H0 (fun b => ((c : Thread nD τ).loc b) ↦{fullShare} V m c b) : sProp 𝕄) = iprop(tabPt c (V m c main_v28)) := by
  rw [BI.bigSep_eq_bigSepL_of_eq [main_v28] (by decide) (by decide)]; rfl

/-- What is held at the region's two ends, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 20) 0) ∗ iprop(tabPt c (V m c main_v28))) := by
  rw [Pipeline.ΦD_eq, scopedRest0_eq, ownSems00_eq, hbmPts0_eq]; simp only [scM0_0, scM0_1, owns_whole]; try rfl

/-- What is held before point `n` (or, at the end, after the last): the same, with the state in its scratch from the
    first point on. -/
def Phi (hx : ∀ c, InRange m c) (c : Dev nD) (n : ℕ) : sProp 𝕄 :=
  iprop(iprop((∃ d, owns (c : Thread nD τ) scM0_0 fullShare d) ∗ (∃ d, ⌜n ≠ 0 → d = state m hx c n⌝ ∗ owns (c : Thread nD τ) scM0_1 fullShare d)) ∗ (∃ r, prngReg c r) ∗ iprop(semVal ((c : Thread nD τ), SemLoc.dma 20) 0) ∗ iprop(tabPt c (V m c main_v28)))

theorem Phi_zero (hx : ∀ c, InRange m c) (c : Dev nD) : (Pipeline.ΦD osem0 spec0 H0 (V m) c : sProp 𝕄) ⊢ Phi m hx c 0 := by
  rw [PhiD0_eq]; unfold Phi
  iintro ⟨⟨H0, ⟨%d, H1⟩⟩, Hr⟩
  isplitr [Hr]
  · isplitl [H0]; · iexact H0
    iexists d
    isplitr; · ipureintro; exact fun h => absurd rfl h
    iexact H1
  iexact Hr

theorem Phi_last (hx : ∀ c, InRange m c) (c : Dev nD) (n : ℕ) : Phi m hx c n ⊢ (Pipeline.ΦD osem0 spec0 H0 (V m) c : sProp 𝕄) := by
  rw [PhiD0_eq]; unfold Phi
  iintro ⟨⟨H0, ⟨%d, -, H1⟩⟩, Hr⟩
  isplitr [Hr]
  · isplitl [H0]; · iexact H0
    iexists d
    iexact H1
  iexact Hr

/-- The proof data: the arrays as the region finds them; after a point its inputs' blocks, and its outputs at the new
    state as bf16, at the scores and at the new state. -/
def dat0 (hx : ∀ c, InRange m c) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => emit0 (rowsAt m hx c t) (iblk m c 1 t) (iblk m c 2 t) (iblk m c 3 t) (iblk m c 4 t) (iblk m c 5 t) (iblk m c 6 t) (iblk m c 7 t) (iblk m c 8 t) (iblk m c 9 t) (iblk m c 10 t) (state m hx c t.val)
    | ⟨12, _⟩ => score0 (rowsAt m hx c t) (iblk m c 1 t) (iblk m c 2 t) (iblk m c 3 t) (iblk m c 4 t) (iblk m c 5 t) (iblk m c 6 t) (iblk m c 7 t) (iblk m c 8 t) (iblk m c 9 t) (iblk m c 10 t) (state m hx c t.val)
    | ⟨13, _⟩ => state m hx c (t.val + 1)
  Φ t := Phi m hx c t.val
  q _ := fullShare
  owed _ := 0

def dats (hx : ∀ c, InRange m c) : (p : Fin 1) → (c : Dev nD) → Dat τ (Elt F) Unit ℕ (Pipeline.UD sig nD τ) ℕ (cfgs p) c
  | 0 => dat0 m hx

theorem A_eq0 (hx : ∀ c, InRange m c) (c : Dev nD) (w : Fin cfg0.W) : (dat0 m hx c).A w = V m c (Pipeline.arrRef spec0 w) := by
  dsimp only [dat0]
theorem after0_0 (hx : ∀ c, InRange m c) (c : Dev nD) (t : Fin cfg0.N) : (dat0 m hx c).after 0 t = iblk m c 0 t := by dsimp only [dat0]
theorem after0_1 (hx : ∀ c, InRange m c) (c : Dev nD) (t : Fin cfg0.N) : (dat0 m hx c).after 1 t = iblk m c 1 t := by dsimp only [dat0]
theorem after0_2 (hx : ∀ c, InRange m c) (c : Dev nD) (t : Fin cfg0.N) : (dat0 m hx c).after 2 t = iblk m c 2 t := by dsimp only [dat0]
theorem after0_3 (hx : ∀ c, InRange m c) (c : Dev nD) (t : Fin cfg0.N) : (dat0 m hx c).after 3 t = iblk m c 3 t := by dsimp only [dat0]
theorem after0_4 (hx : ∀ c, InRange m c) (c : Dev nD) (t : Fin cfg0.N) : (dat0 m hx c).after 4 t = iblk m c 4 t := by dsimp only [dat0]
theorem after0_5 (hx : ∀ c, InRange m c) (c : Dev nD) (t : Fin cfg0.N) : (dat0 m hx c).after 5 t = iblk m c 5 t := by dsimp only [dat0]
theorem after0_6 (hx : ∀ c, InRange m c) (c : Dev nD) (t : Fin cfg0.N) : (dat0 m hx c).after 6 t = iblk m c 6 t := by dsimp only [dat0]
theorem after0_7 (hx : ∀ c, InRange m c) (c : Dev nD) (t : Fin cfg0.N) : (dat0 m hx c).after 7 t = iblk m c 7 t := by dsimp only [dat0]
theorem after0_8 (hx : ∀ c, InRange m c) (c : Dev nD) (t : Fin cfg0.N) : (dat0 m hx c).after 8 t = iblk m c 8 t := by dsimp only [dat0]
theorem after0_9 (hx : ∀ c, InRange m c) (c : Dev nD) (t : Fin cfg0.N) : (dat0 m hx c).after 9 t = iblk m c 9 t := by dsimp only [dat0]
theorem after0_10 (hx : ∀ c, InRange m c) (c : Dev nD) (t : Fin cfg0.N) : (dat0 m hx c).after 10 t = iblk m c 10 t := by dsimp only [dat0]
theorem after0_11 (hx : ∀ c, InRange m c) (c : Dev nD) (t : Fin cfg0.N) : (dat0 m hx c).after 11 t = emit0 (rowsAt m hx c t) (iblk m c 1 t) (iblk m c 2 t) (iblk m c 3 t) (iblk m c 4 t) (iblk m c 5 t) (iblk m c 6 t) (iblk m c 7 t) (iblk m c 8 t) (iblk m c 9 t) (iblk m c 10 t) (state m hx c t.val) := by dsimp only [dat0]
theorem after0_12 (hx : ∀ c, InRange m c) (c : Dev nD) (t : Fin cfg0.N) : (dat0 m hx c).after 12 t = score0 (rowsAt m hx c t) (iblk m c 1 t) (iblk m c 2 t) (iblk m c 3 t) (iblk m c 4 t) (iblk m c 5 t) (iblk m c 6 t) (iblk m c 7 t) (iblk m c 8 t) (iblk m c 9 t) (iblk m c 10 t) (state m hx c t.val) := by dsimp only [dat0]
theorem after0_13 (hx : ∀ c, InRange m c) (c : Dev nD) (t : Fin cfg0.N) : (dat0 m hx c).after 13 t = state m hx c (t.val + 1) := by dsimp only [dat0]
theorem before0_0 (hx : ∀ c, InRange m c) (c : Dev nD) (t : Fin cfg0.N) (d) : (dat0 m hx c).before 0 t d = iblk m c 0 t :=
  before0_0_of m (dat0 m hx c) (A_eq0 m hx c 0) (after0_0 m hx c) t d
theorem before0_1 (hx : ∀ c, InRange m c) (c : Dev nD) (t : Fin cfg0.N) (d) : (dat0 m hx c).before 1 t d = iblk m c 1 t :=
  before0_1_of m (dat0 m hx c) (A_eq0 m hx c 1) (after0_1 m hx c) t d
theorem before0_2 (hx : ∀ c, InRange m c) (c : Dev nD) (t : Fin cfg0.N) (d) : (dat0 m hx c).before 2 t d = iblk m c 2 t :=
  before0_2_of m (dat0 m hx c) (A_eq0 m hx c 2) (after0_2 m hx c) t d
theorem before0_3 (hx : ∀ c, InRange m c) (c : Dev nD) (t : Fin cfg0.N) (d) : (dat0 m hx c).before 3 t d = iblk m c 3 t :=
  before0_3_of m (dat0 m hx c) (A_eq0 m hx c 3) (after0_3 m hx c) t d
theorem before0_4 (hx : ∀ c, InRange m c) (c : Dev nD) (t : Fin cfg0.N) (d) : (dat0 m hx c).before 4 t d = iblk m c 4 t :=
  before0_4_of m (dat0 m hx c) (A_eq0 m hx c 4) (after0_4 m hx c) t d
theorem before0_5 (hx : ∀ c, InRange m c) (c : Dev nD) (t : Fin cfg0.N) (d) : (dat0 m hx c).before 5 t d = iblk m c 5 t :=
  before0_5_of m (dat0 m hx c) (A_eq0 m hx c 5) (after0_5 m hx c) t d
theorem before0_6 (hx : ∀ c, InRange m c) (c : Dev nD) (t : Fin cfg0.N) (d) : (dat0 m hx c).before 6 t d = iblk m c 6 t :=
  before0_6_of m (dat0 m hx c) (A_eq0 m hx c 6) (after0_6 m hx c) t d
theorem before0_7 (hx : ∀ c, InRange m c) (c : Dev nD) (t : Fin cfg0.N) (d) : (dat0 m hx c).before 7 t d = iblk m c 7 t :=
  before0_7_of m (dat0 m hx c) (A_eq0 m hx c 7) (after0_7 m hx c) t d
theorem before0_8 (hx : ∀ c, InRange m c) (c : Dev nD) (t : Fin cfg0.N) (d) : (dat0 m hx c).before 8 t d = iblk m c 8 t :=
  before0_8_of m (dat0 m hx c) (A_eq0 m hx c 8) (after0_8 m hx c) t d
theorem before0_9 (hx : ∀ c, InRange m c) (c : Dev nD) (t : Fin cfg0.N) (d) : (dat0 m hx c).before 9 t d = iblk m c 9 t :=
  before0_9_of m (dat0 m hx c) (A_eq0 m hx c 9) (after0_9 m hx c) t d
theorem before0_10 (hx : ∀ c, InRange m c) (c : Dev nD) (t : Fin cfg0.N) (d) : (dat0 m hx c).before 10 t d = iblk m c 10 t :=
  before0_10_of m (dat0 m hx c) (A_eq0 m hx c 10) (after0_10 m hx c) t d

set_option maxHeartbeats 1600000 in
/-- The body at any point. -/
theorem sound_body0 (hx : ∀ c, InRange m c) (c : Dev nD) (t : Fin cfg0.N) :
    iprop((dat0 m hx c).Φ t.castSucc ∗ (dat0 m hx c).owesAt () t.castSucc
      ∗ (∃ d, owns (c : Thread nD τ) (ms0_0 t) fullShare ((dat0 m hx c).before 0 t d))
      ∗ (∃ d, owns (c : Thread nD τ) (ms0_1 t) fullShare ((dat0 m hx c).before 1 t d))
      ∗ (∃ d, owns (c : Thread nD τ) (ms0_2 t) fullShare ((dat0 m hx c).before 2 t d))
      ∗ (∃ d, owns (c : Thread nD τ) (ms0_3 t) fullShare ((dat0 m hx c).before 3 t d))
      ∗ (∃ d, owns (c : Thread nD τ) (ms0_4 t) fullShare ((dat0 m hx c).before 4 t d))
      ∗ (∃ d, owns (c : Thread nD τ) (ms0_5 t) fullShare ((dat0 m hx c).before 5 t d))
      ∗ (∃ d, owns (c : Thread nD τ) (ms0_6 t) fullShare ((dat0 m hx c).before 6 t d))
      ∗ (∃ d, owns (c : Thread nD τ) (ms0_7 t) fullShare ((dat0 m hx c).before 7 t d))
      ∗ (∃ d, owns (c : Thread nD τ) (ms0_8 t) fullShare ((dat0 m hx c).before 8 t d))
      ∗ (∃ d, owns (c : Thread nD τ) (ms0_9 t) fullShare ((dat0 m hx c).before 9 t d))
      ∗ (∃ d, owns (c : Thread nD τ) (ms0_10 t) fullShare ((dat0 m hx c).before 10 t d))
      ∗ (∃ d, owns (c : Thread nD τ) (ms0_11 t) fullShare ((dat0 m hx c).before 11 t d))
      ∗ (∃ d, owns (c : Thread nD τ) (ms0_12 t) fullShare ((dat0 m hx c).before 12 t d))
      ∗ (∃ d, owns (c : Thread nD τ) (ms0_13 t) fullShare ((dat0 m hx c).before 13 t d)))
      ⊢ wp frame (wpE (defs₀ (F := F)) Variants.none c none) Set.univ (bodyAt0 t) (fun _ =>
        iprop((dat0 m hx c).Φ t.succ ∗ (dat0 m hx c).owesAt () t.succ
        ∗ owns (c : Thread nD τ) (ms0_0 t) fullShare ((dat0 m hx c).after 0 t)
        ∗ owns (c : Thread nD τ) (ms0_1 t) fullShare ((dat0 m hx c).after 1 t)
        ∗ owns (c : Thread nD τ) (ms0_2 t) fullShare ((dat0 m hx c).after 2 t)
        ∗ owns (c : Thread nD τ) (ms0_3 t) fullShare ((dat0 m hx c).after 3 t)
        ∗ owns (c : Thread nD τ) (ms0_4 t) fullShare ((dat0 m hx c).after 4 t)
        ∗ owns (c : Thread nD τ) (ms0_5 t) fullShare ((dat0 m hx c).after 5 t)
        ∗ owns (c : Thread nD τ) (ms0_6 t) fullShare ((dat0 m hx c).after 6 t)
        ∗ owns (c : Thread nD τ) (ms0_7 t) fullShare ((dat0 m hx c).after 7 t)
        ∗ owns (c : Thread nD τ) (ms0_8 t) fullShare ((dat0 m hx c).after 8 t)
        ∗ owns (c : Thread nD τ) (ms0_9 t) fullShare ((dat0 m hx c).after 9 t)
        ∗ owns (c : Thread nD τ) (ms0_10 t) fullShare ((dat0 m hx c).after 10 t)
        ∗ owns (c : Thread nD τ) (ms0_11 t) fullShare ((dat0 m hx c).after 11 t)
        ∗ owns (c : Thread nD τ) (ms0_12 t) fullShare ((dat0 m hx c).after 12 t)
        ∗ owns (c : Thread nD τ) (ms0_13 t) fullShare ((dat0 m hx c).after 13 t))) := by
  unfold bodyAt0
  simp only [before0_0, before0_1, before0_2, before0_3, before0_4, before0_5, before0_6, before0_7, before0_8, before0_9, before0_10]
  rw [after0_0, after0_1, after0_2, after0_3, after0_4, after0_5, after0_6, after0_7, after0_8, after0_9, after0_10, after0_11, after0_12, after0_13]
  rw [show (dat0 m hx c).Φ t.castSucc = Phi m hx c t.val from rfl, show (dat0 m hx c).Φ t.succ = Phi m hx c (t.val + 1) from rfl]
  unfold Dat.owesAt Pipeline.owesWithin
  rw [show (dat0 m hx c).owed t.castSucc = 0 from rfl, show (dat0 m hx c).owed t.succ = 0 from rfl]
  rw [state_succ]
  unfold Phi
  iintro ⟨⟨⟨HS0, ⟨%d, %hd, HS1⟩⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body0 c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v28) (hx c t) (rowsAt m hx c t) rfl d (state m hx c t.val)
    (fun h => by rw [(first0_iff t).mp h]; rfl) (fun h => (hd fun e => h ((first0_iff t).mpr e)).symm) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexact HS0
  isplitl [HS1]; · iexact HS1
  isplitl [Hq0]; · iexact Hq0
  isplitl [Hh0]; · iexact Hh0
  isplitl [HW]; · iexact HW
  iintro ⟨H0, H1, H2, H3, H4, H5, H6, H7, H8, H9, H10, H11, H12, H13, HS0, HS1, Hq0, Hh0, ⟨%W', HW'⟩⟩
  isplitl [HS0 HS1 Hg Hq0 Hh0]
  · isplitl [HS0 HS1]
    · isplitl [HS0]; · iexact HS0
      iexists _
      isplitr
      swap; · iexact HS1
      ipureintro
      intro _
      rw [keep0_eq, state_succ]
    isplitl [Hg]; · iexact Hg
    isplitl [Hq0]; · iexact Hq0
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row0 (t : Fin cfg0.N) :
    defs₀ (F := F) .tc cfg0.body (cfg0.bodyArgs t (cfg0.slots t)) = bodyAt0 t := by
  unfold defs₀; rw [Defs.onTc_tc]

/-- What the launch asks of the body, at every point. -/
theorem body_obligation0 (hx : ∀ c, InRange m c) (c : Dev nD) : BodyObligation (dat0 (F := F) m hx c) (defs₀ (F := F)) Variants.none () Set.univ := fun t => by
  rw [bigSep_W0, bigSep_W0, defs₀_row0]
  exact triple_restated (sound_body0 m hx c t) rfl .rfl fun _ => .rfl

/-- The host line after the region touches the region's arrays and buffers the region does not use. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  obtain rfl := Finset.mem_singleton.mp hb
  simp only [StableHlo.unary_bufs, Finset.mem_insert, Finset.mem_singleton, not_or]
  repeat' apply And.intro
  all_goals exact StableHlo.devRef_ne_of_ne (by decide)

set_option backward.isDefEq.respectTransparency.types false in
/-- The run: every array at its final contents, every other buffer at what the host line after the region leaves, every
    semaphore at zero. -/
theorem run_main (hx : ∀ c, InRange m c) : θ_run defs (onTc (τ := τ) (main (F := F))) (s₀ m ρ) fun r =>
    Pipeline.FramePost cfgs (dats m hx) 0 (Pipeline.afterTail₀ cfgs (dats m hx) 0 (V0 m) [hostOps1]) r ∧ r.2.sem = fun _ => 0 :=
  Pipeline.θ_run_frame_dma_around cfgs (dats m hx) 0 launch0 osem0 defs₀ Variants.none ownSemFacts0 H0 H0_sub m ρ main
    (hbody := fun c => (body_obligation0 m hx c).loose) (hshare := fun c => (dats m hx 0 c).share_full fun _ => rfl)
    (howed := fun _ _ => rfl) (V₀ := V0 m) (opss := [hostOps1]) (hsub := tail_sub) (hfresh := sfx_fresh) (hkeep := sfx_keeps)
    (hmain := hmain m Variants.none) (hA := fun c w => A_eq0 m hx c w) (hin := fun c => Phi_zero m hx c)
    (hout := fun c => Phi_last m hx c _) (Q' := _) (hQ' := fun _ h => h)

/-- Every argument array ends as launched, and every semaphore at zero. -/
theorem unchanged (hx : ∀ c, InRange m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨h.1, h.2.2⟩)
    (θ_run_and (frame_of m ρ (dats m hx) (fun c w => A_eq0 m hx c w) ((θ_run defs _ _).mono (fun _ h => h.1) (run_main m ρ hx))) (run_main m ρ hx))

end Cert.FirstIdeal.Region

end
-- ==== Proof.FirstIdeal.Final.lean ====
/- What the first GRU's program leaves: its result, the first 96 columns of the state after the last point (`run`). -/
module

public import proofs.«01_k».proof.Proof.FirstIdeal.Region

@[expose] public section

noncomputable section

open Idealize.ShloMosaic Idealize.ShloMosaic.TcCoe Idealize.SL.Sem
open Idealize.ShloMosaic.Pipeline (Dat)

namespace Cert.FirstIdeal.Final

open Cert.FirstIdeal Cert.FirstIdeal.Gen Cert.FirstIdeal.Region

variable {F : FTy → Type} [FloatOps F]
variable (m : (ℓ : Loc nD τ sig) → Buf (Elt F) ℓ) (ρ : Dev nD → PrngReg)

/-- The kernel's result array: the state after the last point. -/
abbrev result (hx : ∀ c, InRange m c) (c : Dev nD) : Buf (Elt F) ((c : Thread nD τ).loc main_v42_2) := state m hx c 512

abbrev tLast : Fin cfg0.N := ⟨511, by rw [show cfg0.N = 512 from N_0]; decide⟩

theorem idx_last : ∀ a, win0_13.index tLast a = 0 := by decide +kernel

/-- The one write-back, after the last point, writes it: the block is the whole array. -/
theorem flushed_eq (hx : ∀ c, InRange m c) (c : Dev nD) (t : Fin cfg0.N) (hf : (cfg0.win 13).flush t = true) :
    (dats m hx 0 c).flushed 13 t = ((cfg0.win 13).blk t).view.read (Elt F) (result m hx c) := by
  have hN : cfg0.N = 512 := N_0
  have h3 : t.val = 511 := by have := (flush0_13 t).mp hf; have := t.isLt; omega
  obtain rfl : t = tLast := Fin.ext h3
  show (cfg0.win 13).cut (grid0.coords tLast) ((dats m hx 0 c).after 13 tLast) = _
  rw [show (dats m hx 0 c).after 13 tLast = state m hx c 512 from after0_13 m hx c tLast]
  have hz' : (fun a => win0_13.index tLast a * main_v42_2.ty.shape.size a) = fun _ => 0 := funext fun a => by rw [idx_last]; exact Nat.zero_mul _
  exact (Memref.read_access_unit_zero (Elt F) main_v42_2 hz' (fun a => by rw [congrFun hz' a]; simp) (result m hx c)).symm

/-- So the result array ends at the state after the last point. -/
theorem final_o (hx : ∀ c, InRange m c) (c : Dev nD) : (dats m hx 0 c).arrAt 13 cfg0.N = result m hx c :=
  (dats m hx 0 c).arrAt_eq_of_cover 13 (result m hx c) (flushed_eq m hx c) fun i =>
    ⟨tLast, (flush0_13 tLast).mpr rfl, by
      show i ∈ ((View.whole main_v42_2).slice (win0_13.rect tLast)).set
      rw [View.set_slice_whole, Rect.mem_set_unit]
      intro a
      have h0 : (i 0 : Nat) < 240 := (i 0).isLt
      have h1 : (i 1 : Nat) < 128 := (i 1).isLt
      match a with
      | ⟨0, _⟩ => show win0_13.index tLast 0 * win0_13.size 0 ≤ (i 0 : Nat) ∧ (i 0 : Nat) < win0_13.index tLast 0 * win0_13.size 0 + win0_13.xsize (grid0.coords tLast) 0
                  rw [idx_last, show win0_13.xsize (grid0.coords tLast) 0 = 240 from by decide +kernel]; omega
      | ⟨1, _⟩ => show win0_13.index tLast 1 * win0_13.size 1 ≤ (i 1 : Nat) ∧ (i 1 : Nat) < win0_13.index tLast 1 * win0_13.size 1 + win0_13.xsize (grid0.coords tLast) 1
                  rw [idx_last, show win0_13.xsize (grid0.coords tLast) 1 = 128 from by decide +kernel]; omega⟩

/-- The program's result after the run: the first 96 columns of the state after the last point. -/
abbrev interest (hx : ∀ c, InRange m c) (c : Dev nD) : Buf (Elt F) ((c : Thread nD τ).loc main_v43) :=
  extractStridedSlice S240x96 ![0, 0] (result m hx c) slices_S240x128_S240x96_0_0

theorem arr_inj : Function.Injective (Pipeline.arrRef spec0) := by decide +kernel

theorem tail_eq (hx : ∀ c, InRange m c) (c : Dev nD) : Pipeline.afterTail₀ cfgs (dats m hx) 0 (V0 m) [hostOps1] c main_v43 = interest m hx c := by
  unfold Pipeline.afterTail₀
  show StableHlo.after hostOps1 _ _ = _
  rw [show (StableHlo.after (hostOps1 (F := F)) _ (Proc.devRef .tc main_v43)) = _ from by after_results]
  have := Pipeline.withArrays_arr spec0 arr_inj c (V0 m c) (fun w => (dats m hx 0 c).arrAt w cfg0.N) 13
  exact congrArg (fun v => extractStridedSlice S240x96 ![0, 0] v slices_S240x128_S240x96_0_0) (this.trans (final_o m hx c))

/-- The run, read: the program's result, and every argument unchanged. -/
theorem run (hx : ∀ c, InRange m c) : θ_run defs (onTc (τ := τ) (main (F := F))) ⟨m, fun _ => 0, ρ⟩ fun r => ∀ c : Dev nD,
      r.2.mem ((c.tc : Thread nD τ).loc main_v43) = interest m hx c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h.1.1 c).2 main_v43 (Pipeline.mem_restRefs_of main_v43 (by decide) (by decide))).trans (tail_eq m hx c), h.2.1 c⟩)
    (θ_run_and (run_main m ρ hx) (unchanged m ρ hx))

end Cert.FirstIdeal.Final

end
-- ==== Proof.FirstIdeal.Words.lean ====
/-
  The word arithmetic of the embedding's ids: the group of four rows an id lies in (`off3_eq`), its place in the group
  (`toNat_place`), and the byte at that place taken out of a word of four bytes (`byte_eq`).
-/
module

public import proofs.«01_k».proof.Proof.Gen.FirstIdeal.Skeleton
public import Idealize.ShloMosaic.Lib.Affine
public import Idealize.ShloMosaic.Lib.BitcastConvert

@[expose] public section

noncomputable section

open Idealize.ShloMosaic

namespace Cert.FirstIdeal.Words

open Cert.FirstIdeal Cert.FirstIdeal.Gen

/-- The quotient of a nonnegative word by a positive literal. -/
theorem toNat_divsi (u : ArithUnit) {x : BitVec 32} (hx : 2 * x.toNat < 2 ^ 32) (k : Nat) (hk : 0 < k) (hk' : 2 * k < 2 ^ 32) :
    (IntOp.divsi u x (BitVec.ofNat 32 k)).toNat = x.toNat / k := by
  have hkN : (BitVec.ofNat 32 k).toNat = k := by rw [BitVec.toNat_ofNat]; omega
  have hm : x.msb = false := by rw [BitVec.msb_eq_false_iff_two_mul_lt]; exact hx
  have hkm : (BitVec.ofNat 32 k).msb = false := by rw [BitVec.msb_eq_false_iff_two_mul_lt]; omega
  have : IntOp.divsi u x (BitVec.ofNat 32 k) = x.sdiv (BitVec.ofNat 32 k) :=
    if_neg (IntOp.not_corner_of_pos (by rw [BitVec.toInt_eq_toNat_of_lt (by omega)]; omega))
  rw [this, BitVec.sdiv_eq, hm, hkm]
  show (x / BitVec.ofNat 32 k).toNat = _
  rw [BitVec.toNat_udiv, hkN]

/-- The row copied for an id of the table is row `id / 4` of the table of words. -/
theorem off3_eq (w : BitVec 32) (hw : w.toNat < 1300000) : k0_off3 w = ![w.toNat / 4, 0] := by
  have hd : (IntOp.divsi .scalar w 4#32).toNat = w.toNat / 4 := toNat_divsi _ (by omega) 4 (by omega) (by omega)
  by_cases h0 : w.toNat = 0
  · obtain rfl : w = 0#32 := BitVec.eq_of_toNat_eq h0
    decide +kernel
  · have hi : w.toInt = (w.toNat : Int) := BitVec.toInt_eq_toNat_of_lt (by omega)
    have h1 : Scalar.cmpi .sgt w 0#32 = 1#1 := IntOp.cmpi_sgt.mpr (by rw [hi]; show (0 : Int) < _; omega)
    have h2 : Scalar.cmpi .slt w 0#32 = 0#1 := by
      have : ¬ Scalar.cmpi .slt w 0#32 = 1#1 := fun h => by
        have := IntOp.cmpi_slt.mp h
        rw [hi] at this
        have h' : (w.toNat : Int) < 0 := this
        omega
      revert this; generalize Scalar.cmpi .slt w 0#32 = x; revert x; decide
    unfold k0_off3
    dsimp only
    rw [h1, h2]
    have hs : ∀ (a b c : BitVec 1) (x y : BitVec 32),
        Scalar.select (Scalar.andi (Scalar.cmpi .ne (Scalar.subi (Scalar.extui (1#1 : BitVec 1) : BitVec 32) (Scalar.extui (0#1 : BitVec 1)))
          (Scalar.subi (Scalar.extui (Scalar.cmpi .sgt 4#32 0#32) : BitVec 32) (Scalar.extui (Scalar.cmpi .slt 4#32 0#32)))) c) x y = y := by
      intro a b c x y
      have : Scalar.andi (Scalar.cmpi .ne (Scalar.subi (Scalar.extui (1#1 : BitVec 1) : BitVec 32) (Scalar.extui (0#1 : BitVec 1)))
          (Scalar.subi (Scalar.extui (Scalar.cmpi .sgt 4#32 0#32) : BitVec 32) (Scalar.extui (Scalar.cmpi .slt 4#32 0#32)))) c = 0#1 := by
        revert c; decide +kernel
      rw [this]; rfl
    rw [hs 0#1 0#1]
    exact congrArg (fun n => (![n, 0] : Fin 2 → Nat)) hd

/-- So an id of the table names a row of it. -/
theorem chk_of (w : BitVec 32) (hw : w.toNat < 1300000) : k0_chk1 w := by
  unfold k0_chk1
  rw [off3_eq w hw]
  intro a
  match a with
  | ⟨0, _⟩ => show w.toNat / 4 + 1 ≤ 325000; omega
  | ⟨1, _⟩ => show 0 + 224 ≤ 224; omega

/-- A word that is nonnegative and below the table's length when read signed. -/
theorem toNat_lt (w : BitVec 32) (h0 : IntOp.cmpi .sge w 0#32 = 1#1) (h1 : IntOp.cmpi .slt w 1300000#32 = 1#1) : w.toNat < 1300000 := by
  have a := IntOp.cmpi_sge.mp h0
  have b := IntOp.cmpi_slt.mp h1
  have a' : (0 : Int) ≤ w.toInt := a
  have b' : w.toInt < 1300000 := b
  rw [BitVec.toInt_eq_toNat_cond] at a' b'
  split at a' <;> omega

/-- Byte `r` of a word, brought to the top and shifted down again, is the byte's signed value. -/
theorem byte_eq (x : BitVec 32) (r : ℕ) (hr : r < 4) :
    (x <<< (24 - 8 * r)).sshiftRight 24 = (x.extractLsb' (8 * r) 8).signExtend 32 := by
  apply BitVec.eq_of_getLsbD_eq
  intro i hi
  rw [BitVec.getLsbD_sshiftRight, BitVec.getLsbD_signExtend]
  have h32 : ¬ (32 ≤ i) := by omega
  by_cases h : i < 8
  · have e : 24 + i < 32 := by omega
    have e2 : ¬ (24 + i < 24 - 8 * r) := by omega
    have e3 : 24 + i - (24 - 8 * r) = 8 * r + i := by omega
    simp [h32, h, e, e2, e3, hi]
    rfl
  · have e : ¬ (24 + i < 32) := by omega
    have e2 : ¬ (31 < 24 - 8 * r) := by omega
    have e3 : 31 - (24 - 8 * r) = 8 * r + 7 := by omega
    simp [h32, h, e, e2, e3, hi, BitVec.msb_eq_getLsbD_last]
    rfl

/-- The same, with the shift given by a word. -/
theorem shifted_eq (x s : BitVec 32) (r : ℕ) (hr : r < 4) (hs : s.toNat = 24 - 8 * r) :
    IntOp.shrsi .vector (IntOp.shli .vector x s) 24#32 = (x.extractLsb' (8 * r) 8).signExtend 32 := by
  unfold IntOp.shrsi IntOp.shli
  rw [if_pos (by decide), if_pos (by omega), ← byte_eq x r hr, ← hs]
  rfl

/-- Byte `r` of a word made of four bytes. -/
theorem widen_byte {t s : Shape} (x : IVec s 8) (h : t.SplitsWords 32 s 8) (j : t.Idx) (r : ℕ) (hr : r < 4) (k : s.Coord h.axis) (hk : k.val = r) :
    (Host.bitcastConvertWiden t 32 x h j).extractLsb' (8 * r) 8 = x (h.snoc j k) := by
  apply BitVec.eq_of_getLsbD_eq
  intro i hi
  rw [BitVec.getLsbD_extractLsb', Host.bitcastConvertWiden_getLsbD t 32 x h j (8 * r + i) (by omega)]
  have e : (8 * r + i) / 8 = r := by omega
  have e' : (8 * r + i) % 8 = i := by omega
  have ek : (⟨(8 * r + i) / 8, h.div_lt (by omega)⟩ : s.Coord h.axis) = k := Fin.ext (by rw [hk]; exact e)
  rw [ek, e']
  simp [hi]

/-- The remainder by four as the host computes it, of a nonnegative word: the place of the id in its group. -/
theorem toNat_place (w : BitVec 32) (hw : w.toNat < 1300000) :
    (if IntOp.andi (IntOp.cmpi .ne (IntOp.cmpi .slt (IntOp.remsi .host w 4#32) 0#32) (IntOp.cmpi .slt 4#32 0#32))
        (IntOp.cmpi .ne (IntOp.remsi .host w 4#32) 0#32) = 1#1 then IntOp.addi (IntOp.remsi .host w 4#32) 4#32 else IntOp.remsi .host w 4#32).toNat
      = w.toNat % 4 := by
  have hd : (IntOp.remsi .host w 4#32).toNat = w.toNat % 4 := IntOp.toNat_remsi _ (by omega) 4 (by omega) (by omega)
  have h2 : IntOp.cmpi .slt (IntOp.remsi .host w 4#32) 0#32 = 0#1 := by
    have : ¬ IntOp.cmpi .slt (IntOp.remsi .host w 4#32) 0#32 = 1#1 := fun h => by
      have := IntOp.cmpi_slt.mp h
      rw [BitVec.toInt_eq_toNat_of_lt (by omega), hd] at this
      have h' : ((w.toNat % 4 : ℕ) : Int) < 0 := this
      omega
    revert this; generalize IntOp.cmpi .slt (IntOp.remsi .host w 4#32) 0#32 = x; revert x; decide
  rw [h2, if_neg, hd]
  generalize IntOp.cmpi .ne (IntOp.remsi .host w 4#32) 0#32 = x
  revert x; decide

end Cert.FirstIdeal.Words

end
-- ==== Proof.FirstMath.lean ====
/-
  The mathematics of the first GRU, over the extended reals: a gate of one table row of signed bytes, the state after `n`
  steps in which a row is updated only from its first real event on, and that a zero update weight keeps the state.
-/
module

public import proofs.«01_k».proof.Proof.Math

@[expose] public section

noncomputable section

open Idealize.ShloMosaic
open scoped BigOperators

namespace Cert.Evolve

/-- The number a signed byte stands for. -/
def code (x : BitVec 8) : EReal := (((x.signExtend 32).toInt : ℝ) : EReal)

/-- The row of the table that an id names. -/
def row (w : BitVec 32) : Fin 1300000 := ⟨min w.toNat 1299999, by omega⟩

/-- A gate's input of a table row: the product of the row and a column, scaled by the row's scale and the column's scale,
    and shifted. -/
def affineRow (x w : Fin 224 → EReal) (r s b : EReal) : EReal := (∑ k, x k * w k) * r * s + b

/-- The state after `n` steps: zero, then per step one update of every row `b` for which `live n b` holds, of the input's
    gates `gi n` and the state's weights `wh` (scales `sh`, biases `bh`). -/
def masked (gi : ℕ → Fin 3 → Fin 240 → Fin 96 → EReal) (live : ℕ → Fin 240 → BitVec 1) (wh : Fin 96 → Fin 3 → Fin 96 → EReal)
    (sh bh : Fin 3 → Fin 96 → EReal) : ℕ → Fin 240 → Fin 96 → EReal
  | 0 => fun _ _ => 0
  | n + 1 => fun b j => if live n b = 1#1 then update (fun g => gi n g b j)
      (fun g => affine (masked gi live wh sh bh n b) (fun k => wh k g j) (sh g j) (bh g j)) 1 (masked gi live wh sh bh n b j)
      else masked gi live wh sh bh n b j

/-- An update whose weight is a bit, read as a number, is the update or nothing. -/
theorem update_bit (gi gh : Fin 3 → EReal) (a : BitVec 1) (h : EReal) :
    update gi gh (((a.toNat : ℝ)) : EReal) h = if a = 1#1 then update gi gh 1 h else h := by
  rcases (show a = 0#1 ∨ a = 1#1 from by revert a; decide) with rfl | rfl
  · rw [if_neg (by decide)]
    unfold update
    simp
  · rw [if_pos rfl]
    simp

end Cert.Evolve

end
-- ==== Proof.FirstIdeal.StepValue.lean ====
/-
  One grid point's arithmetic of the first GRU at an index, over the extended reals: the new state's element `(b, j)` is
  `Evolve.update` of the two gate products' elements there.
-/
module

public import proofs.«01_k».proof.Proof.FirstIdeal.Words
public import proofs.«01_k».proof.Proof.FirstIdeal.Region
public import proofs.«01_k».proof.Proof.FirstMath
public import Idealize.ShloMosaic.Lib.MatmulPlain
public import Idealize.ShloMosaic.Lib.KernelVsHost

@[expose] public section

noncomputable section

open Idealize.ShloMosaic Idealize.ShloMosaic.ValueIdx
open scoped BigOperators

namespace Cert.FirstIdeal.StepValue

open Cert.FirstIdeal Cert.FirstIdeal.Gen Cert.FirstIdeal.Region

/-- The product of the state and its weights read at `(b, q)`: the sum over the 128 columns and rows. -/
theorem product_apply (l : FVec Ideal S240x128 .bf16) (r : FVec Ideal S128x384 .bf16) (b : Fin 240) (q : Fin 384) :
    (matmul (F := Ideal) dot_S240x128_S128x384_S240x384_1_0_0_1_n_n none l r (constant S240x384 .f32 0x00000000#32)) (ix2 b q)
      = ∑ k : Fin 128, l (ix2 b k) * r (ix2 k q) := by
  have := Ideal.matmul_plain_apply (M := 240) (K := 128) (N := 384) none l r (constant S240x384 .f32 0x00000000#32) b q
  refine Eq.trans this ?_
  rw [constant_apply]
  simp

/-- The product of the gathered rows and the input's weights read at `(b, q)`: the sum over the 224 columns and rows. -/
theorem productRow_apply (l : FVec Ideal S240x224 .bf16) (r : FVec Ideal S224x384 .bf16) (b : Fin 240) (q : Fin 384) :
    (matmul (F := Ideal) dot_S240x224_S224x384_S240x384_1_0_0_1_n_n none l r (constant S240x384 .f32 0x00000000#32)) (ix2 b q)
      = ∑ k : Fin 224, l (ix2 b k) * r (ix2 k q) := by
  have := Ideal.matmul_plain_apply (M := 240) (K := 224) (N := 384) none l r (constant S240x384 .f32 0x00000000#32) b q
  refine Eq.trans this ?_
  rw [constant_apply]
  simp

/-- A row of the kernel's scales or biases, spread over the rows, read at `(b, q)`. -/
theorem row_apply (v : FVec Ideal S1x384 .f32) (b : Fin 240) (q : Fin 384) :
    broadcastTo S240x384 v broadcasts_S1x384_S240x384 (ix2 b q) = v (ix2 0 q) :=
  broadcastTo_apply v _ _ _ fun a => by
    match a with
    | ⟨0, _⟩ => rfl
    | ⟨1, _⟩ => rfl

/-- A column of one number per row, spread over the columns, read at `(b, q)`. -/
theorem colRow_apply {α : Type} {N : ℕ} (v : S1x240x1.Idx → α) (h : S240x1.Broadcasts ⟨2, ![240, N]⟩) (b : Fin 240) (q : Fin N) :
    broadcastTo ⟨2, ![240, N]⟩ (shapeCast S240x1 v shapeCasts_S1x240x1_S240x1) h (ix2 b q) = v (ix3 0 b 0) := by
  refine (broadcastTo_apply _ _ _ (ix2 b (0 : Fin 1)) fun a => by
    match a with
    | ⟨0, _⟩ => rfl
    | ⟨1, _⟩ => rfl).trans ?_
  refine (shapeCast_dropUnit_apply ![240, 1] v _ _).trans (congrArg v ?_)
  funext a
  match a with
  | ⟨0, _⟩ => rfl
  | ⟨1, _⟩ => rfl
  | ⟨2, _⟩ => rfl

/-- The number a word of four codes gives after its shift. -/
def taken (x s : BitVec 32) : EReal := (((IntOp.shrsi .vector (IntOp.shli .vector x s) 24#32).toInt : ℝ) : EReal)

/-- The input's gates before the activations at `(b, q)`. -/
theorem gi_apply (g : Vec Ideal S240x224 .i32) (x1 : Vec Ideal S1x240x1 .i32) (x2 : Vec Ideal S1x240x1 .f32) (x5 : Vec Ideal S224x384 .bf16)
    (x6 x7 : Vec Ideal S1x384 .f32) (b : Fin 240) (q : Fin 384) :
    k0_pay3 g x1 x5 x2 x6 x7 (ix2 b q)
      = (∑ k : Fin 224, taken (g (ix2 b k)) (x1 (ix3 0 b 0)) * x5 (ix2 k q)) * x2 (ix3 0 b 0) * x6 (ix2 0 q) + x7 (ix2 0 q) := by
  unfold k0_pay3
  rw [addf_apply, mulf_apply, mulf_apply, productRow_apply, row_apply, row_apply, colRow_apply]
  simp only [shapeCast_self]
  congr 3
  refine Finset.sum_congr rfl fun k _ => congrArg (· * _) ?_
  rw [← colRow_apply x1 broadcasts_S240x1_S240x224 b k]
  rfl

/-- The state's gates before the activations at `(b, q)`. -/
def ghK (h : Vec Ideal S240x128 .f32) (x8 : Vec Ideal S128x384 .bf16) (x9 x10 : Vec Ideal S1x384 .f32) : FVec Ideal S240x384 .f32 :=
  addf (mulf (matmul (F := Ideal) dot_S240x128_S128x384_S240x384_1_0_0_1_n_n none (truncf .bf16 h bitsLt_bf16_f32 : FVec Ideal S240x128 .bf16)
      (shapeCast S128x384 x8 shapeCasts_S128x384_S128x384 : FVec Ideal S128x384 .bf16) (constant S240x384 .f32 0x00000000#32))
    (broadcastTo S240x384 (shapeCast S1x384 x9 shapeCasts_S1x384_S1x384) broadcasts_S1x384_S240x384))
    (broadcastTo S240x384 (shapeCast S1x384 x10 shapeCasts_S1x384_S1x384) broadcasts_S1x384_S240x384)

theorem gh_apply (h : Vec Ideal S240x128 .f32) (x8 : Vec Ideal S128x384 .bf16) (x9 x10 : Vec Ideal S1x384 .f32)
    (b : Fin 240) (q : Fin 384) :
    ghK h x8 x9 x10 (ix2 b q) = (∑ k : Fin 128, h (ix2 b k) * x8 (ix2 k q)) * x9 (ix2 0 q) + x10 (ix2 0 q) := by
  unfold ghK
  rw [addf_apply, mulf_apply, product_apply, row_apply, row_apply]
  simp only [shapeCast_self, truncf_apply]

/-- The column of gate `g` and unit `j` in the padded layout: three gates of 128 columns side by side. -/
def col (g : Fin 3) (j : Fin 128) : Fin 384 := ⟨128 * g.val + j.val, by omega⟩

theorem cut0 (v : FVec Ideal S240x384 .f32) (b : Fin 240) (j : Fin 128) :
    extractStridedSlice S240x128 ![0, 0] v slices_S240x384_o0_0_S240x128 (ix2 b j) = v (ix2 b (col 0 j)) :=
  extractStridedSlice_apply _ v _ _ _ fun a => by
    match a with
    | ⟨0, _⟩ => show b.val = 0 + b.val; omega
    | ⟨1, _⟩ => show 128 * 0 + j.val = 0 + j.val; omega
theorem cut1 (v : FVec Ideal S240x384 .f32) (b : Fin 240) (j : Fin 128) :
    extractStridedSlice S240x128 ![0, 128] v slices_S240x384_o0_128_S240x128 (ix2 b j) = v (ix2 b (col 1 j)) :=
  extractStridedSlice_apply _ v _ _ _ fun a => by
    match a with
    | ⟨0, _⟩ => show b.val = 0 + b.val; omega
    | ⟨1, _⟩ => show 128 * 1 + j.val = 128 + j.val; omega
theorem cut2 (v : FVec Ideal S240x384 .f32) (b : Fin 240) (j : Fin 128) :
    extractStridedSlice S240x128 ![0, 256] v slices_S240x384_o0_256_S240x128 (ix2 b j) = v (ix2 b (col 2 j)) :=
  extractStridedSlice_apply _ v _ _ _ fun a => by
    match a with
    | ⟨0, _⟩ => show b.val = 0 + b.val; omega
    | ⟨1, _⟩ => show 128 * 2 + j.val = 256 + j.val; omega

/-- The new state at `(b, j)`. -/
theorem next_apply (g : Vec Ideal S240x224 .i32) (x1 : Vec Ideal S1x240x1 .i32) (x2 x3 : Vec Ideal S1x240x1 .f32) (x4 : Vec Ideal S240x128 .f32)
    (x5 : Vec Ideal S224x384 .bf16) (x6 x7 : Vec Ideal S1x384 .f32) (x8 : Vec Ideal S128x384 .bf16) (x9 x10 : Vec Ideal S1x384 .f32)
    (h : Vec Ideal S240x128 .f32) (b : Fin 240) (j : Fin 128) :
    next0 g x1 x2 x3 x4 x5 x6 x7 x8 x9 x10 h (ix2 b j)
      = Evolve.update (fun p => (∑ k : Fin 224, taken (g (ix2 b k)) (x1 (ix3 0 b 0)) * x5 (ix2 k (col p j))) * x2 (ix3 0 b 0) * x6 (ix2 0 (col p j)) + x7 (ix2 0 (col p j)))
          (fun p => (∑ k : Fin 128, h (ix2 b k) * x8 (ix2 k (col p j))) * x9 (ix2 0 (col p j)) + x10 (ix2 0 (col p j)))
          (x3 (ix3 0 b 0)) (h (ix2 b j)) := by
  have one : broadcast S240x128 (Scalar.ofBits (F := Ideal) .f32 0x3F800000#32) (ix2 b j) = (1 : EReal) := Ideal.ofBits_one_f32
  have e5 : (fun p : Fin 3 => (∑ k : Fin 224, taken (g (ix2 b k)) (x1 (ix3 0 b 0)) * x5 (ix2 k (col p j))) * x2 (ix3 0 b 0) * x6 (ix2 0 (col p j)) + x7 (ix2 0 (col p j)))
      = fun p => k0_pay3 g x1 x5 x2 x6 x7 (ix2 b (col p j)) := funext fun p => (gi_apply g x1 x2 x5 x6 x7 b (col p j)).symm
  have e6 : (fun p : Fin 3 => (∑ k : Fin 128, h (ix2 b k) * x8 (ix2 k (col p j))) * x9 (ix2 0 (col p j)) + x10 (ix2 0 (col p j)))
      = fun p => ghK h x8 x9 x10 (ix2 b (col p j)) := funext fun p => (gh_apply h x8 x9 x10 b (col p j)).symm
  rw [e5, e6]
  unfold Evolve.update
  beta_reduce
  rw [← cut0 (k0_pay3 g x1 x5 x2 x6 x7) b j, ← cut0 (ghK h x8 x9 x10) b j, ← cut1 (k0_pay3 g x1 x5 x2 x6 x7) b j,
    ← cut1 (ghK h x8 x9 x10) b j, ← cut2 (k0_pay3 g x1 x5 x2 x6 x7) b j, ← cut2 (ghK h x8 x9 x10) b j,
    ← colRow_apply x3 broadcasts_S240x1_S240x128 b j, ← one]
  unfold next0 k0_pay4 ghK
  rfl

end Cert.FirstIdeal.StepValue

end
-- ==== Proof.FirstIdeal.Ids.lean ====
/-
  The ids every point reads, in terms of the program's arguments, and that they name rows of the table when the
  precondition holds.
-/
module

public import proofs.«01_k».proof.Proof.FirstIdeal.Region
public import proofs.«01_k».proof.Proof.FirstIdeal.Words
public import proofs.«01_k».proof.Pre_ids_in_table
public import Idealize.ShloMosaic.Lib.KernelVsHost
public import Idealize.ShloMosaic.Lib.Pipeline.Value

@[expose] public section

noncomputable section

open Idealize.ShloMosaic Idealize.ShloMosaic.TcCoe Idealize.ShloMosaic.ValueIdx

namespace Cert.FirstIdeal.Ids

open Cert.FirstIdeal Cert.FirstIdeal.Gen Cert.FirstIdeal.Region

variable {F : FTy → Type} [FloatOps F]
variable (m : (ℓ : Loc nD τ sig) → Buf (Elt F) ℓ) (c : Dev nD)

set_option maxRecDepth 8192 in
theorem V_v29 : V m c main_v29 = shapeCast S512x1x240 (transpose S512x240 [1, 0] (m ((c : Thread nD τ).loc main_arg2)) transposes_S240x512_S512x240_1_0) shapeCasts_S512x240_S512x1x240 := by
  unfold V V0
  simp only [List.flatten_cons, List.flatten_nil, List.append_nil, List.cons_append, List.nil_append]
  after_results
  rfl

theorem coord (t : Fin cfg0.N) : (grid0.coords t 0).val = t.val := by
  have hN : cfg0.N = 512 := N_0
  have := t.isLt
  rw [Pipeline.Grid.coords_val t 0 (S := 1) (B := 512) (by decide +kernel) rfl]
  omega

theorem index0 (t : Fin cfg0.N) : win0_0.index t 0 = t.val := by
  have hN : cfg0.N = 512 := N_0
  have := t.isLt
  show (BitVec.ofNat 32 (grid0.coords t 0).val).toNat = t.val
  rw [coord, BitVec.toNat_ofNat]; omega

/-- The id of row `b` at point `n`. -/
theorem idAt_apply (n : ℕ) (hn : n < cfg0.N) (hn' : n < 512) (b : Fin 240) :
    idAt0 (F := F) (iblk m c 0 ⟨n, hn⟩) b = m ((c : Thread nD τ).loc main_arg2) (ix2 b ⟨n, hn'⟩) := by
  have e : V m c main_v29 (ix3 ⟨n, hn'⟩ (0 : Fin 1) b) = m ((c : Thread nD τ).loc main_arg2) (ix2 b ⟨n, hn'⟩) := by
    rw [V_v29]
    refine (shapeCast_apply _ _ _ (ix2 (⟨n, hn'⟩ : Fin 512) b) (by
      rw [Shape.rowMajor_val_three, Shape.rowMajor_val_two]
      show n * 240 + b.val = (n * 1 + 0) * 240 + b.val; omega)).trans ?_
    exact transpose_apply _ _ _ _ (ix2 b (⟨n, hn'⟩ : Fin 512)) fun a => by
      match a with
      | ⟨0, _⟩ => rfl
      | ⟨1, _⟩ => rfl
  rw [← e]
  unfold idAt0 iblk
  rw [View.read_apply]
  show V m c main_v29 _ = V m c main_v29 _
  congr 1
  funext a
  apply Fin.ext
  match a with
  | ⟨0, _⟩ => show win0_0.index ⟨n, hn⟩ 0 * 1 + 1 * 0 = n; rw [show win0_0.index ⟨n, hn⟩ 0 = n from index0 _]; omega
  | ⟨1, _⟩ => show win0_0.index ⟨n, hn⟩ 1 * 1 + 1 * 0 = 0; rw [show win0_0.index ⟨n, hn⟩ 1 = 0 from rfl]
  | ⟨2, _⟩ => show win0_0.index ⟨n, hn⟩ 2 * 240 + 1 * b.val = b.val; rw [show win0_0.index ⟨n, hn⟩ 2 = 0 from rfl]; omega

/-- The shape fact the precondition's function takes. -/
theorem preFacts : Cert.Pre_ids_in_table.Facts := ⟨by decide⟩

/-- The ids lie in the table. -/
def InTable (ids : Vec F S240x512 .i32) : Prop := ∀ (b : Fin 240) (n : Fin 512), BitVec.toNat (ids (ix2 b n)) < 1300000

/-- The precondition says so of the ids. -/
theorem inTable_of_fn [Cert.Pre_ids_in_table.Facts] (x0 : Vec F S1300000x224 .i8) (x1 : Vec F S1300000 .f32) (ids : Vec F S240x512 .i32)
    (x3 : Vec F S240 .i32) (x4 : Vec F S240x128 .f32) (x5 : Vec F S224x3x96 .bf16) (x6 : Vec F S3x96 .f32) (x7 : Vec F S96x3x96 .bf16)
    (x8 x9 x10 : Vec F S3x96 .f32)
    (h : Cert.Pre_ids_in_table.fn (F := F) x0 x1 ids x3 x4 x5 x6 x7 x8 x9 x10 = fun _ => 1#1) : InTable ids := by
  intro b n
  have e := congrFun h (ix2 b n)
  have e' : IntOp.andi (IntOp.cmpi .sge (ids (ix2 b n)) 0#32) (IntOp.cmpi .slt (ids (ix2 b n)) 1300000#32) = 1#1 := e
  obtain ⟨h0, h1⟩ := IntOp.andi_eq_one.mp e'
  exact Words.toNat_lt _ h0 h1

/-- Ids of the table name rows of it at every point. -/
theorem inRange (h : InTable (F := F) (m ((c : Thread nD τ).loc main_arg2))) : InRange m c := by
  intro t b
  have hN : cfg0.N = 512 := N_0
  have := t.isLt
  show k0_chk1 (idAt0 (F := F) (iblk m c 0 ⟨t.val, t.isLt⟩) b)
  rw [idAt_apply m c t.val t.isLt (by omega) b]
  exact Words.chk_of _ (h b _)

end Cert.FirstIdeal.Ids

end
-- ==== Proof.FirstIdeal.Inputs.lean ====
/-
  What the windows of the first GRU's kernel hold, over the extended reals, in terms of the program's arguments: the row
  scales, shifts and masks of each point, and the weights, scales and biases with every gate padded from 96 to 128 columns
  (and the state's weights' rows from 96 to 128 by zeros).
-/
module

public import proofs.«01_k».proof.Proof.FirstIdeal.StepValue
public import proofs.«01_k».proof.Proof.FirstIdeal.Ids

@[expose] public section

noncomputable section

open Idealize.ShloMosaic Idealize.ShloMosaic.TcCoe Idealize.ShloMosaic.ValueIdx
open scoped BigOperators

namespace Cert.FirstIdeal.Inputs

open Cert.FirstIdeal Cert.FirstIdeal.Gen Cert.FirstIdeal.StepValue Cert.FirstIdeal.Ids

/-- The state's weights in the padded layout. -/
def padW (w : FVec Ideal S96x3x96 .bf16) : FVec Ideal S128x384 .bf16 :=
  pad S128x384 ![0, 0] ![32, 0] ![0, 0]
    (shapeCast S96x384 (pad S96x3x128 ![0, 0, 0] ![0, 0, 32] ![0, 0, 0] w (sitofp (F := Ideal) .bf16 (constantI S_ 32 0#32))
      pads_S96x3x96_S96x3x128_000_000_0320 h_S_) shapeCasts_S96x3x128_S96x384)
    (sitofp (F := Ideal) .bf16 (constantI S_ 32 0#32)) pads_S96x384_S128x384_0320_000 h_S_

/-- The input's weights in the padded layout. -/
def padI (w : FVec Ideal S224x3x96 .bf16) : FVec Ideal S224x384 .bf16 :=
  shapeCast S224x384 (pad S224x3x128 ![0, 0, 0] ![0, 0, 32] ![0, 0, 0] w (sitofp (F := Ideal) .bf16 (constantI S_ 32 0#32))
      pads_S224x3x96_S224x3x128_000_000_0320 h_S_) shapeCasts_S224x3x128_S224x384

/-- Scales or biases in the padded layout. -/
def padV (v : FVec Ideal S3x96 .f32) : FVec Ideal S1x384 .f32 :=
  shapeCast S1x384 (pad S3x128 ![0, 0] ![0, 32] ![0, 0] v (sitofp (F := Ideal) .f32 (constantI S_ 32 0#32))
    pads_S3x96_S3x128_000_0320 h_S_) shapeCasts_S3x128_S1x384

/-- The padding value is zero. -/
theorem pad16 : sitofp (F := Ideal) .bf16 (constantI S_ 32 0#32) (Shape.Idx.first h_S_) = (0 : EReal) := by
  rw [sitofp_apply]
  show ((((0#32 : BitVec 32).toInt : ℝ)) : EReal) = 0
  simp

/-- The padded weights' element at a row below 96: gate `g`, unit `j`. -/
theorem padW_in (w : FVec Ideal S96x3x96 .bf16) (k : Fin 96) (g : Fin 3) (j : Fin 96) :
    padW w (ix2 (⟨k.val, by omega⟩ : Fin 128) (col g ⟨j.val, by omega⟩)) = w (ix3 k g j) := by
  unfold padW
  refine (pad_apply_of_inside _ _ _ _ _ _ _ _ (ix2 k (col g ⟨j.val, by omega⟩)) fun a => by
    match a with
    | ⟨0, _⟩ => show k.val = 0 + k.val * (0 + 1); omega
    | ⟨1, _⟩ => show 128 * g.val + j.val = 0 + (128 * g.val + j.val) * (0 + 1); omega).trans ?_
  refine (shapeCast_apply _ _ _ (ix3 k g (⟨j.val, by omega⟩ : Fin 128)) (by
    rw [Shape.rowMajor_val_three, Shape.rowMajor_val_two]
    show (k.val * 3 + g.val) * 128 + j.val = k.val * 384 + (128 * g.val + j.val); omega)).trans ?_
  exact pad_apply_of_inside _ _ _ _ _ _ _ _ (ix3 k g j) fun a => by
    match a with
    | ⟨0, _⟩ => show k.val = 0 + k.val * (0 + 1); omega
    | ⟨1, _⟩ => show g.val = 0 + g.val * (0 + 1); omega
    | ⟨2, _⟩ => show j.val = 0 + j.val * (0 + 1); omega

/-- The padded weights' rows from 96 on are zero. -/
theorem padW_out (w : FVec Ideal S96x3x96 .bf16) (k : Fin 128) (hk : 96 ≤ k.val) (q : Fin 384) : padW w (ix2 k q) = (0 : EReal) := by
  unfold padW
  refine (pad_apply_of_not_inside _ _ _ _ _ _ _ _ (0 : Fin 2) ?_).trans pad16
  rintro ⟨-, -, h3⟩
  have : (k.val - 0) / (0 + 1) < 96 := h3
  omega

/-- The padded scales' or biases' element: gate `g`, unit `j`. -/
theorem padV_in (v : FVec Ideal S3x96 .f32) (g : Fin 3) (j : Fin 96) : padV v (ix2 0 (col g ⟨j.val, by omega⟩)) = v (ix2 g j) := by
  unfold padV
  refine (shapeCast_apply _ _ _ (ix2 g (⟨j.val, by omega⟩ : Fin 128)) (by
    rw [Shape.rowMajor_val_two, Shape.rowMajor_val_two]
    show g.val * 128 + j.val = 0 * 384 + (128 * g.val + j.val); omega)).trans ?_
  exact pad_apply_of_inside _ _ _ _ _ _ _ _ (ix2 g j) fun a => by
    match a with
    | ⟨0, _⟩ => show g.val = 0 + g.val * (0 + 1); omega
    | ⟨1, _⟩ => show j.val = 0 + j.val * (0 + 1); omega

/-- The padded input's weights' element: gate `g`, unit `j`. -/
theorem padI_in (w : FVec Ideal S224x3x96 .bf16) (k : Fin 224) (g : Fin 3) (j : Fin 96) :
    padI w (ix2 k (col g ⟨j.val, by omega⟩)) = w (ix3 k g j) := by
  unfold padI
  refine (shapeCast_apply _ _ _ (ix3 k g (⟨j.val, by omega⟩ : Fin 128)) (by
    rw [Shape.rowMajor_val_three, Shape.rowMajor_val_two]
    show (k.val * 3 + g.val) * 128 + j.val = k.val * 384 + (128 * g.val + j.val); omega)).trans ?_
  exact pad_apply_of_inside _ _ _ _ _ _ _ _ (ix3 k g j) fun a => by
    match a with
    | ⟨0, _⟩ => show k.val = 0 + k.val * (0 + 1); omega
    | ⟨1, _⟩ => show g.val = 0 + g.val * (0 + 1); omega
    | ⟨2, _⟩ => show j.val = 0 + j.val * (0 + 1); omega

/-- The ids, step first. -/
def idsK (x2 : IVec S240x512 32) : IVec S512x240 32 := transpose S512x240 [1, 0] x2 transposes_S240x512_S512x240_1_0

theorem idsK_apply (x2 : IVec S240x512 32) (n : Fin 512) (b : Fin 240) : idsK x2 (ix2 n b) = x2 (ix2 b n) :=
  transpose_apply _ _ _ _ (ix2 b n) fun a => by
    match a with
    | ⟨0, _⟩ => rfl
    | ⟨1, _⟩ => rfl

/-- A number spread over the steps and rows. -/
def allK (w : BitVec 32) : IVec S512x240 32 := broadcastInDim S512x240 ![] bcast_S_S512x240 (constantI S_ 32 w)

/-- The scales of the rows the ids name. -/
def scalesK (x1 : FVec Ideal S1300000 .f32) (x2 : IVec S240x512 32) : FVec Ideal S512x240 .f32 :=
  Host.gather gather_S1300000_S512x240x1_S512x240_n_0_n_n_0_2_1 x1 (broadcastInDim S512x240x1 ![0, 1] bcast_S512x240_S512x240x1_0_1
    (select (cmpi .slt (idsK x2) (allK 0#32)) (addi (idsK x2) (allK 1300000#32)) (idsK x2)))

/-- The divisor of the ids' remainder. -/
def fourK : IVec S_ 32 := select (cmpi .eq (constantI S_ 32 4#32) (constantI S_ 32 0#32)) (constantI S_ 32 1#32) (constantI S_ 32 4#32)

/-- The ids' remainders before the correction of negative ones. -/
def remK (x2 : IVec S240x512 32) : IVec S512x240 32 := Host.remsi (idsK x2) (broadcastInDim S512x240 ![] bcast_S_S512x240 fourK)

/-- The ids' places in their groups of four. -/
def placesK (x2 : IVec S240x512 32) : IVec S512x240 32 :=
  select (andi (cmpi .ne (cmpi .slt (remK x2) (allK 0#32)) (broadcastInDim S512x240 ![] bcast_S_S512x240 (cmpi .slt fourK (constantI S_ 32 0#32))))
      (cmpi .ne (remK x2) (allK 0#32)))
    (addi (remK x2) (broadcastInDim S512x240 ![] bcast_S_S512x240 fourK)) (remK x2)

/-- The shifts that bring the ids' bytes to the top. -/
def shiftsK (x2 : IVec S240x512 32) : IVec S512x240 32 := subi (allK 24#32) (muli (allK 8#32) (placesK x2))

/-- The masks. -/
def masksK (x3 : IVec S240 32) : FVec Ideal S512x240 .f32 :=
  uitofp .f32 (cmpi .sge
    (broadcastInDim S512x240 ![0, 1] bcast_S512x1_S512x240_0_1 (broadcastInDim S512x1 ![0] bcast_S512_S512x1_0 (iotaInDim S512 32 0)))
    (broadcastInDim S512x240 ![0, 1] bcast_S1x240_S512x240_0_1 (broadcastInDim S1x240 ![1] bcast_S240_S1x240_1
      (subi (broadcastInDim S240 ![] bcast_S_S240 (constantI S_ 32 512#32)) x3))))

/-- The table, four rows of codes to one row of words. -/
def wordsK (x0 : IVec S1300000x224 8) : IVec S325000x224 32 :=
  Host.bitcastConvertWiden S325000x224 32
    (transpose S325000x224x4 [0, 2, 1] (shapeCast S325000x4x224 x0 shapeCasts_S1300000x224_S325000x4x224) transposes_S325000x4x224_S325000x224x4_0_2_1)
    splits_S325000x224_w32_S325000x224x4_w8

section arrays
variable (m : (ℓ : Loc nD τ sig) → Buf (Elt Ideal) ℓ) (c : Dev nD)

set_option maxRecDepth 8192 in
theorem V_v8 : V m c main_v8 = shapeCast S512x240x1 (scalesK (m ((c : Thread nD τ).loc main_arg1)) (m ((c : Thread nD τ).loc main_arg2))) shapeCasts_S512x240_S512x240x1 := by
  unfold V V0
  simp only [List.flatten_cons, List.flatten_nil, List.append_nil, List.cons_append, List.nil_append]
  after_results
  rfl
set_option maxRecDepth 8192 in
theorem V_v14 : V m c main_v14 = shapeCast S512x240x1 (shiftsK (m ((c : Thread nD τ).loc main_arg2))) shapeCasts_S512x240_S512x240x1 := by
  unfold V V0
  simp only [List.flatten_cons, List.flatten_nil, List.append_nil, List.cons_append, List.nil_append]
  after_results
  rfl
set_option maxRecDepth 8192 in
theorem V_v30 : V m c main_v30 = shapeCast S512x240x1 (masksK (m ((c : Thread nD τ).loc main_arg3))) shapeCasts_S512x240_S512x240x1 := by
  unfold V V0
  simp only [List.flatten_cons, List.flatten_nil, List.append_nil, List.cons_append, List.nil_append]
  after_results
  rfl
set_option maxRecDepth 8192 in
theorem V_v28 : V m c main_v28 = wordsK (m ((c : Thread nD τ).loc main_arg0)) := by
  unfold V V0
  simp only [List.flatten_cons, List.flatten_nil, List.append_nil, List.cons_append, List.nil_append]
  after_results
  rfl
set_option maxRecDepth 8192 in
theorem V_v25 : V m c main_v25 = padI (m ((c : Thread nD τ).loc main_arg5)) := by
  unfold V V0
  simp only [List.flatten_cons, List.flatten_nil, List.append_nil, List.cons_append, List.nil_append]
  after_results
  rfl
set_option maxRecDepth 8192 in
theorem V_v32 : V m c main_v32 = padV (m ((c : Thread nD τ).loc main_arg6)) := by
  unfold V V0
  simp only [List.flatten_cons, List.flatten_nil, List.append_nil, List.cons_append, List.nil_append]
  after_results
  rfl
set_option maxRecDepth 8192 in
theorem V_v34 : V m c main_v34 = padV (m ((c : Thread nD τ).loc main_arg9)) := by
  unfold V V0
  simp only [List.flatten_cons, List.flatten_nil, List.append_nil, List.cons_append, List.nil_append]
  after_results
  rfl
set_option maxRecDepth 8192 in
theorem V_v39 : V m c main_v39 = padV (m ((c : Thread nD τ).loc main_arg8)) := by
  unfold V V0
  simp only [List.flatten_cons, List.flatten_nil, List.append_nil, List.cons_append, List.nil_append]
  after_results
  rfl
set_option maxRecDepth 8192 in
theorem V_v41 : V m c main_v41 = padV (m ((c : Thread nD τ).loc main_arg10)) := by
  unfold V V0
  simp only [List.flatten_cons, List.flatten_nil, List.append_nil, List.cons_append, List.nil_append]
  after_results
  rfl
set_option maxRecDepth 8192 in
theorem V_v37 : V m c main_v37 = padW (m ((c : Thread nD τ).loc main_arg7)) := by
  unfold V V0
  simp only [List.flatten_cons, List.flatten_nil, List.append_nil, List.cons_append, List.nil_append]
  after_results
  rfl

theorem iblk5 (t : Fin cfg0.N) : (iblk m c 5 t : Vec Ideal S224x384 .bf16) = padI (m ((c : Thread nD τ).loc main_arg5)) := by
  rw [← V_v25]
  unfold iblk
  have hz' : (fun a => win0_5.index t a * main_v25.ty.shape.size a) = fun _ => 0 := funext fun a => by
    match a with
    | ⟨0, _⟩ => rfl
    | ⟨1, _⟩ => rfl
  exact Memref.read_access_unit_zero (Elt Ideal) main_v25 hz' (fun a => by rw [congrFun hz' a]; simp) (V m c main_v25)
theorem iblk6 (t : Fin cfg0.N) : (iblk m c 6 t : Vec Ideal S1x384 .f32) = padV (m ((c : Thread nD τ).loc main_arg6)) := by
  rw [← V_v32]
  unfold iblk
  have hz' : (fun a => win0_6.index t a * main_v32.ty.shape.size a) = fun _ => 0 := funext fun a => by
    match a with
    | ⟨0, _⟩ => rfl
    | ⟨1, _⟩ => rfl
  exact Memref.read_access_unit_zero (Elt Ideal) main_v32 hz' (fun a => by rw [congrFun hz' a]; simp) (V m c main_v32)
theorem iblk7 (t : Fin cfg0.N) : (iblk m c 7 t : Vec Ideal S1x384 .f32) = padV (m ((c : Thread nD τ).loc main_arg9)) := by
  rw [← V_v34]
  unfold iblk
  have hz' : (fun a => win0_7.index t a * main_v34.ty.shape.size a) = fun _ => 0 := funext fun a => by
    match a with
    | ⟨0, _⟩ => rfl
    | ⟨1, _⟩ => rfl
  exact Memref.read_access_unit_zero (Elt Ideal) main_v34 hz' (fun a => by rw [congrFun hz' a]; simp) (V m c main_v34)
theorem iblk8 (t : Fin cfg0.N) : (iblk m c 8 t : Vec Ideal S128x384 .bf16) = padW (m ((c : Thread nD τ).loc main_arg7)) := by
  rw [← V_v37]
  unfold iblk
  have hz' : (fun a => win0_8.index t a * main_v37.ty.shape.size a) = fun _ => 0 := funext fun a => by
    match a with
    | ⟨0, _⟩ => rfl
    | ⟨1, _⟩ => rfl
  exact Memref.read_access_unit_zero (Elt Ideal) main_v37 hz' (fun a => by rw [congrFun hz' a]; simp) (V m c main_v37)
theorem iblk9 (t : Fin cfg0.N) : (iblk m c 9 t : Vec Ideal S1x384 .f32) = padV (m ((c : Thread nD τ).loc main_arg8)) := by
  rw [← V_v39]
  unfold iblk
  have hz' : (fun a => win0_9.index t a * main_v39.ty.shape.size a) = fun _ => 0 := funext fun a => by
    match a with
    | ⟨0, _⟩ => rfl
    | ⟨1, _⟩ => rfl
  exact Memref.read_access_unit_zero (Elt Ideal) main_v39 hz' (fun a => by rw [congrFun hz' a]; simp) (V m c main_v39)
theorem iblk10 (t : Fin cfg0.N) : (iblk m c 10 t : Vec Ideal S1x384 .f32) = padV (m ((c : Thread nD τ).loc main_arg10)) := by
  rw [← V_v41]
  unfold iblk
  have hz' : (fun a => win0_10.index t a * main_v41.ty.shape.size a) = fun _ => 0 := funext fun a => by
    match a with
    | ⟨0, _⟩ => rfl
    | ⟨1, _⟩ => rfl
  exact Memref.read_access_unit_zero (Elt Ideal) main_v41 hz' (fun a => by rw [congrFun hz' a]; simp) (V m c main_v41)

theorem index1 (t : Fin cfg0.N) : win0_1.index t 0 = t.val := by
  have hN : cfg0.N = 512 := N_0
  have := t.isLt
  show (BitVec.ofNat 32 (grid0.coords t 0).val).toNat = t.val
  rw [coord, BitVec.toNat_ofNat]; omega

/-- The point's shifts. -/
theorem iblk1_apply (n : ℕ) (hn : n < cfg0.N) (hn' : n < 512) (b : Fin 240) :
    (iblk m c 1 ⟨n, hn⟩ : Vec Ideal S1x240x1 .i32) (ix3 0 b 0) = shiftsK (m ((c : Thread nD τ).loc main_arg2)) (ix2 ⟨n, hn'⟩ b) := by
  have e : V m c main_v14 (ix3 ⟨n, hn'⟩ b (0 : Fin 1)) = shiftsK (m ((c : Thread nD τ).loc main_arg2)) (ix2 ⟨n, hn'⟩ b) := by
    rw [V_v14]
    exact shapeCast_apply _ _ _ (ix2 (⟨n, hn'⟩ : Fin 512) b) (by
      rw [Shape.rowMajor_val_three, Shape.rowMajor_val_two]
      show n * 240 + b.val = (n * 240 + b.val) * 1 + 0; omega)
  rw [← e]
  unfold iblk
  rw [View.read_apply]
  show V m c main_v14 _ = V m c main_v14 _
  congr 1
  funext a
  apply Fin.ext
  match a with
  | ⟨0, _⟩ => show win0_1.index ⟨n, hn⟩ 0 * 1 + 1 * 0 = n; rw [show win0_1.index ⟨n, hn⟩ 0 = n from index1 _]; omega
  | ⟨1, _⟩ => show win0_1.index ⟨n, hn⟩ 1 * 240 + 1 * b.val = b.val; rw [show win0_1.index ⟨n, hn⟩ 1 = 0 from rfl]; omega
  | ⟨2, _⟩ => show win0_1.index ⟨n, hn⟩ 2 * 1 + 1 * 0 = 0; rw [show win0_1.index ⟨n, hn⟩ 2 = 0 from rfl]

theorem index2 (t : Fin cfg0.N) : win0_2.index t 0 = t.val := by
  have hN : cfg0.N = 512 := N_0
  have := t.isLt
  show (BitVec.ofNat 32 (grid0.coords t 0).val).toNat = t.val
  rw [coord, BitVec.toNat_ofNat]; omega

/-- The point's row scales. -/
theorem iblk2_apply (n : ℕ) (hn : n < cfg0.N) (hn' : n < 512) (b : Fin 240) :
    (iblk m c 2 ⟨n, hn⟩ : Vec Ideal S1x240x1 .f32) (ix3 0 b 0) = scalesK (m ((c : Thread nD τ).loc main_arg1)) (m ((c : Thread nD τ).loc main_arg2)) (ix2 ⟨n, hn'⟩ b) := by
  have e : V m c main_v8 (ix3 ⟨n, hn'⟩ b (0 : Fin 1)) = scalesK (m ((c : Thread nD τ).loc main_arg1)) (m ((c : Thread nD τ).loc main_arg2)) (ix2 ⟨n, hn'⟩ b) := by
    rw [V_v8]
    exact shapeCast_apply _ _ _ (ix2 (⟨n, hn'⟩ : Fin 512) b) (by
      rw [Shape.rowMajor_val_three, Shape.rowMajor_val_two]
      show n * 240 + b.val = (n * 240 + b.val) * 1 + 0; omega)
  rw [← e]
  unfold iblk
  rw [View.read_apply]
  show V m c main_v8 _ = V m c main_v8 _
  congr 1
  funext a
  apply Fin.ext
  match a with
  | ⟨0, _⟩ => show win0_2.index ⟨n, hn⟩ 0 * 1 + 1 * 0 = n; rw [show win0_2.index ⟨n, hn⟩ 0 = n from index2 _]; omega
  | ⟨1, _⟩ => show win0_2.index ⟨n, hn⟩ 1 * 240 + 1 * b.val = b.val; rw [show win0_2.index ⟨n, hn⟩ 1 = 0 from rfl]; omega
  | ⟨2, _⟩ => show win0_2.index ⟨n, hn⟩ 2 * 1 + 1 * 0 = 0; rw [show win0_2.index ⟨n, hn⟩ 2 = 0 from rfl]

theorem index3 (t : Fin cfg0.N) : win0_3.index t 0 = t.val := by
  have hN : cfg0.N = 512 := N_0
  have := t.isLt
  show (BitVec.ofNat 32 (grid0.coords t 0).val).toNat = t.val
  rw [coord, BitVec.toNat_ofNat]; omega

/-- The point's masks. -/
theorem iblk3_apply (n : ℕ) (hn : n < cfg0.N) (hn' : n < 512) (b : Fin 240) :
    (iblk m c 3 ⟨n, hn⟩ : Vec Ideal S1x240x1 .f32) (ix3 0 b 0) = masksK (m ((c : Thread nD τ).loc main_arg3)) (ix2 ⟨n, hn'⟩ b) := by
  have e : V m c main_v30 (ix3 ⟨n, hn'⟩ b (0 : Fin 1)) = masksK (m ((c : Thread nD τ).loc main_arg3)) (ix2 ⟨n, hn'⟩ b) := by
    rw [V_v30]
    exact shapeCast_apply _ _ _ (ix2 (⟨n, hn'⟩ : Fin 512) b) (by
      rw [Shape.rowMajor_val_three, Shape.rowMajor_val_two]
      show n * 240 + b.val = (n * 240 + b.val) * 1 + 0; omega)
  rw [← e]
  unfold iblk
  rw [View.read_apply]
  show V m c main_v30 _ = V m c main_v30 _
  congr 1
  funext a
  apply Fin.ext
  match a with
  | ⟨0, _⟩ => show win0_3.index ⟨n, hn⟩ 0 * 1 + 1 * 0 = n; rw [show win0_3.index ⟨n, hn⟩ 0 = n from index3 _]; omega
  | ⟨1, _⟩ => show win0_3.index ⟨n, hn⟩ 1 * 240 + 1 * b.val = b.val; rw [show win0_3.index ⟨n, hn⟩ 1 = 0 from rfl]; omega
  | ⟨2, _⟩ => show win0_3.index ⟨n, hn⟩ 2 * 1 + 1 * 0 = 0; rw [show win0_3.index ⟨n, hn⟩ 2 = 0 from rfl]
end arrays

end Cert.FirstIdeal.Inputs

end
-- ==== Proof.FirstRefValue.lean ====
/-
  The first GRU's reference at an index, over the extended reals: its state after `n` steps is `Evolve.masked` of the arguments.
-/
module

public import proofs.«01_k».proof.Proof.Gen.FirstReferenceIdeal.StepRun
public import proofs.«01_k».proof.Proof.FirstMath
public import Idealize.ShloMosaic.Lib.WordCmp
public import Idealize.ShloMosaic.Lib.Affine
public import Idealize.ShloMosaic.Lib.Pipeline.Value

@[expose] public section

noncomputable section

open Idealize.ShloMosaic Idealize.ShloMosaic.TcCoe Idealize.ShloMosaic.ValueIdx
open scoped BigOperators

namespace Cert.FirstReferenceIdeal.RefValue

open Cert.FirstReferenceIdeal Cert.FirstReferenceIdeal.Gen Cert.FirstReferenceIdeal.Step

/-- The product of the state and its weights at gate `g`, unit `j`, row `b`. -/
theorem dotH_apply (w : FVec Ideal S96x3x96 .bf16) (h : FVec Ideal S240x96 .bf16) (g : Fin 3) (j : Fin 96) (b : Fin 240) :
    Host.dotGeneral (F := Ideal) dot_S96x3x96_S240x96_S3x96x240_0_1_12_0_n_n none w h (ix3 g j b)
      = ∑ k : Fin 96, w (ix3 k g j) * h (ix2 b k) := by
  let D := dot_S96x3x96_S240x96_S3x96x240_0_1_12_0_n_n
  let e := contrEquiv1 D 96 rfl rfl
  refine (Ideal.dotGeneral_apply D none _ w h _).trans ?_
  rw [← Equiv.sum_comp e.symm]
  refine Finset.sum_congr rfl fun k _ => ?_
  have hk := contrEquiv1_symm_val D 96 rfl rfl k
  have el : D.lhsIdx (ix3 g j b) (e.symm k) = ix3 k g j := by
    funext a; apply Fin.ext
    match a with
    | ⟨0, _⟩ => exact hk
    | ⟨1, _⟩ => rfl
    | ⟨2, _⟩ => rfl
  have er : D.rhsIdx (ix3 g j b) (e.symm k) = ix2 b k := by
    funext a; apply Fin.ext
    match a with
    | ⟨0, _⟩ => rfl
    | ⟨1, _⟩ => exact hk
  rw [el, er]

/-- The product of the gathered rows and the input's weights at gate `g`, unit `j`, row `b`, step `s`. -/
theorem dotI_apply (w : FVec Ideal S224x3x96 .bf16) (x : FVec Ideal S240x512x224 .bf16) (g : Fin 3) (j : Fin 96) (b : Fin 240) (s : Fin 512) :
    Host.dotGeneral (F := Ideal) dot_S224x3x96_S240x512x224_S3x96x240x512_0_2_12_01_n_n none w x (ix4 g j b s)
      = ∑ k : Fin 224, w (ix3 k g j) * x (ix3 b s k) := by
  let D := dot_S224x3x96_S240x512x224_S3x96x240x512_0_2_12_01_n_n
  let e := contrEquiv1 D 224 rfl rfl
  refine (Ideal.dotGeneral_apply D none _ w x _).trans ?_
  rw [← Equiv.sum_comp e.symm]
  refine Finset.sum_congr rfl fun k _ => ?_
  have hk := contrEquiv1_symm_val D 224 rfl rfl k
  have el : D.lhsIdx (ix4 g j b s) (e.symm k) = ix3 k g j := by
    funext a; apply Fin.ext
    match a with
    | ⟨0, _⟩ => exact hk
    | ⟨1, _⟩ => rfl
    | ⟨2, _⟩ => rfl
  have er : D.rhsIdx (ix4 g j b s) (e.symm k) = ix3 b s k := by
    funext a; apply Fin.ext
    match a with
    | ⟨0, _⟩ => rfl
    | ⟨1, _⟩ => rfl
    | ⟨2, _⟩ => exact hk
  rw [el, er]

/-- A row of scales or biases, spread over the rows, at `(g, b, j)`. -/
theorem spread3 (v : FVec Ideal S3x96 .f32) (g : Fin 3) (b : Fin 240) (j : Fin 96) :
    broadcastInDim S3x240x96 ![0, 1, 2] bcast_S3x1x96_S3x240x96_0_1_2 (broadcastInDim S3x1x96 ![0, 2] bcast_S3x96_S3x1x96_0_2 v) (ix3 g b j)
      = v (ix2 g j) := by
  refine (broadcastInDim_apply _ _ _ _ (ix3 g (0 : Fin 1) j) fun a => by
    match a with
    | ⟨0, _⟩ => rfl
    | ⟨1, _⟩ => rfl
    | ⟨2, _⟩ => rfl).trans ?_
  exact broadcastInDim_apply _ _ _ _ (ix2 g j) fun a => by
    match a with
    | ⟨0, _⟩ => rfl
    | ⟨1, _⟩ => rfl

/-- The same at `(s, g, b, j)`. -/
theorem spread4 (v : FVec Ideal S3x96 .f32) (s : Fin 512) (g : Fin 3) (b : Fin 240) (j : Fin 96) :
    broadcastInDim S512x3x240x96 ![0, 1, 2, 3] bcast_S1x3x1x96_S512x3x240x96_0_1_2_3 (broadcastInDim S1x3x1x96 ![1, 3] bcast_S3x96_S1x3x1x96_1_3 v) (ix4 s g b j)
      = v (ix2 g j) := by
  refine (broadcastInDim_apply _ _ _ _ (ix4 (0 : Fin 1) g (0 : Fin 1) j) fun a => by
    match a with
    | ⟨0, _⟩ => rfl
    | ⟨1, _⟩ => rfl
    | ⟨2, _⟩ => rfl
    | ⟨3, _⟩ => rfl).trans ?_
  exact broadcastInDim_apply _ _ _ _ (ix2 g j) fun a => by
    match a with
    | ⟨0, _⟩ => rfl
    | ⟨1, _⟩ => rfl

/-- The ids' shape with one more axis of one. -/
theorem spreadIds (v : IVec S240x512 32) (b : Fin 240) (s : Fin 512) :
    broadcastInDim S240x512x1 ![0, 1] bcast_S240x512_S240x512x1_0_1 v (ix3 b s 0) = v (ix2 b s) :=
  broadcastInDim_apply _ _ _ _ (ix2 b s) fun a => by
    match a with
    | ⟨0, _⟩ => rfl
    | ⟨1, _⟩ => rfl

/-- A gather of whole rows of the table, at `(b, s, k)`: the row its start index names, clamped into the table. -/
theorem gatherRows_apply (x : IVec S1300000x224 8) (idx : IVec S240x512x1 32) (b : Fin 240) (s : Fin 512) (k : Fin 224) :
    Host.gather gather_S1300000x224_S240x512x1_S240x512x224_2_0_n_n_0_2_1224 x idx (ix3 b s k)
      = x (ix2 ⟨min (idx (ix3 b s 0)).toInt.toNat 1299999, by omega⟩ k) := by
  let D := gather_S1300000x224_S240x512x1_S240x512x224_2_0_n_n_0_2_1224
  unfold Host.gather
  congr 1
  funext a
  refine Fin.ext ?_
  show D.start (ix3 b s k) idx a + D.batchCoord (ix3 b s k) a + D.offCoord (ix3 b s k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ D.startIndexMap from List.mem_singleton.mpr rfl)]
    have hsi : D.siIdx (ix3 b s k) ⟨List.idxOf (⟨0, by decide⟩ : Fin 2) D.startIndexMap,
        List.idxOf_lt_length_iff.2 (List.mem_singleton.mpr rfl)⟩ = ix3 b s 0 := by
      funext q; refine Fin.ext ?_
      match q with
      | ⟨0, _⟩ => rfl
      | ⟨1, _⟩ => rfl
      | ⟨2, _⟩ => rfl
    rw [hsi]
    rfl
  | ⟨1, _⟩ =>
    have h1 : D.start (ix3 b s k) idx (⟨1, by decide⟩ : Fin 2) = 0 := by
      unfold GatherDims.start
      rw [dif_neg (show ¬ (⟨1, by decide⟩ : Fin 2) ∈ D.startIndexMap from by decide)]
    rw [h1]
    show 0 + 0 + D.offCoord (ix3 b s k) (⟨1, by decide⟩ : Fin 2) = k.val
    have h2 : D.offCoord (ix3 b s k) (⟨1, by decide⟩ : Fin 2) = k.val := rfl
    rw [h2]; omega

/-- An id of the table, after the wrap of negative ones, is itself. -/
theorem wrap_eq (w : BitVec 32) (hw : w.toNat < 1300000) :
    (if IntOp.cmpi .slt w 0#32 = 1 then IntOp.addi w 1300000#32 else w) = w := by
  rw [if_neg]
  intro h
  have := IntOp.cmpi_slt.mp h
  rw [BitVec.toInt_eq_toNat_of_lt (by omega)] at this
  have h' : ((w.toNat : ℕ) : Int) < 0 := this
  omega

/-- The row a start index of the table names. -/
theorem row_eq (w : BitVec 32) (hw : w.toNat < 1300000) : (⟨min w.toInt.toNat 1299999, by omega⟩ : Fin 1300000) = Evolve.row w := by
  unfold Evolve.row
  apply Fin.ext
  show min w.toInt.toNat 1299999 = min w.toNat 1299999
  rw [BitVec.toInt_eq_toNat_of_lt (by omega)]
  rfl

section gates
variable (x0 : IVec S1300000x224 8) (x1 : FVec Ideal S1300000 .f32) (x2 : IVec S240x512 32) (x3 : IVec S240 32)
  (x5 : FVec Ideal S224x3x96 .bf16) (x6 x9 : FVec Ideal S3x96 .f32)

/-- The ids lie in the table. -/
def InTable : Prop := ∀ (b : Fin 240) (n : Fin 512), BitVec.toNat (x2 (ix2 b n)) < 1300000

/-- The gathered codes, as numbers. -/
theorem codes_apply (hx : InTable x2) (b : Fin 240) (s : Fin 512) (k : Fin 224) :
    A_main_v16 (F := Ideal) x0 x1 x2 x3 x5 x6 x9 (ix3 b s k) = Evolve.code (x0 (ix2 (Evolve.row (x2 (ix2 b s))) k)) := by
  unfold A_main_v16 A_main_v15 A_main_v14
  have e : A_main_v6 (F := Ideal) x0 x1 x2 x3 x5 x6 x9 (ix3 b s k) = x0 (ix2 (Evolve.row (x2 (ix2 b s))) k) := by
    unfold A_main_v6 A_main_v5
    rw [gatherRows_apply, ← row_eq _ (hx b s)]
    have e4 : broadcastInDim S240x512x1 ![0, 1] bcast_S240x512_S240x512x1_0_1 (A_main_v4 (F := Ideal) x0 x1 x2 x3 x5 x6 x9) (ix3 b s 0)
        = x2 (ix2 b s) := (spreadIds _ b s).trans (wrap_eq _ (hx b s))
    simp only [e4]
  show Evolve.code (A_main_v6 (F := Ideal) x0 x1 x2 x3 x5 x6 x9 (ix3 b s k)) = _
  rw [e]

/-- The gathered row scales. -/
theorem scales_apply (hx : InTable x2) (b : Fin 240) (s : Fin 512) :
    A_main_v13 (F := Ideal) x0 x1 x2 x3 x5 x6 x9 (ix2 b s) = x1 (ix1 (Evolve.row (x2 (ix2 b s)))) := by
  unfold A_main_v13 A_main_v12
  refine (gather_take_apply (N := 1300000) (R := 240) (C := 512) (by decide) _ x1 _ (ix2 b s)).trans ?_
  rw [← row_eq _ (hx b s)]
  have et : takeIdx (ix2 b s) = ix3 b s (0 : Fin 1) := by
    funext q
    match q with
    | ⟨0, _⟩ => rfl
    | ⟨1, _⟩ => rfl
    | ⟨2, _⟩ => rfl
  have e4 : broadcastInDim S240x512x1 ![0, 1] bcast_S240x512_S240x512x1_0_1 (A_main_v11 (F := Ideal) x0 x1 x2 x3 x5 x6 x9) (ix3 b s 0)
      = x2 (ix2 b s) := (spreadIds _ b s).trans (wrap_eq _ (hx b s))
  simp only [et, e4]

/-- The input's gates at `(s, g, b, j)`. -/
theorem gi_apply (hx : InTable x2) (s : Fin 512) (g : Fin 3) (b : Fin 240) (j : Fin 96) :
    A_main_v28 (F := Ideal) x0 x1 x2 x3 x5 x6 x9 (ix4 s g b j)
      = Evolve.affineRow (fun k => Evolve.code (x0 (ix2 (Evolve.row (x2 (ix2 b s))) k))) (fun k => x5 (ix3 k g j))
          (x1 (ix1 (Evolve.row (x2 (ix2 b s))))) (x6 (ix2 g j)) (x9 (ix2 g j)) := by
  unfold A_main_v28 A_main_v27 A_main_v26 A_main_v25 A_main_v24 A_main_v23 A_main_v22 A_main_v21 A_main_v20 A_main_v19 A_main_v18 A_main_v17
  rw [addf_apply, mulf_apply, mulf_apply, spread4, spread4]
  unfold Evolve.affineRow
  congr 2
  congr 1
  · refine (transpose_apply _ _ _ _ (ix4 g j b s) fun a => by
      match a with
      | ⟨0, _⟩ => rfl
      | ⟨1, _⟩ => rfl
      | ⟨2, _⟩ => rfl
      | ⟨3, _⟩ => rfl).trans ?_
    rw [dotI_apply]
    refine Finset.sum_congr rfl fun k _ => ?_
    rw [mul_comm, codes_apply x0 x1 x2 x3 x5 x6 x9 hx]
  · refine (broadcastInDim_apply _ _ _ _ (ix4 s (0 : Fin 1) b (0 : Fin 1)) fun a => by
      match a with
      | ⟨0, _⟩ => rfl
      | ⟨1, _⟩ => rfl
      | ⟨2, _⟩ => rfl
      | ⟨3, _⟩ => rfl).trans ?_
    refine (broadcastInDim_apply _ _ _ _ (ix2 s b) fun a => by
      match a with
      | ⟨0, _⟩ => rfl
      | ⟨1, _⟩ => rfl).trans ?_
    exact (transpose_apply _ _ _ _ (ix2 b s) fun a => by
      match a with
      | ⟨0, _⟩ => rfl
      | ⟨1, _⟩ => rfl).trans (scales_apply x0 x1 x2 x3 x5 x6 x9 hx b s)
end gates

/-- The trip's word is its number. -/
theorem toInt_trip (n : ℕ) (hn : n < 512) : (BitVec.ofNat 32 n).toInt = (n : Int) := by
  rw [BitVec.toInt_ofNat', Int.bmod_eq_of_le] <;> omega

theorem b3_fits (n : ℕ) (hn : n < 512) : S512x3x240x96.Slices ![n, 0, 0, 0] S1x3x240x96 := ⟨rfl, fun a => by
  match a with
  | ⟨0, _⟩ => show n + 1 ≤ 512; omega
  | ⟨1, _⟩ => show 0 + 3 ≤ 3; omega
  | ⟨2, _⟩ => show 0 + 240 ≤ 240; omega
  | ⟨3, _⟩ => show 0 + 96 ≤ 96; omega⟩
theorem b3_eq (n : ℕ) (hn : n < 512) (s : State Ideal) :
    b3 n s = extractStridedSlice S1x3x240x96 ![n, 0, 0, 0] s.main_v33_0 (b3_fits n hn) :=
  WordCmp.dynamicSlice_eq_extract _ _ _ _ _ (b3_fits n hn) fun a => by
    match a with
    | ⟨0, _⟩ => exact toInt_trip n hn
    | ⟨1, _⟩ => rfl
    | ⟨2, _⟩ => rfl
    | ⟨3, _⟩ => rfl

/-- The trip's slice of the input's gates. -/
theorem b4_apply (n : ℕ) (hn : n < 512) (s : State Ideal) (g : Fin 3) (b : Fin 240) (j : Fin 96) :
    b4 n s (ix3 g b j) = s.main_v33_0 (ix4 ⟨n, hn⟩ g b j) := by
  unfold b4
  rw [b3_eq n hn s]
  refine (shapeCast_dropUnit_apply ![3, 240, 96] _ _ _).trans ?_
  exact extractStridedSlice_apply _ _ _ _ _ fun a => by
    match a with
    | ⟨0, _⟩ => show n = n + 0; omega
    | ⟨1, _⟩ => show g.val = 0 + g.val; omega
    | ⟨2, _⟩ => show b.val = 0 + b.val; omega
    | ⟨3, _⟩ => show j.val = 0 + j.val; omega

theorem b5_fits (n : ℕ) (hn : n < 512) : S512.Slices ![n] S1 := ⟨rfl, fun a => by
  match a with
  | ⟨0, _⟩ => show n + 1 ≤ 512; omega⟩

/-- The trip's number as a word. -/
theorem b6_apply (n : ℕ) (hn : n < 512) (s : State Ideal) (i : S_.Idx) : b6 n s i = BitVec.ofNat 32 n := by
  unfold b6 b5
  rw [WordCmp.dynamicSlice_eq_extract _ _ _ _ _ (b5_fits n hn) fun a => by
    match a with
    | ⟨0, _⟩ => exact toInt_trip n hn]
  refine (shapeCast_dropUnit_apply ![] _ _ _).trans ?_
  refine (extractStridedSlice_apply _ _ _ _ (ix1 (⟨n, hn⟩ : Fin 512)) fun a => by
    match a with
    | ⟨0, _⟩ => show n = n + 0; omega).trans ?_
  rfl

/-- Whether the trip updates row `b`. -/
theorem b58_apply (n : ℕ) (hn : n < 512) (s : State Ideal) (b : Fin 240) (j : Fin 96) :
    b58 n s (ix2 b j) = IntOp.cmpi .sge (BitVec.ofNat 32 n) (s.main_v33_5 (ix1 b)) := by
  unfold b58 b57
  refine (broadcastInDim_apply _ _ _ _ (ix2 b (0 : Fin 1)) fun a => by
    match a with
    | ⟨0, _⟩ => rfl
    | ⟨1, _⟩ => rfl).trans ?_
  refine (broadcastInDim_apply _ _ _ _ (ix1 b) fun a => by
    match a with
    | ⟨0, _⟩ => rfl).trans ?_
  unfold b56 b55
  show IntOp.cmpi .sge (broadcastInDim S240 ![] bcast_S_S240 (b6 n s) (ix1 b)) _ = _
  rw [broadcastInDim_scalar_apply, b6_apply n hn]

/-- The state's gates at `(g, b, j)`. -/
theorem b15_apply (n : ℕ) (s : State Ideal) (g : Fin 3) (b : Fin 240) (j : Fin 96) :
    b15 n s (ix3 g b j) = Evolve.affine (fun k => s.main_v33_7 (ix2 b k)) (fun k => s.main_v33_2 (ix3 k g j))
      (s.main_v33_3 (ix2 g j)) (s.main_v33_4 (ix2 g j)) := by
  unfold b15 b14 b13 b12 b11 b10 b9 b8 b7
  rw [addf_apply, mulf_apply, spread3, spread3]
  unfold Evolve.affine
  congr 2
  refine (transpose_apply _ _ _ _ (ix3 g j b) fun a => by
    match a with
    | ⟨0, _⟩ => rfl
    | ⟨1, _⟩ => rfl
    | ⟨2, _⟩ => rfl).trans ?_
  rw [dotH_apply]
  exact Finset.sum_congr rfl fun k _ => mul_comm _ _

/-- Gate `g` cut out of three, as a matrix. -/
theorem gate_apply (g : Fin 3) (v : FVec Ideal S3x240x96 .f32) (h : S3x240x96.Slices ![g.val, 0, 0] S1x240x96) (b : Fin 240) (j : Fin 96) :
    shapeCast S240x96 (extractStridedSlice S1x240x96 ![g.val, 0, 0] v h) shapeCasts_S1x240x96_S240x96 (ix2 b j) = v (ix3 g b j) := by
  refine (shapeCast_dropUnit_apply ![240, 96] _ _ _).trans ?_
  exact extractStridedSlice_apply _ _ _ _ _ fun a => by
    match a with
    | ⟨0, _⟩ => show g.val = g.val + 0; omega
    | ⟨1, _⟩ => show b.val = 0 + b.val; omega
    | ⟨2, _⟩ => show j.val = 0 + j.val; omega

/-- The constant one, spread. -/
theorem one_apply (i : S240x96.Idx) : broadcastInDim S240x96 ![] bcast_S_S240x96 (constant (F := Ideal) S_ .f32 0x3F800000#32) i = (1 : EReal) := by
  rw [broadcastInDim_scalar_apply, constant_apply, Ideal.ofBits_one_f32]

/-- The updated state at `(b, j)`. -/
theorem b54_apply (n : ℕ) (hn : n < 512) (s : State Ideal) (b : Fin 240) (j : Fin 96) :
    b54 n s (ix2 b j) = Evolve.update (fun g => s.main_v33_0 (ix4 ⟨n, hn⟩ g b j))
      (fun g => Evolve.affine (fun k => s.main_v33_7 (ix2 b k)) (fun k => s.main_v33_2 (ix3 k g j)) (s.main_v33_3 (ix2 g j)) (s.main_v33_4 (ix2 g j)))
      1 (s.main_v33_7 (ix2 b j)) := by
  have u : b28 n s (ix2 b j) = Ideal.logistic (b4 n s (ix3 0 b j) + b15 n s (ix3 0 b j)) := by
    rw [← gate_apply 0 (b4 n s) slices_S3x240x96_S1x240x96_0_0_0 b j, ← gate_apply 0 (b15 n s) slices_S3x240x96_S1x240x96_0_0_0 b j]
    unfold b28 b27 b26 b25 b24 b23 b22 b21 b20 b19 b18 b17 b16
    rw [hostDivf_apply, one_apply, addf_apply, one_apply]
    rfl
  have r : b41 n s (ix2 b j) = Ideal.logistic (b4 n s (ix3 1 b j) + b15 n s (ix3 1 b j)) := by
    rw [← gate_apply 1 (b4 n s) slices_S3x240x96_S1x240x96_1_0_0 b j, ← gate_apply 1 (b15 n s) slices_S3x240x96_S1x240x96_1_0_0 b j]
    unfold b41 b40 b39 b38 b37 b36 b35 b34 b33 b32 b31 b30 b29
    rw [hostDivf_apply, one_apply, addf_apply, one_apply]
    rfl
  have t : b48 n s (ix2 b j) = Ideal.tanh (b4 n s (ix3 2 b j) + b41 n s (ix2 b j) * b15 n s (ix3 2 b j)) := by
    rw [← gate_apply 2 (b4 n s) slices_S3x240x96_S1x240x96_2_0_0 b j, ← gate_apply 2 (b15 n s) slices_S3x240x96_S1x240x96_2_0_0 b j]
    unfold b48 b47 b46 b45 b44 b43 b42
    rfl
  unfold b54 b53 b52 b51 b50 b49
  rw [addf_apply, mulf_apply, mulf_apply, subf_apply, one_apply, u, t, r]
  simp only [b4_apply n hn, b15_apply]
  unfold Evolve.update
  simp only [one_mul]

/-- The new state at `(b, j)`: updated where the mask says so. -/
theorem b59_apply (n : ℕ) (hn : n < 512) (s : State Ideal) (b : Fin 240) (j : Fin 96) :
    b59 n s (ix2 b j) = if IntOp.cmpi .sge (BitVec.ofNat 32 n) (s.main_v33_5 (ix1 b)) = 1#1 then b54 n s (ix2 b j) else s.main_v33_7 (ix2 b j) := by
  unfold b59
  rw [select_apply, b58_apply n hn]
  rfl

/-- The reference's states, one trip at a time. -/
def it {F : FTy → Type} [FloatOps F] (m : (ℓ : Loc nD τ sig) → Buf (Elt F) ℓ) (c : Dev nD) : ℕ → State F
  | 0 => StepRun.initState m c
  | n + 1 => step n (it m c n)

variable (m : (ℓ : Loc nD τ sig) → Buf (Elt Ideal) ℓ) (c : Dev nD)

/-- What the loop carries unchanged. -/
theorem it_const (n : ℕ) : (it m c n).main_v33_0 = (it m c 0).main_v33_0 ∧ (it m c n).main_v33_2 = (it m c 0).main_v33_2
    ∧ (it m c n).main_v33_3 = (it m c 0).main_v33_3 ∧ (it m c n).main_v33_4 = (it m c 0).main_v33_4 ∧ (it m c n).main_v33_5 = (it m c 0).main_v33_5 := by
  induction n with
  | zero => exact ⟨rfl, rfl, rfl, rfl, rfl⟩
  | succ n ih => exact ih

/-- The mathematics' state of the arguments: `x0`, `x1` the table and its row scales, `x2` the ids, `x3` the lengths, `x5`,
    `x6`, `x9` the input's weights, scales and biases, `x7`, `x8`, `x10` the state's. -/
def spec (x0 : IVec ⟨2, ![1300000, 224]⟩ 8) (x1 : FVec Ideal ⟨1, ![1300000]⟩ .f32) (x2 : IVec ⟨2, ![240, 512]⟩ 32) (x3 : IVec ⟨1, ![240]⟩ 32)
    (x5 : FVec Ideal ⟨3, ![224, 3, 96]⟩ .bf16) (x6 : FVec Ideal ⟨2, ![3, 96]⟩ .f32) (x7 : FVec Ideal ⟨3, ![96, 3, 96]⟩ .bf16)
    (x8 x9 x10 : FVec Ideal ⟨2, ![3, 96]⟩ .f32) : ℕ → Fin 240 → Fin 96 → EReal :=
  Evolve.masked (fun n g b j => if h : n < 512 then
      Evolve.affineRow (fun k => Evolve.code (x0 (ix2 (Evolve.row (x2 (ix2 b ⟨n, h⟩))) k))) (fun k => x5 (ix3 k g j))
          (x1 (ix1 (Evolve.row (x2 (ix2 b ⟨n, h⟩))))) (x6 (ix2 g j)) (x9 (ix2 g j)) else 0)
    (fun n b => IntOp.cmpi .sge (BitVec.ofNat 32 n) (IntOp.subi 512#32 (x3 (ix1 b))))
    (fun k g j => x7 (ix3 k g j)) (fun g j => x8 (ix2 g j)) (fun g j => x10 (ix2 g j))

/-- The reference's state after `n` trips. -/
theorem it_eq (hx : InTable (m ((c : Thread nD τ).loc main_arg2))) (n : ℕ) (hn : n ≤ 512) (b : Fin 240) (j : Fin 96) :
    (it m c n).main_v33_7 (ix2 b j)
      = spec (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) n b j := by
  induction n generalizing b j with
  | zero =>
    show K_main_v31 (F := Ideal) (ix2 b j) = 0
    unfold K_main_v31 K_main_cst
    rw [broadcastInDim_scalar_apply, constant_apply]
    simp
  | succ n ih =>
    have hlt : n < 512 := by omega
    show b59 n (it m c n) (ix2 b j) = _
    obtain ⟨h0, h2, h3, h4, h5⟩ := it_const m c n
    have e0 : ∀ g b j, (it m c n).main_v33_0 (ix4 ⟨n, hlt⟩ g b j) = _ := fun g b j =>
      (congrFun h0 _).trans (gi_apply _ _ _ _ _ _ _ hx ⟨n, hlt⟩ g b j)
    have e5 : (it m c n).main_v33_5 (ix1 b) = IntOp.subi 512#32 (m ((c : Thread nD τ).loc main_arg3) (ix1 b)) :=
      (congrFun h5 _).trans rfl
    rw [b59_apply n hlt, b54_apply n hlt, h2, h3, h4, e5]
    simp only [e0, ih (by omega)]
    unfold spec
    rw [Evolve.masked]
    simp only [dif_pos hlt]
    rfl

end Cert.FirstReferenceIdeal.RefValue

end
-- ==== Proof.FirstIdeal.Table.lean ====
/-
  The table as the first GRU's kernel reads it, over the extended reals: the word copied for a row's id, shifted by the id's
  shift, gives the code that the table holds at the id; and the row scales and masks at an index.
-/
module

public import proofs.«01_k».proof.Proof.FirstIdeal.Inputs
public import proofs.«01_k».proof.Proof.FirstRefValue

@[expose] public section

noncomputable section

open Idealize.ShloMosaic Idealize.ShloMosaic.TcCoe Idealize.ShloMosaic.ValueIdx
open scoped BigOperators

namespace Cert.FirstIdeal.Table

open Cert.FirstIdeal Cert.FirstIdeal.Gen Cert.FirstIdeal.Region Cert.FirstIdeal.StepValue Cert.FirstIdeal.Inputs Cert.FirstIdeal.Ids

/-- Byte `r` of a word of the regrouped table is the code of row `4 q + r`. -/
theorem wordsK_byte (x0 : IVec S1300000x224 8) (q : Fin 325000) (k : Fin 224) (r : ℕ) (hr : r < 4) :
    (wordsK x0 (ix2 q k)).extractLsb' (8 * r) 8 = x0 (ix2 (⟨4 * q.val + r, by omega⟩ : Fin 1300000) k) := by
  unfold wordsK
  rw [Words.widen_byte _ splits_S325000x224_w32_S325000x224x4_w8 (ix2 q k) r hr ⟨r, hr⟩ rfl]
  refine (transpose_apply _ _ _ _ (ix3 q (⟨r, hr⟩ : Fin 4) k) fun a => by
    match a with
    | ⟨0, _⟩ => rfl
    | ⟨1, _⟩ => rfl
    | ⟨2, _⟩ => rfl).trans ?_
  exact shapeCast_apply _ _ _ _ (by
    rw [Shape.rowMajor_val_three, Shape.rowMajor_val_two]
    show (4 * q.val + r) * 224 + k.val = (q.val * 4 + r) * 224 + k.val; omega)

/-- The shift of a table id. -/
theorem shiftsK_toNat (x2 : IVec S240x512 32) (n : Fin 512) (b : Fin 240) (hw : (x2 (ix2 b n)).toNat < 1300000) :
    (shiftsK x2 (ix2 n b)).toNat = 24 - 8 * ((x2 (ix2 b n)).toNat % 4) := by
  have h4 : fourK (Shape.Idx.first h_S_) = 4#32 := by decide
  have hr : remK x2 (ix2 n b) = IntOp.remsi .host (x2 (ix2 b n)) 4#32 := by
    show IntOp.remsi .host (idsK x2 (ix2 n b)) (broadcastInDim S512x240 ![] bcast_S_S512x240 fourK (ix2 n b)) = _
    rw [idsK_apply, broadcastInDim_scalar_apply]
    exact congrArg _ h4
  have hp : (placesK x2 (ix2 n b)).toNat = (x2 (ix2 b n)).toNat % 4 := by
    rw [← Words.toNat_place _ hw, ← hr]
    have hb : ∀ w, allK w (ix2 n b) = w := fun w => by
      unfold allK
      rw [broadcastInDim_scalar_apply]
      rfl
    have hf : broadcastInDim S512x240 ![] bcast_S_S512x240 fourK (ix2 n b) = 4#32 := by
      rw [broadcastInDim_scalar_apply]
      exact h4
    have hc : broadcastInDim S512x240 ![] bcast_S_S512x240 (cmpi .slt fourK (constantI S_ 32 0#32)) (ix2 n b) = IntOp.cmpi .slt 4#32 0#32 := by
      rw [broadcastInDim_scalar_apply]
      exact congrArg (fun w => IntOp.cmpi .slt w 0#32) h4
    unfold placesK
    rw [select_apply]
    show (Scalar.select (IntOp.andi (IntOp.cmpi .ne (IntOp.cmpi .slt (remK x2 (ix2 n b)) (allK 0#32 (ix2 n b)))
        (broadcastInDim S512x240 ![] bcast_S_S512x240 (cmpi .slt fourK (constantI S_ 32 0#32)) (ix2 n b)))
        (IntOp.cmpi .ne (remK x2 (ix2 n b)) (allK 0#32 (ix2 n b))))
      (IntOp.addi (remK x2 (ix2 n b)) (broadcastInDim S512x240 ![] bcast_S_S512x240 fourK (ix2 n b))) (remK x2 (ix2 n b))).toNat = _
    rw [hc, hf, hb]
    rfl
  have hb : ∀ w, allK w (ix2 n b) = w := fun w => by
    unfold allK
    rw [broadcastInDim_scalar_apply]
    rfl
  show (IntOp.subi (allK 24#32 (ix2 n b)) (IntOp.muli (allK 8#32 (ix2 n b)) (placesK x2 (ix2 n b)))).toNat = _
  rw [hb, hb, ← hp]
  have : (placesK x2 (ix2 n b)).toNat < 4 := by rw [hp]; omega
  generalize placesK x2 (ix2 n b) = p at this
  show (24#32 - 8#32 * p).toNat = _
  rw [BitVec.toNat_sub, BitVec.toNat_mul]
  simp only [BitVec.toNat_ofNat]
  omega

/-- The code the kernel takes out of a word of the table for an id. -/
theorem taken_eq (x0 : IVec S1300000x224 8) (w s : BitVec 32) (hw : w.toNat < 1300000) (hs : s.toNat = 24 - 8 * (w.toNat % 4)) (k : Fin 224) :
    taken (wordsK x0 (ix2 (⟨w.toNat / 4, by omega⟩ : Fin 325000) k)) s = Evolve.code (x0 (ix2 (Evolve.row w) k)) := by
  unfold taken Evolve.code
  rw [Words.shifted_eq _ _ (w.toNat % 4) (by omega) hs, wordsK_byte x0 _ k _ (by omega)]
  have : (⟨4 * (w.toNat / 4) + w.toNat % 4, by omega⟩ : Fin 1300000) = Evolve.row w := by
    apply Fin.ext
    show 4 * (w.toNat / 4) + w.toNat % 4 = min w.toNat 1299999
    omega
  exact congrArg (fun q => ((((x0 (ix2 q k)).signExtend 32).toInt : ℝ) : EReal)) this

/-- The row scale of a table id. -/
theorem scalesK_apply (x1 : FVec Ideal S1300000 .f32) (x2 : IVec S240x512 32) (n : Fin 512) (b : Fin 240) (hw : (x2 (ix2 b n)).toNat < 1300000) :
    scalesK x1 x2 (ix2 n b) = x1 (ix1 (Evolve.row (x2 (ix2 b n)))) := by
  unfold scalesK
  refine (gather_take_apply (N := 1300000) (R := 512) (C := 240) (by decide) _ x1 _ (ix2 n b)).trans ?_
  rw [← Cert.FirstReferenceIdeal.RefValue.row_eq _ hw]
  have et : takeIdx (ix2 n b) = ix3 n b (0 : Fin 1) := by
    funext q
    match q with
    | ⟨0, _⟩ => rfl
    | ⟨1, _⟩ => rfl
    | ⟨2, _⟩ => rfl
  have hb : ∀ w, allK w (ix2 n b) = w := fun w => by
    unfold allK
    rw [broadcastInDim_scalar_apply]
    rfl
  have e4 : broadcastInDim S512x240x1 ![0, 1] bcast_S512x240_S512x240x1_0_1
      (select (cmpi .slt (idsK x2) (allK 0#32)) (addi (idsK x2) (allK 1300000#32)) (idsK x2)) (ix3 n b (0 : Fin 1)) = x2 (ix2 b n) := by
    refine (broadcastInDim_apply _ _ _ _ (ix2 n b) fun a => by
      match a with
      | ⟨0, _⟩ => rfl
      | ⟨1, _⟩ => rfl).trans ?_
    refine Eq.trans ?_ (Cert.FirstReferenceIdeal.RefValue.wrap_eq _ hw)
    rw [← idsK_apply x2 n b, select_apply]
    show Scalar.select (IntOp.cmpi .slt (idsK x2 (ix2 n b)) (allK 0#32 (ix2 n b))) (IntOp.addi (idsK x2 (ix2 n b)) (allK 1300000#32 (ix2 n b))) _ = _
    rw [hb, hb]
    rfl
  simp only [et, e4]

/-- The mask of row `b` at step `n`. -/
theorem masksK_apply (x3 : IVec S240 32) (n : Fin 512) (b : Fin 240) :
    masksK x3 (ix2 n b) = (((IntOp.cmpi .sge (BitVec.ofNat 32 n.val) (IntOp.subi 512#32 (x3 (ix1 b)))).toNat : ℝ) : EReal) := by
  have e1 : broadcastInDim S512x240 ![0, 1] bcast_S512x1_S512x240_0_1 (broadcastInDim S512x1 ![0] bcast_S512_S512x1_0 (iotaInDim S512 32 0)) (ix2 n b)
      = BitVec.ofNat 32 n.val := by
    refine (broadcastInDim_apply _ _ _ _ (ix2 n (0 : Fin 1)) fun a => by
      match a with
      | ⟨0, _⟩ => rfl
      | ⟨1, _⟩ => rfl).trans ?_
    exact (broadcastInDim_apply _ _ _ _ (ix1 n) fun a => by
      match a with
      | ⟨0, _⟩ => rfl).trans rfl
  have e2 : broadcastInDim S512x240 ![0, 1] bcast_S1x240_S512x240_0_1 (broadcastInDim S1x240 ![1] bcast_S240_S1x240_1
      (subi (broadcastInDim S240 ![] bcast_S_S240 (constantI S_ 32 512#32)) x3)) (ix2 n b) = IntOp.subi 512#32 (x3 (ix1 b)) := by
    refine (broadcastInDim_apply _ _ _ _ (ix2 (0 : Fin 1) b) fun a => by
      match a with
      | ⟨0, _⟩ => rfl
      | ⟨1, _⟩ => rfl).trans ?_
    exact (broadcastInDim_apply _ _ _ _ (ix1 b) fun a => by
      match a with
      | ⟨0, _⟩ => rfl).trans rfl
  rw [← e1, ← e2]
  rfl

variable (m : (ℓ : Loc nD τ sig) → Buf (Elt Ideal) ℓ)

/-- The word of the table that a point copies for row `b`. -/
theorem rowsAt_apply (hx : ∀ c, InRange m c) (c : Dev nD) (n : ℕ) (hn : n < cfg0.N) (hn' : n < 512) (b : Fin 240) (k : Fin 224)
    (w : BitVec 32) (hw : w.toNat < 1300000) (he : m ((c : Thread nD τ).loc main_arg2) (ix2 b ⟨n, hn'⟩) = w) :
    rowsAt m hx c ⟨n, hn⟩ (ix2 b k) = wordsK (m ((c : Thread nD τ).loc main_arg0)) (ix2 (⟨w.toNat / 4, by omega⟩ : Fin 325000) k) := by
  have ho : rowOf0 (F := Ideal) (iblk m c 0 ⟨n, hn⟩) b = ![w.toNat / 4, 0] := by
    unfold rowOf0
    rw [idAt_apply m c n hn hn' b, he]
    exact Words.off3_eq w hw
  rw [← V_v28]
  unfold rowsAt gathered
  refine (View.read_apply ..).trans ?_
  show V m c main_v28 _ = V m c main_v28 _
  congr 1
  funext a
  apply Fin.ext
  match a with
  | ⟨0, _⟩ =>
    show rowOf0 (F := Ideal) (iblk m c 0 ⟨n, hn⟩) b 0 + 1 * 0 = w.toNat / 4
    rw [ho]; rfl
  | ⟨1, _⟩ =>
    show rowOf0 (F := Ideal) (iblk m c 0 ⟨n, hn⟩) b 1 + 1 * k.val = k.val
    rw [ho]; show 0 + 1 * k.val = k.val; omega

end Cert.FirstIdeal.Table

end
-- ==== Proof.FirstAgree.lean ====
/-
  The first GRU's result over the extended reals is its reference's: each of the first 96 columns of the kernel's state after
  `n` points is the recursion `Evolve.masked` after `n` steps, and so is the reference's state after `n` trips.
-/
module

public import proofs.«01_k».proof.Proof.FirstIdeal.Final
public import proofs.«01_k».proof.Proof.FirstIdeal.Table

@[expose] public section

noncomputable section

open Idealize.ShloMosaic Idealize.ShloMosaic.TcCoe Idealize.ShloMosaic.ValueIdx
open scoped BigOperators

namespace Cert.FirstIdeal.Agree

open Cert.FirstIdeal Cert.FirstIdeal.Gen Cert.FirstIdeal.Region Cert.FirstIdeal.StepValue Cert.FirstIdeal.Inputs Cert.FirstIdeal.Ids
open Cert.FirstIdeal.Table Cert.FirstIdeal.Final

/-- A gate of the padded product is the gate of the product over the first 96 rows. -/
theorem gate_eq (x : Fin 128 → EReal) (w : FVec Ideal S96x3x96 .bf16) (s b : FVec Ideal S3x96 .f32) (g : Fin 3) (j : Fin 96) :
    (∑ k : Fin 128, x k * padW w (ix2 k (col g ⟨j.val, by omega⟩))) * padV s (ix2 0 (col g ⟨j.val, by omega⟩))
        + padV b (ix2 0 (col g ⟨j.val, by omega⟩))
      = Evolve.affine (fun k => x ⟨k.val, by omega⟩) (fun k => w (ix3 k g j)) (s (ix2 g j)) (b (ix2 g j)) := by
  unfold Evolve.affine
  rw [padV_in, padV_in, Evolve.sum_padded _ fun k hk => by rw [padW_out w k hk, mul_zero]]
  simp only [padW_in]

section state
variable (m : (ℓ : Loc nD τ sig) → Buf (Elt Ideal) ℓ) (hx : ∀ c, InRange m c) (c : Dev nD)
  (ht : InTable (F := Ideal) (m ((c : Thread nD τ).loc main_arg2)))
include ht

/-- The codes a point takes for row `b`. -/
theorem codes_eq (n : ℕ) (hn : n < cfg0.N) (hn' : n < 512) (b : Fin 240) (k : Fin 224) :
    taken (rowsAt m hx c ⟨n, hn⟩ (ix2 b k)) ((iblk m c 1 ⟨n, hn⟩ : Vec Ideal S1x240x1 .i32) (ix3 0 b 0))
      = Evolve.code (m ((c : Thread nD τ).loc main_arg0) (ix2 (Evolve.row (m ((c : Thread nD τ).loc main_arg2) (ix2 b ⟨n, hn'⟩))) k)) := by
  rw [rowsAt_apply m hx c n hn hn' b k _ (ht b ⟨n, hn'⟩) rfl, iblk1_apply m c n hn hn' b]
  exact taken_eq _ _ _ (ht b ⟨n, hn'⟩) (shiftsK_toNat _ ⟨n, hn'⟩ b (ht b ⟨n, hn'⟩)) k

/-- The input's gates of a point. -/
theorem giK_eq (n : ℕ) (hn : n < cfg0.N) (hn' : n < 512) (b : Fin 240) (g : Fin 3) (j : Fin 96) :
    (∑ k : Fin 224, taken (rowsAt m hx c ⟨n, hn⟩ (ix2 b k)) ((iblk m c 1 ⟨n, hn⟩ : Vec Ideal S1x240x1 .i32) (ix3 0 b 0))
        * padI (m ((c : Thread nD τ).loc main_arg5)) (ix2 k (col g ⟨j.val, by omega⟩)))
        * (iblk m c 2 ⟨n, hn⟩ : Vec Ideal S1x240x1 .f32) (ix3 0 b 0) * padV (m ((c : Thread nD τ).loc main_arg6)) (ix2 0 (col g ⟨j.val, by omega⟩))
        + padV (m ((c : Thread nD τ).loc main_arg9)) (ix2 0 (col g ⟨j.val, by omega⟩))
      = Evolve.affineRow (fun k => Evolve.code (m ((c : Thread nD τ).loc main_arg0) (ix2 (Evolve.row (m ((c : Thread nD τ).loc main_arg2) (ix2 b ⟨n, hn'⟩))) k)))
          (fun k => m ((c : Thread nD τ).loc main_arg5) (ix3 k g j)) (m ((c : Thread nD τ).loc main_arg1) (ix1 (Evolve.row (m ((c : Thread nD τ).loc main_arg2) (ix2 b ⟨n, hn'⟩)))))
          (m ((c : Thread nD τ).loc main_arg6) (ix2 g j)) (m ((c : Thread nD τ).loc main_arg9) (ix2 g j)) := by
  unfold Evolve.affineRow
  rw [padV_in, padV_in, iblk2_apply m c n hn hn' b, scalesK_apply _ _ ⟨n, hn'⟩ b (ht b ⟨n, hn'⟩)]
  simp only [codes_eq m hx c ht n hn hn' b, padI_in]

/-- The kernel's state after `n` points, at one of the first 96 columns. -/
theorem state_eq (n : ℕ) (hn : n ≤ 512) (b : Fin 240) (j : Fin 96) :
    state m hx c n (ix2 b (⟨j.val, by omega⟩ : Fin 128))
      = Cert.FirstReferenceIdeal.RefValue.spec (m ((c : Thread nD τ).loc main_arg0)) (m ((c : Thread nD τ).loc main_arg1))
          (m ((c : Thread nD τ).loc main_arg2)) (m ((c : Thread nD τ).loc main_arg3)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) n b j := by
  induction n generalizing b j with
  | zero =>
    show k0_pay2 (F := Ideal) (ix2 b (⟨j.val, by omega⟩ : Fin 128)) = 0
    unfold k0_pay2
    simp only [shapeCast_self, broadcast_apply]
    simp
  | succ n ih =>
    have hlt : n < 512 := by omega
    have hN : n < cfg0.N := lt_of_lt_of_eq hlt N_0.symm
    rw [state_succ m hx c ⟨n, hN⟩, next_apply, iblk5, iblk6, iblk7, iblk8, iblk9, iblk10]
    simp only [gate_eq, giK_eq m hx c ht n hN hlt, iblk3_apply m c n hN hlt, masksK_apply, ih (by omega), Evolve.update_bit]
    unfold Cert.FirstReferenceIdeal.RefValue.spec
    rw [Evolve.masked]
    simp only [dif_pos hlt]

/-- The kernel's result at an index. -/
theorem interest_apply (b : Fin 240) (j : Fin 96) :
    interest m hx c (ix2 b j)
      = Cert.FirstReferenceIdeal.RefValue.spec (m ((c : Thread nD τ).loc main_arg0)) (m ((c : Thread nD τ).loc main_arg1))
          (m ((c : Thread nD τ).loc main_arg2)) (m ((c : Thread nD τ).loc main_arg3)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) 512 b j := by
  unfold interest
  refine (extractStridedSlice_apply _ _ _ _ (ix2 b (⟨j.val, by omega⟩ : Fin 128)) fun a => by
    match a with
    | ⟨0, _⟩ => show b.val = 0 + b.val; omega
    | ⟨1, _⟩ => show j.val = 0 + j.val; omega).trans ?_
  exact state_eq m hx c ht 512 le_rfl b j

end state

/-- From memories that agree on the arguments, and ids of the table, the kernel's result is the reference's. -/
theorem result_eq (m : (ℓ : Loc nD τ sig) → Buf (Elt Ideal) ℓ) (hx : ∀ c, InRange m c)
    (m' : (ℓ : Loc Cert.FirstReferenceIdeal.nD Cert.FirstReferenceIdeal.τ Cert.FirstReferenceIdeal.sig) → Buf (Elt Ideal) ℓ) (c : Dev nD)
    (ht : InTable (F := Ideal) (m ((c : Thread nD τ).loc main_arg2)))
    (h0 : m' ((c : Thread nD τ).loc Cert.FirstReferenceIdeal.main_arg0) = m ((c : Thread nD τ).loc main_arg0))
    (h1 : m' ((c : Thread nD τ).loc Cert.FirstReferenceIdeal.main_arg1) = m ((c : Thread nD τ).loc main_arg1))
    (h2 : m' ((c : Thread nD τ).loc Cert.FirstReferenceIdeal.main_arg2) = m ((c : Thread nD τ).loc main_arg2))
    (h3 : m' ((c : Thread nD τ).loc Cert.FirstReferenceIdeal.main_arg3) = m ((c : Thread nD τ).loc main_arg3))
    (h5 : m' ((c : Thread nD τ).loc Cert.FirstReferenceIdeal.main_arg5) = m ((c : Thread nD τ).loc main_arg5))
    (h6 : m' ((c : Thread nD τ).loc Cert.FirstReferenceIdeal.main_arg6) = m ((c : Thread nD τ).loc main_arg6))
    (h7 : m' ((c : Thread nD τ).loc Cert.FirstReferenceIdeal.main_arg7) = m ((c : Thread nD τ).loc main_arg7))
    (h8 : m' ((c : Thread nD τ).loc Cert.FirstReferenceIdeal.main_arg8) = m ((c : Thread nD τ).loc main_arg8))
    (h9 : m' ((c : Thread nD τ).loc Cert.FirstReferenceIdeal.main_arg9) = m ((c : Thread nD τ).loc main_arg9))
    (h10 : m' ((c : Thread nD τ).loc Cert.FirstReferenceIdeal.main_arg10) = m ((c : Thread nD τ).loc main_arg10)) :
    (Cert.FirstReferenceIdeal.RefValue.it m' c 512).main_v33_7 = interest m hx c := by
  funext i
  obtain ⟨b, j, rfl⟩ : ∃ (b : Fin 240) (j : Fin 96), i = ix2 b j := ⟨i 0, i 1, eq_ix2 i⟩
  rw [interest_apply m hx c ht]
  have ht' : Cert.FirstReferenceIdeal.RefValue.InTable (m' ((c : Thread nD τ).loc Cert.FirstReferenceIdeal.main_arg2)) := by
    rw [h2]; exact ht
  refine (Cert.FirstReferenceIdeal.RefValue.it_eq m' c ht' 512 le_rfl b j).trans ?_
  rw [h0, h1, h2, h3, h5, h6, h7, h8, h9, h10]

end Cert.FirstIdeal.Agree

end
-- ==== Proof.AttentionFinal.lean ====
/-
  What the softmax call's program leaves, over the extended reals: its result is the body's value of the whole mask and the
  whole scores (`run`), and these two arrays in terms of the arguments (`V_v10`, `V_v11`).
-/
module

public import proofs.«01_k».proof.Proof.Gen.AttentionIdeal
public import proofs.«01_k».proof.Proof.Gen.AttentionIdeal.Frame
public import proofs.«01_k».proof.Proof.Gen.AttentionIdeal.Value
public import Idealize.ShloMosaic.Lib.KernelVsHost

@[expose] public section

noncomputable section

open Idealize.ShloMosaic Idealize.ShloMosaic.TcCoe Idealize.SL.Sem
open Idealize.ShloMosaic.Pipeline (Dat)

namespace Cert.AttentionIdeal.Final

open Cert.AttentionIdeal Cert.AttentionIdeal.Gen

variable (m : (ℓ : Loc nD τ sig) → Buf (Elt Ideal) ℓ) (ρ : Dev nD → PrngReg)

/-- The mask by length, as numbers. -/
def maskK (x1 : IVec S240 32) : FVec Ideal S512x240 .f32 :=
  uitofp .f32 (cmpi .sge
    (broadcastInDim S512x240 ![0, 1] bcast_S512x1_S512x240_0_1 (broadcastInDim S512x1 ![0] bcast_S512_S512x1_0 (iotaInDim S512 32 0)))
    (broadcastInDim S512x240 ![0, 1] bcast_S1x240_S512x240_0_1 (broadcastInDim S1x240 ![1] bcast_S240_S1x240_1
      (subi (broadcastInDim S240 ![] bcast_S_S240 (constantI S_ 32 512#32)) x1))))

/-- The scores as the call finds them: the argument's rows and columns exchanged. -/
theorem V_v10 (c : Dev nD) : V m c main_v10 = transpose S240x512 [1, 0]
    (shapeCast S512x240 (m ((c : Thread nD τ).loc main_arg0)) shapeCasts_S512x240x1_S512x240) transposes_S512x240_S240x512_1_0 := by
  unfold V
  after_results
  rfl

/-- The mask as the call finds it. -/
theorem V_v11 (c : Dev nD) : V m c main_v11 = transpose S240x512 [1, 0]
    (maskK (m ((c : Thread nD τ).loc main_arg1))) transposes_S512x240_S240x512_1_0 := by
  unfold V
  after_results
  rfl

/-- The call's result: the body's value of the whole mask and the whole scores. -/
abbrev result (c : Dev nD) : Buf (Elt Ideal) ((c : Thread nD τ).loc main_v12) := k0_pay1 (V m c main_v11) (V m c main_v10)

theorem zero2 : (![0, 0] : Fin 2 → Nat) = fun _ => 0 := funext fun a => by match a with | ⟨0, _⟩ => rfl | ⟨1, _⟩ => rfl

/-- The windows are whole arrays. -/
theorem iblk0_eq (c : Dev nD) (t : Fin cfg0.N) : (iblk m c 0 t : Vec Ideal S240x512 .f32) = V m c main_v10 := by
  have hz : (fun a => win0_0.index t a * main_v10.ty.shape.size a) = fun _ => 0 := funext fun a => Nat.zero_mul _
  exact Memref.read_access_unit_zero (Elt Ideal) main_v10 hz (fun a => by rw [congrFun hz a]; simp) (V m c main_v10)

theorem iblk1_eq (c : Dev nD) (t : Fin cfg0.N) : (iblk m c 1 t : Vec Ideal S240x512 .f32) = V m c main_v11 := by
  have hz : (fun a => win0_1.index t a * main_v11.ty.shape.size a) = fun _ => 0 := funext fun a => Nat.zero_mul _
  exact Memref.read_access_unit_zero (Elt Ideal) main_v11 hz (fun a => by rw [congrFun hz a]; simp) (V m c main_v11)

/-- The body leaves its value of the two blocks. -/
theorem out_eq (x0 x1 : Vec Ideal S240x512 .f32) : out0_2 x0 x1 = k0_pay1 x1 x0 := by
  unfold out0_2
  rw [View.canon_unit_zero zero2, View.ld_unit_zero zero2, View.ld_unit_zero zero2]

/-- The one write-back writes the result. -/
theorem flushed_eq (c : Dev nD) (t : Fin cfg0.N) (hf : (cfg0.win 2).flush t = true) :
    (dats m 0 c).flushed 2 t = ((cfg0.win 2).blk t).view.read (Elt Ideal) (result m c) := by
  rw [Value.flushed2, iblk0_eq, iblk1_eq, out_eq]
  have hz : (fun a => win0_2.index t a * main_v12.ty.shape.size a) = fun _ => 0 := funext fun a => Nat.zero_mul _
  exact (Memref.read_access_unit_zero (Elt Ideal) main_v12 hz (fun a => by rw [congrFun hz a]; simp) (result m c)).symm

/-- So the result array ends at it. -/
theorem final_o (c : Dev nD) : (dats m 0 c).arrAt 2 cfg0.N = result m c :=
  (dats m 0 c).arrAt_eq_of_cover 2 (result m c) (flushed_eq m c) fun i =>
    ⟨t0_0, flush0_2 _, by
      show i ∈ ((View.whole main_v12).slice (win0_2.rect t0_0)).set
      rw [View.set_slice_whole, Rect.mem_set_unit]
      intro a
      have h0 : (i 0 : Nat) < 240 := (i 0).isLt
      have h1 : (i 1 : Nat) < 512 := (i 1).isLt
      match a with
      | ⟨0, _⟩ => exact ⟨by show 0 * 240 ≤ (i 0 : Nat); omega, by show (i 0 : Nat) < 0 * 240 + 240; omega⟩
      | ⟨1, _⟩ => exact ⟨by show 0 * 512 ≤ (i 1 : Nat); omega, by show (i 1 : Nat) < 0 * 512 + 512; omega⟩⟩

/-- The run, read: the result, and both arguments unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_o m c), (h c).2⟩) (Value.run_blocks m ρ)

end Cert.AttentionIdeal.Final

end
-- ==== Proof.AttentionAgree.lean ====
/-
  The softmax call's result is the reference's, over the extended reals. The kernel sets a masked element to zero after the
  exponential; the reference leaves it the exponential of −∞, which is zero whatever the row's maximum is.
-/
module

public import proofs.«01_k».proof.Proof.AttentionFinal
public import proofs.«01_k».proof.Proof.Gen.AttentionReferenceIdeal
public import proofs.«01_k».proof.Proof.Gen.AttentionReferenceIdeal.Run
public import Idealize.ShloMosaic.Lib.KernelVsHost

@[expose] public section

noncomputable section

open Idealize.ShloMosaic Idealize.ShloMosaic.TcCoe Idealize.ShloMosaic.ValueIdx Idealize.SL.Sem
open scoped BigOperators

namespace Cert.AttentionIdeal.Agree

open Cert.AttentionIdeal Cert.AttentionIdeal.Gen Cert.AttentionIdeal.Final

/-- The scores with −∞ where the mask is off. -/
def masked (v : IVec S240x512 1) (s : FVec Ideal S240x512 .f32) : FVec Ideal S240x512 .f32 :=
  select v s (broadcast S240x512 (Scalar.ofBits .f32 0xFF800000#32))

/-- A column of one value per row, on every column. -/
def rows (r : FVec Ideal S240 .f32) : FVec Ideal S240x512 .f32 := fun i => r (ix1 (i 0))

/-- Each row's maximum. -/
def top (x : FVec Ideal S240x512 .f32) : FVec Ideal S240 .f32 :=
  multiReduction .maximumf [1] S240 x 0xFF800000#32 reduces_S240x512_S240 (.inl rfl) rfl

/-- Each row's sum. -/
def total (x : FVec Ideal S240x512 .f32) : FVec Ideal S240 .f32 :=
  multiReduction .add [1] S240 x 0x00000000#32 reduces_S240x512_S240 (.inl rfl) rfl

/-- The exponentials of the masked scores less their row's maximum. -/
def weights (v : IVec S240x512 1) (s : FVec Ideal S240x512 .f32) : FVec Ideal S240x512 .f32 :=
  exp (subf (masked v s) (rows (top (masked v s))))

/-- The softmax of the masked scores along each row. -/
def attention (v : IVec S240x512 1) (s : FVec Ideal S240x512 .f32) : FVec Ideal S240x512 .f32 :=
  divf (weights v s) (rows (total (weights v s)))

/-- −∞, as a word and as a number. -/
theorem bot_eq : (Scalar.ofBits .f32 0xFF800000#32 : Ideal .f32) = (⊥ : EReal) := by
  show Ideal.ofBits .f32 0xFF800000#32 = ⊥
  simp [Ideal.ofBits, Ideal.ieee]

/-- The kernel's spreading of a column over the row. -/
theorem rowsK_eq (r : FVec Ideal S240 .f32) :
    broadcastTo S240x512 (shapeCast S240x1 r shapeCasts_S240_S240x1) broadcasts_S240x1_S240x512 = rows r := by
  funext i
  obtain ⟨b, n, rfl⟩ : ∃ (b : Fin 240) (n : Fin 512), i = ix2 b n := ⟨i 0, i 1, eq_ix2 i⟩
  refine (broadcastTo_apply _ _ _ (ix2 b (0 : Fin 1)) fun a => by
    match a with
    | ⟨0, _⟩ => rfl
    | ⟨1, _⟩ => rfl).trans ?_
  exact shapeCast_apply _ _ _ (ix1 b) (by
    rw [Shape.rowMajor_val_two, Shape.rowMajor_val_one]
    show b.val = b.val * 1 + 0; omega)

/-- The reference's spreading of a column over the row. -/
theorem rowsR_eq {α : Type} (r : (⟨1, ![240]⟩ : Shape).Idx → α) (b : Fin 240) (n : Fin 512) :
    broadcastInDim Cert.AttentionReferenceIdeal.S240x512 ![0, 1] Cert.AttentionReferenceIdeal.Gen.bcast_S240x1_S240x512_0_1
      (broadcastInDim Cert.AttentionReferenceIdeal.S240x1 ![0] Cert.AttentionReferenceIdeal.Gen.bcast_S240_S240x1_0 r) (ix2 b n)
      = r (ix1 b) := by
  refine (broadcastInDim_apply _ _ _ _ (ix2 b (0 : Fin 1)) fun a => by
    match a with
    | ⟨0, _⟩ => rfl
    | ⟨1, _⟩ => rfl).trans ?_
  exact broadcastInDim_apply _ _ _ _ (ix1 b) fun a => by
    match a with
    | ⟨0, _⟩ => rfl

/-- Setting the masked elements to zero changes nothing: they are zero already. -/
theorem zeroed_eq (v : IVec S240x512 1) (s : FVec Ideal S240x512 .f32) :
    select v (weights v s) (broadcast S240x512 (Scalar.ofBits .f32 0x00000000#32)) = weights v s := by
  funext i
  show Scalar.select (v i) (weights v s i) (Ideal.ofBits .f32 0x00000000#32) = weights v s i
  unfold Scalar.select
  split
  · rfl
  · next h =>
    rw [Ideal.ofBits_zero_f32]
    show (0 : EReal) = Ideal.exp ((if v i = 1 then s i else (Scalar.ofBits .f32 0xFF800000#32 : Ideal .f32)) - rows (top (masked v s)) i)
    rw [if_neg h, bot_eq]
    show (0 : EReal) = Ideal.exp ((⊥ : EReal) - _)
    rw [sub_eq_add_neg, EReal.bot_add]
    rfl

/-- The body's value of the mask `w` (as numbers) and the scores `s`. -/
theorem pay_eq (w s : FVec Ideal S240x512 .f32) :
    k0_pay1 w s = attention (cmpf .ogt w (broadcast S240x512 (Scalar.ofBits .f32 0x00000000#32))) s := by
  rw [Value.lay2_0_eq, rowsK_eq, rowsK_eq, shapeCast_self, shapeCast_self]
  exact congrArg (fun e => divf e (rows (total e))) (zeroed_eq _ s)

/-- The mask by length at row `b` and step `n`. -/
def on (x1 : IVec S240 32) : IVec S240x512 1 := fun i => IntOp.cmpi .sge (BitVec.ofNat 32 (i 1).val) (IntOp.subi 512#32 (x1 (ix1 (i 0))))

/-- The kernel's mask, compared with zero, is that. -/
theorem maskK_eq (x1 : IVec S240 32) :
    cmpf .ogt (transpose S240x512 [1, 0] (maskK x1) transposes_S512x240_S240x512_1_0) (broadcast S240x512 (Scalar.ofBits .f32 0x00000000#32))
      = on x1 := by
  funext i
  obtain ⟨b, n, rfl⟩ : ∃ (b : Fin 240) (n : Fin 512), i = ix2 b n := ⟨i 0, i 1, eq_ix2 i⟩
  have e1 : broadcastInDim S512x240 ![0, 1] bcast_S512x1_S512x240_0_1 (broadcastInDim S512x1 ![0] bcast_S512_S512x1_0 (iotaInDim S512 32 0)) (ix2 n b)
      = BitVec.ofNat 32 n.val := by
    refine (broadcastInDim_apply _ _ _ _ (ix2 n (0 : Fin 1)) fun a => by
      match a with
      | ⟨0, _⟩ => rfl
      | ⟨1, _⟩ => rfl).trans ?_
    exact (broadcastInDim_apply _ _ _ _ (ix1 n) fun a => by
      match a with
      | ⟨0, _⟩ => rfl).trans rfl
  have e2 : broadcastInDim S512x240 ![0, 1] bcast_S1x240_S512x240_0_1 (broadcastInDim S1x240 ![1] bcast_S240_S1x240_1
      (subi (broadcastInDim S240 ![] bcast_S_S240 (constantI S_ 32 512#32)) x1)) (ix2 n b) = IntOp.subi 512#32 (x1 (ix1 b)) := by
    refine (broadcastInDim_apply _ _ _ _ (ix2 (0 : Fin 1) b) fun a => by
      match a with
      | ⟨0, _⟩ => rfl
      | ⟨1, _⟩ => rfl).trans ?_
    exact (broadcastInDim_apply _ _ _ _ (ix1 b) fun a => by
      match a with
      | ⟨0, _⟩ => rfl).trans rfl
  have e3 : transpose S240x512 [1, 0] (maskK x1) transposes_S512x240_S240x512_1_0 (ix2 b n)
      = (((on x1 (ix2 b n)).toNat : ℝ) : EReal) := by
    refine (transpose_apply _ _ _ _ (ix2 n b) fun a => by
      match a with
      | ⟨0, _⟩ => rfl
      | ⟨1, _⟩ => rfl).trans ?_
    show (((IntOp.cmpi .sge _ _).toNat : ℝ) : EReal) = _
    rw [e1, e2]
    rfl
  show Ideal.cmp .ogt (transpose S240x512 [1, 0] (maskK x1) transposes_S512x240_S240x512_1_0 (ix2 b n)) (Ideal.ofBits .f32 0x00000000#32)
    = on x1 (ix2 b n)
  rw [e3, Ideal.ofBits_zero_f32]
  generalize on x1 (ix2 b n) = v
  have hv : v = 0#1 ∨ v = 1#1 := by
    have := v.isLt
    rcases (by omega : v.toNat = 0 ∨ v.toNat = 1) with h | h
    · exact .inl (BitVec.eq_of_toNat_eq h)
    · exact .inr (BitVec.eq_of_toNat_eq h)
  rcases hv with rfl | rfl <;> simp [Ideal.cmp]

/-- The reference's mask is that. -/
theorem maskR_eq (x1 : IVec Cert.AttentionReferenceIdeal.S240 32) :
    cmpi .sge (broadcastInDim Cert.AttentionReferenceIdeal.S240x512 ![0, 1] Cert.AttentionReferenceIdeal.Gen.bcast_S1x512_S240x512_0_1
        (broadcastInDim Cert.AttentionReferenceIdeal.S1x512 ![1] Cert.AttentionReferenceIdeal.Gen.bcast_S512_S1x512_1
          (iotaInDim Cert.AttentionReferenceIdeal.S512 32 0)))
      (broadcastInDim Cert.AttentionReferenceIdeal.S240x512 ![0, 1] Cert.AttentionReferenceIdeal.Gen.bcast_S240x1_S240x512_0_1
        (broadcastInDim Cert.AttentionReferenceIdeal.S240x1 ![0] Cert.AttentionReferenceIdeal.Gen.bcast_S240_S240x1_0
          (subi (broadcastInDim Cert.AttentionReferenceIdeal.S240 ![] Cert.AttentionReferenceIdeal.Gen.bcast_S_S240
            (constantI Cert.AttentionReferenceIdeal.S_ 32 512#32)) x1)))
      = on x1 := by
  funext i
  obtain ⟨b, n, rfl⟩ : ∃ (b : Fin 240) (n : Fin 512), i = ix2 b n := ⟨i 0, i 1, eq_ix2 i⟩
  show IntOp.cmpi .sge _ _ = _
  rw [rowsR_eq]
  refine congrArg₂ (IntOp.cmpi .sge) ?_ ?_
  · refine (broadcastInDim_apply _ _ _ _ (ix2 (0 : Fin 1) n) fun a => by
      match a with
      | ⟨0, _⟩ => rfl
      | ⟨1, _⟩ => rfl).trans ?_
    exact (broadcastInDim_apply _ _ _ _ (ix1 n) fun a => by
      match a with
      | ⟨0, _⟩ => rfl).trans rfl
  · exact congrArg (IntOp.subi · (x1 (ix1 b))) rfl

/-- The reference's maximum of a row, which starts from −∞, is the row's maximum. -/
theorem topR_eq (x : FVec Ideal S240x512 .f32) :
    maximumf (broadcastInDim Cert.AttentionReferenceIdeal.S240 ![] Cert.AttentionReferenceIdeal.Gen.bcast_S_S240
        (constant Cert.AttentionReferenceIdeal.S_ .f32 0xFF800000#32))
      (Host.reduce FloatOps.maximumf x (constant Cert.AttentionReferenceIdeal.S_ .f32 0xFF800000#32)
        Cert.AttentionReferenceIdeal.Gen.reducesTo_S240x512_S240_d1 Cert.AttentionReferenceIdeal.Gen.h_S_) = top x := by
  rw [hostReduce_maximumf_eq_multiReduction x 0xFF800000#32 _ _ reduces_S240x512_S240 (.inl rfl) rfl]
  funext i
  show max (Scalar.ofBits .f32 0xFF800000#32 : Ideal .f32) (top x i) = top x i
  rw [bot_eq]
  exact bot_sup_eq _

/-- The reference's sum of a row is the row's sum. -/
theorem totalR_eq (x : FVec Ideal S240x512 .f32) :
    Host.reduceAdd x (constant Cert.AttentionReferenceIdeal.S_ .f32 0x00000000#32)
        Cert.AttentionReferenceIdeal.Gen.reducesTo_S240x512_S240_d1 Cert.AttentionReferenceIdeal.Gen.h_S_ = total x :=
  (multiReduction_add_eq_hostReduceAdd x 0x00000000#32 reduces_S240x512_S240 (.inl rfl) rfl _ _ _ Ideal.ofBits_zero_f32).symm

/-- The reference's spreading of a column, whole. -/
theorem rowsR_fun (r : FVec Ideal S240 .f32) :
    broadcastInDim Cert.AttentionReferenceIdeal.S240x512 ![0, 1] Cert.AttentionReferenceIdeal.Gen.bcast_S240x1_S240x512_0_1
      (broadcastInDim Cert.AttentionReferenceIdeal.S240x1 ![0] Cert.AttentionReferenceIdeal.Gen.bcast_S240_S240x1_0 r) = rows r := by
  funext i
  obtain ⟨b, n, rfl⟩ : ∃ (b : Fin 240) (n : Fin 512), i = ix2 b n := ⟨i 0, i 1, eq_ix2 i⟩
  exact rowsR_eq r b n

/-- The reference's scores with −∞ where the mask is off. -/
theorem maskedR_eq (v : IVec S240x512 1) (s : FVec Ideal S240x512 .f32) :
    select v s (broadcastInDim Cert.AttentionReferenceIdeal.S240x512 ![] Cert.AttentionReferenceIdeal.Gen.bcast_S_S240x512
      (id (constant Cert.AttentionReferenceIdeal.S_ .f32 0xFF800000#32))) = masked v s := rfl

/-- The reference's run: its result is the softmax of the masked scores, and both arguments are unchanged. -/
theorem run_ref (m : (ℓ : Loc Cert.AttentionReferenceIdeal.nD Cert.AttentionReferenceIdeal.τ Cert.AttentionReferenceIdeal.sig) → Buf (Elt Ideal) ℓ)
    (ρ : Dev Cert.AttentionReferenceIdeal.nD → PrngReg) :
    θ_run Cert.AttentionReferenceIdeal.defs (onTc (τ := Cert.AttentionReferenceIdeal.τ) (Cert.AttentionReferenceIdeal.main (F := Ideal)))
      ⟨m, fun _ => 0, ρ⟩ fun r => ∀ c : Dev Cert.AttentionReferenceIdeal.nD,
      r.2.mem ((c.tc : Thread Cert.AttentionReferenceIdeal.nD Cert.AttentionReferenceIdeal.τ).loc Cert.AttentionReferenceIdeal.main_v21)
        = attention (on (m ((c.tc : Thread Cert.AttentionReferenceIdeal.nD Cert.AttentionReferenceIdeal.τ).loc Cert.AttentionReferenceIdeal.main_arg1)))
            (transpose S240x512 [1, 0] (shapeCast S512x240
              (m ((c.tc : Thread Cert.AttentionReferenceIdeal.nD Cert.AttentionReferenceIdeal.τ).loc Cert.AttentionReferenceIdeal.main_arg0))
              shapeCasts_S512x240x1_S512x240) transposes_S512x240_S240x512_1_0)
      ∧ r.2.mem ((c.tc : Thread Cert.AttentionReferenceIdeal.nD Cert.AttentionReferenceIdeal.τ).loc Cert.AttentionReferenceIdeal.main_arg0)
        = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1)
        = m ((c.tc : Thread Cert.AttentionReferenceIdeal.nD Cert.AttentionReferenceIdeal.τ).loc Cert.AttentionReferenceIdeal.main_arg1) :=
  (θ_run Cert.AttentionReferenceIdeal.defs _ _).mono
    (fun r h c => ⟨(h c).1.trans (by
      rw [maskR_eq, maskedR_eq, topR_eq, rowsR_fun, totalR_eq, rowsR_fun]
      rfl), (h c).2⟩)
    (Cert.AttentionReferenceIdeal.Value.run m ρ)

/-- The kernel's result is the softmax of the masked scores. -/
theorem result_eq (m : (ℓ : Loc nD τ sig) → Buf (Elt Ideal) ℓ) (c : Dev nD) :
    result m c = attention (on (m ((c.tc : Thread nD τ).loc main_arg1)))
      (transpose S240x512 [1, 0] (shapeCast S512x240 (m ((c.tc : Thread nD τ).loc main_arg0)) shapeCasts_S512x240x1_S512x240)
        transposes_S512x240_S240x512_1_0) := by
  show k0_pay1 _ _ = _
  rw [pay_eq, V_v11, V_v10, maskK_eq]

end Cert.AttentionIdeal.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstReferenceIdeal
public import proofs.«01_k».proof.Proof.Gen.FirstReferenceIdeal.Run
public import proofs.«01_k».proof.Proof.Gen.FirstReferenceIdeal.Step
public import proofs.«01_k».proof.Proof.Gen.FirstReferenceIdeal.StepRun
public import proofs.«01_k».proof.Proof.Agree
public import proofs.«01_k».proof.Proof.Gen.Attention
public import proofs.«01_k».proof.Proof.Gen.AttentionIdeal
public import proofs.«01_k».proof.Proof.Gen.AttentionReferenceIdeal
public import proofs.«01_k».proof.Proof.Gen.AttentionIdeal.Value
public import proofs.«01_k».proof.Proof.Gen.Attention.Frame
public import proofs.«01_k».proof.Proof.Gen.AttentionIdeal.Frame
public import proofs.«01_k».proof.Proof.Gen.AttentionReferenceIdeal.Run
public import proofs.«01_k».proof.Proof.First.Ids
public import proofs.«01_k».proof.Proof.FirstAgree
public import proofs.«01_k».proof.Proof.AttentionAgree
public import Idealize.ShloMosaic.Adequacy
public import Idealize.ShloMosaic.Init

@[expose] public section

noncomputable section

namespace Cert.Proof

open Idealize.ShloMosaic Idealize.SL.Sem Cert.Kernel

/-- The reference runs, leaves its arguments as they were and every semaphore counter at zero. -/
theorem frame_ri : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.StepRun.run_iter m ρ (Cert.ReferenceIdeal.RefValue.it m) (fun _ => rfl) (fun _ _ => rfl))

/-- From memories that agree on the arguments, the kernel and the reference end with the same result. -/
theorem algebraic : Cert.algebraic_KernelIdeal_ReferenceIdeal (hKernelIdeal := Cert.KernelIdeal.Gen.facts)
    (hReferenceIdeal := Cert.ReferenceIdeal.Gen.facts) := fun m ρ m' ρ' _ hm =>
  ⟨fun c => Cert.KernelIdeal.Fold.interest m c, Cert.KernelIdeal.Fold.run m ρ,
    (θ_run Cert.ReferenceIdeal.defs _ _).mono
      (fun r h c => by
        obtain ⟨h0, h1, h2, h3, h4, h5, h6, h7⟩ := hm c
        exact ⟨(h c).1.trans (Cert.KernelIdeal.Agree.result_eq m m' c h0 h1 h2 h3 h4 h5 h6 h7), (h c).2⟩)
      (Cert.ReferenceIdeal.StepRun.run_iter m' ρ' (Cert.ReferenceIdeal.RefValue.it m') (fun _ => rfl) (fun _ _ => rfl))⟩

/-- The ids lie in the table when the precondition holds of the arguments of the first call's program. -/
theorem ids_of_pre (m : (ℓ : Loc Cert.FirstIdeal.nD Cert.FirstIdeal.τ Cert.FirstIdeal.sig) → Buf (Elt Ideal) ℓ)
    (hp : Cert.Pre_FirstIdeal (hPre_ids_in_table := Cert.FirstIdeal.Ids.preFacts) m) (c : Dev Cert.FirstIdeal.nD) :
    Cert.FirstIdeal.Ids.InTable (F := Ideal) (m ((c.tc : Thread Cert.FirstIdeal.nD Cert.FirstIdeal.τ).loc Cert.FirstIdeal.main_arg2)) :=
  haveI := Cert.FirstIdeal.Ids.preFacts
  Cert.FirstIdeal.Ids.inTable_of_fn _ _ _ _ _ _ _ _ _ _ _ (hp c)

/-- The first call's program, when the ids lie in the table: it runs, leaves its arguments as they were and every semaphore
    counter at zero. -/
theorem frame_first : Cert.quiescent_First (hFirst := Cert.First.Gen.facts)
    (hPre_ids_in_table := Cert.FirstIdeal.Ids.preFacts) := fun m ρ hp =>
  haveI := Cert.FirstIdeal.Ids.preFacts
  Cert.First.Region.unchanged m ρ fun c =>
    Cert.First.Ids.inRange m c (Cert.First.Ids.inTable_of_fn _ _ _ _ _ _ _ _ _ _ _ (hp c))

/-- The same of the first call's idealization. -/
theorem frame_first_ideal : Cert.quiescent_FirstIdeal (hFirstIdeal := Cert.FirstIdeal.Gen.facts)
    (hPre_ids_in_table := Cert.FirstIdeal.Ids.preFacts) := fun m ρ hp =>
  Cert.FirstIdeal.Region.unchanged m ρ fun c => Cert.FirstIdeal.Ids.inRange m c (ids_of_pre m hp c)

/-- The first call's reference runs, leaves its arguments as they were and every semaphore counter at zero. -/
theorem frame_first_ri : Cert.quiescent_FirstReferenceIdeal
    (hFirstReferenceIdeal := Cert.FirstReferenceIdeal.Gen.facts) := fun m ρ _ =>
  (θ_run Cert.FirstReferenceIdeal.defs _ _).mono
    (fun r h => ⟨fun c => (h c).2, Idealize.ShloMosaic.sem_eq_zero_of_no_sems (by decide) r.2⟩)
    (Cert.FirstReferenceIdeal.StepRun.run_iter m ρ (Cert.FirstReferenceIdeal.RefValue.it m) (fun _ => rfl) (fun _ _ => rfl))

/-- From memories that agree on the arguments, with the ids in the table, the first call's program and its reference end
    with the same result. -/
theorem algebraic_first : Cert.algebraic_FirstIdeal_FirstReferenceIdeal (hFirstIdeal := Cert.FirstIdeal.Gen.facts)
    (hFirstReferenceIdeal := Cert.FirstReferenceIdeal.Gen.facts)
    (hPre_ids_in_table := Cert.FirstIdeal.Ids.preFacts) := fun m ρ m' ρ' hp hm =>
  have hx : ∀ c, Cert.FirstIdeal.Region.InRange m c := fun c => Cert.FirstIdeal.Ids.inRange m c (ids_of_pre m hp c)
  ⟨fun c => Cert.FirstIdeal.Final.interest m hx c, Cert.FirstIdeal.Final.run m ρ hx,
    (θ_run Cert.FirstReferenceIdeal.defs _ _).mono
      (fun r h c => by
        obtain ⟨h0, h1, h2, h3, h4, h5, h6, h7, h8, h9, h10⟩ := hm c
        exact ⟨(h c).1.trans (Cert.FirstIdeal.Agree.result_eq m hx m' c (ids_of_pre m hp c) h0 h1 h2 h3 h5 h6 h7 h8 h9 h10),
          (h c).2⟩)
      (Cert.FirstReferenceIdeal.StepRun.run_iter m' ρ' (Cert.FirstReferenceIdeal.RefValue.it m') (fun _ => rfl) (fun _ _ => rfl))⟩

/-- The softmax call's reference runs and leaves its arguments unchanged. -/
theorem frame_attention_ri : Cert.quiescent_AttentionReferenceIdeal (hAttentionReferenceIdeal := Cert.AttentionReferenceIdeal.Gen.facts) :=
  fun m ρ _ => (θ_run Cert.AttentionReferenceIdeal.defs _ _).mono
    (fun r h => ⟨fun c => (h c).2, Idealize.ShloMosaic.sem_eq_zero_of_no_sems (by decide) r.2⟩)
    (Cert.AttentionReferenceIdeal.Value.run m ρ)

/-- From memories that agree on the arguments, the softmax call and its reference end with equal results, element by element
    over the extended reals, and with their arguments unchanged. -/
theorem algebraic_attention : Cert.algebraic_AttentionIdeal_AttentionReferenceIdeal
    (hAttentionIdeal := Cert.AttentionIdeal.Gen.facts) (hAttentionReferenceIdeal := Cert.AttentionReferenceIdeal.Gen.facts) :=
  fun m ρ m' ρ' _ hm =>
    ⟨fun c => Cert.AttentionIdeal.Final.result m c, Cert.AttentionIdeal.Final.run m ρ,
      (θ_run Cert.AttentionReferenceIdeal.defs _ _).mono (fun r h c => by
        obtain ⟨h0, h1⟩ := hm c
        refine ⟨(h c).1.trans ?_, (h c).2⟩
        rw [h0, h1]
        exact (Cert.AttentionIdeal.Agree.result_eq m c).symm)
      (Cert.AttentionIdeal.Agree.run_ref m' ρ')⟩

/-- Every claim of the certificate. -/
theorem claim : Cert.Claim :=
  ⟨Cert.First.Gen.facts, Cert.FirstIdeal.Gen.facts, Cert.FirstReferenceIdeal.Gen.facts, Cert.Kernel.Gen.facts,
    Cert.KernelIdeal.Gen.facts, Cert.ReferenceIdeal.Gen.facts, Cert.Attention.Gen.facts, Cert.AttentionIdeal.Gen.facts,
    Cert.AttentionReferenceIdeal.Gen.facts, Cert.FirstIdeal.Ids.preFacts,
    frame_first, frame_first_ideal, frame_first_ri, fun m ρ _ => frame_first_ri m ρ trivial,
    fun m ρ _ => Cert.Kernel.Gen.frame m ρ, fun m ρ _ => Cert.KernelIdeal.Gen.frame m ρ, frame_ri,
    fun m ρ _ => Cert.Attention.Gen.frame m ρ, fun m ρ _ => Cert.AttentionIdeal.Gen.frame m ρ, frame_attention_ri,
    trivial, algebraic_first, trivial, algebraic, trivial, algebraic_attention⟩

end Cert.Proof

end
